-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_all_finite [hPre_all_finite : Cert.Pre_all_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_all_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_all_finite [hPre_all_finite : Cert.Pre_all_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_all_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_all_finite [hKernel2Ideal : Cert.Kernel2Ideal.Facts] [hPre_all_finite : Cert.Pre_all_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_all_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_all_finite [hReference2Ideal : Cert.Reference2Ideal.Facts] [hPre_all_finite : Cert.Pre_all_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_all_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6)
      ∧ r.2.mem ((c.tc : Thread Cert.Kernel16.nD Cert.Kernel16.τ).loc Cert.Kernel16.main_arg7) = m ((c.tc : Thread Cert.Kernel16.nD Cert.Kernel16.τ).loc Cert.Kernel16.main_arg7))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
      ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6)
      ∧ r.2.mem ((c.tc : Thread Cert.Reference16Ideal.nD Cert.Reference16Ideal.τ).loc Cert.Reference16Ideal.main_arg7) = m ((c.tc : Thread Cert.Reference16Ideal.nD Cert.Reference16Ideal.τ).loc Cert.Reference16Ideal.main_arg7))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6)
      ∧ r.2.mem ((c.tc : Thread Cert.Kernel17.nD Cert.Kernel17.τ).loc Cert.Kernel17.main_arg7) = m ((c.tc : Thread Cert.Kernel17.nD Cert.Kernel17.τ).loc Cert.Kernel17.main_arg7)
      ∧ r.2.mem ((c.tc : Thread Cert.Kernel17.nD Cert.Kernel17.τ).loc Cert.Kernel17.main_arg8) = m ((c.tc : Thread Cert.Kernel17.nD Cert.Kernel17.τ).loc Cert.Kernel17.main_arg8))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
      ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
      ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6)
      ∧ r.2.mem ((c.tc : Thread Cert.Reference17Ideal.nD Cert.Reference17Ideal.τ).loc Cert.Reference17Ideal.main_arg7) = m ((c.tc : Thread Cert.Reference17Ideal.nD Cert.Reference17Ideal.τ).loc Cert.Reference17Ideal.main_arg7)
      ∧ r.2.mem ((c.tc : Thread Cert.Reference17Ideal.nD Cert.Reference17Ideal.τ).loc Cert.Reference17Ideal.main_arg8) = m ((c.tc : Thread Cert.Reference17Ideal.nD Cert.Reference17Ideal.τ).loc Cert.Reference17Ideal.main_arg8))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def preserves_Kernel2_Kernel2Ideal : Prop :=
  True

def algebraic_Kernel2Ideal_Reference2Ideal_pre_all_finite [hKernel2Ideal : Cert.Kernel2Ideal.Facts] [hReference2Ideal : Cert.Reference2Ideal.Facts] [hPre_all_finite : Cert.Pre_all_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_all_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v16_0)) (v2 : (c : Dev Cert.Kernel2Ideal.nD) → Buf (Elt Ideal) ((c.tc : Thread Cert.Kernel2Ideal.nD Cert.Kernel2Ideal.τ).loc Cert.Kernel2Ideal.main_v16_1)) (v3 : (c : Dev Cert.Kernel2Ideal.nD) → Buf (Elt Ideal) ((c.tc : Thread Cert.Kernel2Ideal.nD Cert.Kernel2Ideal.τ).loc Cert.Kernel2Ideal.main_v16_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v16_0) = v1 c
          ∧ r.2.mem ((c.tc : Thread Cert.Kernel2Ideal.nD Cert.Kernel2Ideal.τ).loc Cert.Kernel2Ideal.main_v16_1) = v2 c
          ∧ r.2.mem ((c.tc : Thread Cert.Kernel2Ideal.nD Cert.Kernel2Ideal.τ).loc Cert.Kernel2Ideal.main_v16_2) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v59) = v0 c
          ∧ r.2.mem ((c.tc : Thread Cert.Reference2Ideal.nD Cert.Reference2Ideal.τ).loc Cert.Reference2Ideal.main_v60) = v1 c
          ∧ r.2.mem ((c.tc : Thread Cert.Reference2Ideal.nD Cert.Reference2Ideal.τ).loc Cert.Reference2Ideal.main_v61) = v2 c
          ∧ r.2.mem ((c.tc : Thread Cert.Reference2Ideal.nD Cert.Reference2Ideal.τ).loc Cert.Reference2Ideal.main_v62) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v5_0)) (v1 : (c : Dev Cert.Kernel7Ideal.nD) → Buf (Elt Ideal) ((c.tc : Thread Cert.Kernel7Ideal.nD Cert.Kernel7Ideal.τ).loc Cert.Kernel7Ideal.main_v5_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5_0) = v0 c
          ∧ r.2.mem ((c.tc : Thread Cert.Kernel7Ideal.nD Cert.Kernel7Ideal.τ).loc Cert.Kernel7Ideal.main_v5_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_v5) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v7_0)) (v1 : (c : Dev Cert.Kernel12Ideal.nD) → Buf (Elt Ideal) ((c.tc : Thread Cert.Kernel12Ideal.nD Cert.Kernel12Ideal.τ).loc Cert.Kernel12Ideal.main_v7_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v7_0) = v0 c
          ∧ r.2.mem ((c.tc : Thread Cert.Kernel12Ideal.nD Cert.Kernel12Ideal.τ).loc Cert.Kernel12Ideal.main_v7_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v42) = v0 c
          ∧ r.2.mem ((c.tc : Thread Cert.Reference12Ideal.nD Cert.Reference12Ideal.τ).loc Cert.Reference12Ideal.main_v43) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v6_0)) (v1 : (c : Dev Cert.Kernel13Ideal.nD) → Buf (Elt Ideal) ((c.tc : Thread Cert.Kernel13Ideal.nD Cert.Kernel13Ideal.τ).loc Cert.Kernel13Ideal.main_v6_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v6_0) = v0 c
          ∧ r.2.mem ((c.tc : Thread Cert.Kernel13Ideal.nD Cert.Kernel13Ideal.τ).loc Cert.Kernel13Ideal.main_v6_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v46) = v0 c
          ∧ r.2.mem ((c.tc : Thread Cert.Reference13Ideal.nD Cert.Reference13Ideal.τ).loc Cert.Reference13Ideal.main_v47) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v4)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v4) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v8)) (v1 : (c : Dev Cert.Kernel14Ideal.nD) → Buf (Elt Ideal) ((c.tc : Thread Cert.Kernel14Ideal.nD Cert.Kernel14Ideal.τ).loc Cert.Kernel14Ideal.main_v5_0)) (v2 : (c : Dev Cert.Kernel14Ideal.nD) → Buf (Elt Ideal) ((c.tc : Thread Cert.Kernel14Ideal.nD Cert.Kernel14Ideal.τ).loc Cert.Kernel14Ideal.main_v5_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v8) = v0 c
          ∧ r.2.mem ((c.tc : Thread Cert.Kernel14Ideal.nD Cert.Kernel14Ideal.τ).loc Cert.Kernel14Ideal.main_v5_0) = v1 c
          ∧ r.2.mem ((c.tc : Thread Cert.Kernel14Ideal.nD Cert.Kernel14Ideal.τ).loc Cert.Kernel14Ideal.main_v5_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v13) = v0 c
          ∧ r.2.mem ((c.tc : Thread Cert.Reference14Ideal.nD Cert.Reference14Ideal.τ).loc Cert.Reference14Ideal.main_v19) = v1 c
          ∧ r.2.mem ((c.tc : Thread Cert.Reference14Ideal.nD Cert.Reference14Ideal.τ).loc Cert.Reference14Ideal.main_v20) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)
      ∧ m' ((c.tc : Thread Cert.Reference16Ideal.nD Cert.Reference16Ideal.τ).loc Cert.Reference16Ideal.main_arg7) = m ((c.tc : Thread Cert.Kernel16Ideal.nD Cert.Kernel16Ideal.τ).loc Cert.Kernel16Ideal.main_arg7)) →
    ∃ (v0 : (c : Dev Cert.Kernel16Ideal.nD) → Buf (Elt Ideal) ((c.tc : Thread Cert.Kernel16Ideal.nD Cert.Kernel16Ideal.τ).loc Cert.Kernel16Ideal.main_v16)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v16) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
          ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v30) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6)
          ∧ r.2.mem ((c.tc : Thread Cert.Reference16Ideal.nD Cert.Reference16Ideal.τ).loc Cert.Reference16Ideal.main_arg7) = m' ((c.tc : Thread Cert.Reference16Ideal.nD Cert.Reference16Ideal.τ).loc Cert.Reference16Ideal.main_arg7))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)
      ∧ m' ((c.tc : Thread Cert.Reference17Ideal.nD Cert.Reference17Ideal.τ).loc Cert.Reference17Ideal.main_arg7) = m ((c.tc : Thread Cert.Kernel17Ideal.nD Cert.Kernel17Ideal.τ).loc Cert.Kernel17Ideal.main_arg7)
      ∧ m' ((c.tc : Thread Cert.Reference17Ideal.nD Cert.Reference17Ideal.τ).loc Cert.Reference17Ideal.main_arg8) = m ((c.tc : Thread Cert.Kernel17Ideal.nD Cert.Kernel17Ideal.τ).loc Cert.Kernel17Ideal.main_arg8)) →
    ∃ (v0 : (c : Dev Cert.Kernel17Ideal.nD) → Buf (Elt Ideal) ((c.tc : Thread Cert.Kernel17Ideal.nD Cert.Kernel17Ideal.τ).loc Cert.Kernel17Ideal.main_v17_0)) (v1 : (c : Dev Cert.Kernel17Ideal.nD) → Buf (Elt Ideal) ((c.tc : Thread Cert.Kernel17Ideal.nD Cert.Kernel17Ideal.τ).loc Cert.Kernel17Ideal.main_v17_1)) (v2 : (c : Dev Cert.Kernel17Ideal.nD) → Buf (Elt Ideal) ((c.tc : Thread Cert.Kernel17Ideal.nD Cert.Kernel17Ideal.τ).loc Cert.Kernel17Ideal.main_v17_2)) (v3 : (c : Dev Cert.Kernel17Ideal.nD) → Buf (Elt Ideal) ((c.tc : Thread Cert.Kernel17Ideal.nD Cert.Kernel17Ideal.τ).loc Cert.Kernel17Ideal.main_v17_3)) (v4 : (c : Dev Cert.Kernel17Ideal.nD) → Buf (Elt Ideal) ((c.tc : Thread Cert.Kernel17Ideal.nD Cert.Kernel17Ideal.τ).loc Cert.Kernel17Ideal.main_v17_7)) (v5 : (c : Dev Cert.Kernel17Ideal.nD) → Buf (Elt Ideal) ((c.tc : Thread Cert.Kernel17Ideal.nD Cert.Kernel17Ideal.τ).loc Cert.Kernel17Ideal.main_v17_8)) (v6 : (c : Dev Cert.Kernel17Ideal.nD) → Buf (Elt Ideal) ((c.tc : Thread Cert.Kernel17Ideal.nD Cert.Kernel17Ideal.τ).loc Cert.Kernel17Ideal.main_v17_9)) (v7 : (c : Dev Cert.Kernel17Ideal.nD) → Buf (Elt Ideal) ((c.tc : Thread Cert.Kernel17Ideal.nD Cert.Kernel17Ideal.τ).loc Cert.Kernel17Ideal.main_v17_10)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v17_0) = v0 c
          ∧ r.2.mem ((c.tc : Thread Cert.Kernel17Ideal.nD Cert.Kernel17Ideal.τ).loc Cert.Kernel17Ideal.main_v17_1) = v1 c
          ∧ r.2.mem ((c.tc : Thread Cert.Kernel17Ideal.nD Cert.Kernel17Ideal.τ).loc Cert.Kernel17Ideal.main_v17_2) = v2 c
          ∧ r.2.mem ((c.tc : Thread Cert.Kernel17Ideal.nD Cert.Kernel17Ideal.τ).loc Cert.Kernel17Ideal.main_v17_3) = v3 c
          ∧ r.2.mem ((c.tc : Thread Cert.Kernel17Ideal.nD Cert.Kernel17Ideal.τ).loc Cert.Kernel17Ideal.main_v17_7) = v4 c
          ∧ r.2.mem ((c.tc : Thread Cert.Kernel17Ideal.nD Cert.Kernel17Ideal.τ).loc Cert.Kernel17Ideal.main_v17_8) = v5 c
          ∧ r.2.mem ((c.tc : Thread Cert.Kernel17Ideal.nD Cert.Kernel17Ideal.τ).loc Cert.Kernel17Ideal.main_v17_9) = v6 c
          ∧ r.2.mem ((c.tc : Thread Cert.Kernel17Ideal.nD Cert.Kernel17Ideal.τ).loc Cert.Kernel17Ideal.main_v17_10) = v7 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
          ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
          ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v68) = v0 c
          ∧ r.2.mem ((c.tc : Thread Cert.Reference17Ideal.nD Cert.Reference17Ideal.τ).loc Cert.Reference17Ideal.main_v69) = v1 c
          ∧ r.2.mem ((c.tc : Thread Cert.Reference17Ideal.nD Cert.Reference17Ideal.τ).loc Cert.Reference17Ideal.main_v70) = v2 c
          ∧ r.2.mem ((c.tc : Thread Cert.Reference17Ideal.nD Cert.Reference17Ideal.τ).loc Cert.Reference17Ideal.main_v71) = v3 c
          ∧ r.2.mem ((c.tc : Thread Cert.Reference17Ideal.nD Cert.Reference17Ideal.τ).loc Cert.Reference17Ideal.main_v63) = v4 c
          ∧ r.2.mem ((c.tc : Thread Cert.Reference17Ideal.nD Cert.Reference17Ideal.τ).loc Cert.Reference17Ideal.main_v65) = v5 c
          ∧ r.2.mem ((c.tc : Thread Cert.Reference17Ideal.nD Cert.Reference17Ideal.τ).loc Cert.Reference17Ideal.main_v67) = v6 c
          ∧ r.2.mem ((c.tc : Thread Cert.Reference17Ideal.nD Cert.Reference17Ideal.τ).loc Cert.Reference17Ideal.main_v72) = v7 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6)
          ∧ r.2.mem ((c.tc : Thread Cert.Reference17Ideal.nD Cert.Reference17Ideal.τ).loc Cert.Reference17Ideal.main_arg7) = m' ((c.tc : Thread Cert.Reference17Ideal.nD Cert.Reference17Ideal.τ).loc Cert.Reference17Ideal.main_arg7)
          ∧ r.2.mem ((c.tc : Thread Cert.Reference17Ideal.nD Cert.Reference17Ideal.τ).loc Cert.Reference17Ideal.main_arg8) = m' ((c.tc : Thread Cert.Reference17Ideal.nD Cert.Reference17Ideal.τ).loc Cert.Reference17Ideal.main_arg8))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v15) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel15 : Cert.Kernel15.Facts) (hKernel15Ideal : Cert.Kernel15Ideal.Facts) (hReference15Ideal : Cert.Reference15Ideal.Facts) (hKernel14 : Cert.Kernel14.Facts) (hKernel14Ideal : Cert.Kernel14Ideal.Facts) (hReference14Ideal : Cert.Reference14Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_all_finite : Cert.Pre_all_finite.Facts),
    quiescent_Kernel2 (hKernel2 := hKernel2)
    ∧ quiescent_Kernel2Ideal (hKernel2Ideal := hKernel2Ideal)
    ∧ quiescent_Kernel2Ideal_pre_all_finite (hKernel2Ideal := hKernel2Ideal) (hPre_all_finite := hPre_all_finite)
    ∧ quiescent_Reference2Ideal (hReference2Ideal := hReference2Ideal)
    ∧ quiescent_Reference2Ideal_pre_all_finite (hReference2Ideal := hReference2Ideal) (hPre_all_finite := hPre_all_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ preserves_Kernel2_Kernel2Ideal
    ∧ algebraic_Kernel2Ideal_Reference2Ideal_pre_all_finite (hKernel2Ideal := hKernel2Ideal) (hReference2Ideal := hReference2Ideal) (hPre_all_finite := hPre_all_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel15_Kernel15Ideal
    ∧ algebraic_Kernel15Ideal_Reference15Ideal (hKernel15Ideal := hKernel15Ideal) (hReference15Ideal := hReference15Ideal)
    ∧ preserves_Kernel14_Kernel14Ideal
    ∧ algebraic_Kernel14Ideal_Reference14Ideal (hKernel14Ideal := hKernel14Ideal) (hReference14Ideal := hReference14Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
-- ==== Pre_all_finite.lean ====
abbrev S1x4096x4x128 : Shape := ⟨4, ![1, 4096, 4, 128]⟩
abbrev S1x256x4x128 : Shape := ⟨4, ![1, 256, 4, 128]⟩
abbrev S1x4096x512 : Shape := ⟨3, ![1, 4096, 512]⟩
abbrev S_ : Shape := ⟨0, ![]⟩

class Facts : Prop where
  bcast_S_S1x4096x4x128 : S_.BroadcastsInDim S1x4096x4x128 (![] : Fin 0 → Fin S1x4096x4x128.rank)
  reducesTo_S1x4096x4x128_S_d0_1_2_3 : S1x4096x4x128.ReducesTo [0, 1, 2, 3] S_
  h_S_ : 0 < S_.numel
  bcast_S_S1x256x4x128 : S_.BroadcastsInDim S1x256x4x128 (![] : Fin 0 → Fin S1x256x4x128.rank)
  reducesTo_S1x256x4x128_S_d0_1_2_3 : S1x256x4x128.ReducesTo [0, 1, 2, 3] S_
  bcast_S_S1x4096x512 : S_.BroadcastsInDim S1x4096x512 (![] : Fin 0 → Fin S1x4096x512.rank)
  reducesTo_S1x4096x512_S_d0_1_2 : S1x4096x512.ReducesTo [0, 1, 2] S_

variable [Facts]

def fn_part1 {F : FTy → Type} [FloatOps F] (main_v13 : IVec S_ 1) (main_v16 : IVec S1x4096x512 1) : IVec S_ 1 :=
  let main_c_5 : IVec S_ 1 := constantI S_ 1 1#1
  let main_v17 : IVec S_ 1 := (fun x v => Host.reduce IntOp.andi x v reducesTo_S1x4096x512_S_d0_1_2 h_S_) main_v16 main_c_5
  let main_v18 : IVec S_ 1 := andi main_v13 main_v17
  main_v18

def fn {F : FTy → Type} [FloatOps F] (main_arg0 : FVec F S1x4096x4x128 .f32) (main_arg1 : FVec F S1x256x4x128 .f32) (main_arg2 : FVec F S1x256x4x128 .f32) (main_arg3 : FVec F S1x4096x512 .f32) : IVec S_ 1 :=
  let main_v0 : FVec F S1x4096x4x128 .f32 := Host.absf main_arg0
  let main_cst : FVec F S_ .f32 := constant S_ .f32 0x7F800000#32
  let main_v1 : FVec F S1x4096x4x128 .f32 := broadcastInDim S1x4096x4x128 ![] bcast_S_S1x4096x4x128 main_cst
  let main_v2 : IVec S1x4096x4x128 1 := cmpf .olt main_v0 main_v1
  let main_c : IVec S_ 1 := constantI S_ 1 1#1
  let main_v3 : IVec S_ 1 := (fun x v => Host.reduce IntOp.andi x v reducesTo_S1x4096x4x128_S_d0_1_2_3 h_S_) main_v2 main_c
  let main_v4 : FVec F S1x256x4x128 .f32 := Host.absf main_arg1
  let main_cst_0 : FVec F S_ .f32 := constant S_ .f32 0x7F800000#32
  let main_v5 : FVec F S1x256x4x128 .f32 := broadcastInDim S1x256x4x128 ![] bcast_S_S1x256x4x128 main_cst_0
  let main_v6 : IVec S1x256x4x128 1 := cmpf .olt main_v4 main_v5
  let main_c_1 : IVec S_ 1 := constantI S_ 1 1#1
  let main_v7 : IVec S_ 1 := (fun x v => Host.reduce IntOp.andi x v reducesTo_S1x256x4x128_S_d0_1_2_3 h_S_) main_v6 main_c_1
  let main_v8 : IVec S_ 1 := andi main_v3 main_v7
  let main_v9 : FVec F S1x256x4x128 .f32 := Host.absf main_arg2
  let main_cst_2 : FVec F S_ .f32 := constant S_ .f32 0x7F800000#32
  let main_v10 : FVec F S1x256x4x128 .f32 := broadcastInDim S1x256x4x128 ![] bcast_S_S1x256x4x128 main_cst_2
  let main_v11 : IVec S1x256x4x128 1 := cmpf .olt main_v9 main_v10
  let main_c_3 : IVec S_ 1 := constantI S_ 1 1#1
  let main_v12 : IVec S_ 1 := (fun x v => Host.reduce IntOp.andi x v reducesTo_S1x256x4x128_S_d0_1_2_3 h_S_) main_v11 main_c_3
  let main_v13 : IVec S_ 1 := andi main_v8 main_v12
  let main_v14 : FVec F S1x4096x512 .f32 := Host.absf main_arg3
  let main_cst_4 : FVec F S_ .f32 := constant S_ .f32 0x7F800000#32
  let main_v15 : FVec F S1x4096x512 .f32 := broadcastInDim S1x4096x512 ![] bcast_S_S1x4096x512 main_cst_4
  let main_v16 : IVec S1x4096x512 1 := cmpf .olt main_v14 main_v15
  fn_part1 (F := F) main_v13 main_v16
-- ==== Kernel2.lean ====
abbrev S1x4096x4x128 : Shape := ⟨4, ![1, 4096, 4, 128]⟩
abbrev S1x256x4x128 : Shape := ⟨4, ![1, 256, 4, 128]⟩
abbrev S1x4096x512 : Shape := ⟨3, ![1, 4096, 512]⟩
abbrev S4096x512 : Shape := ⟨2, ![4096, 512]⟩
abbrev S256x512 : Shape := ⟨2, ![256, 512]⟩
abbrev S4x4096x128 : Shape := ⟨3, ![4, 4096, 128]⟩
abbrev S4096x128 : Shape := ⟨2, ![4096, 128]⟩
abbrev S256x128 : Shape := ⟨2, ![256, 128]⟩
abbrev S1x4096x128 : Shape := ⟨3, ![1, 4096, 128]⟩
abbrev S4096x256 : Shape := ⟨2, ![4096, 256]⟩
abbrev S4096 : Shape := ⟨1, ![4096]⟩
abbrev S4096x1 : Shape := ⟨2, ![4096, 1]⟩
abbrev S4096x4x128 : Shape := ⟨3, ![4096, 4, 128]⟩
abbrev S_ : Shape := ⟨0, ![]⟩
abbrev S4096x4 : Shape := ⟨2, ![4096, 4]⟩
abbrev S4x4096 : Shape := ⟨2, ![4, 4096]⟩
abbrev S4x4096x1 : Shape := ⟨3, ![4, 4096, 1]⟩

abbrev nBuf : Space → Nat
  | .hbm => 25
  | .vmem => 28
  | .smem => 0
  | _ => 0

abbrev bufTy : (tb : Table) → Fin (tcTables nBuf tb) → BufTy
  | .hbm, ⟨0, _⟩ => ⟨S1x4096x4x128, .f32⟩
  | .hbm, ⟨1, _⟩ => ⟨S1x256x4x128, .f32⟩
  | .hbm, ⟨2, _⟩ => ⟨S1x256x4x128, .f32⟩
  | .hbm, ⟨3, _⟩ => ⟨S1x4096x512, .f32⟩
  | .hbm, ⟨4, _⟩ => ⟨S4096x512, .f32⟩
  | .hbm, ⟨5, _⟩ => ⟨S4096x512, .bf16⟩
  | .hbm, ⟨6, _⟩ => ⟨S256x512, .f32⟩
  | .hbm, ⟨7, _⟩ => ⟨S256x512, .bf16⟩
  | .hbm, ⟨8, _⟩ => ⟨S256x512, .f32⟩
  | .hbm, ⟨9, _⟩ => ⟨S256x512, .bf16⟩
  | .hbm, ⟨10, _⟩ => ⟨S4096x512, .f32⟩
  | .hbm, ⟨11, _⟩ => ⟨S4096x512, .bf16⟩
  | .hbm, ⟨12, _⟩ => ⟨S4x4096x128, .f32⟩
  | .hbm, ⟨13, _⟩ => ⟨S4096x512, .f32⟩
  | .hbm, ⟨14, _⟩ => ⟨S4096x512, .f32⟩
  | .hbm, ⟨15, _⟩ => ⟨S4096x4x128, .f32⟩
  | .hbm, ⟨16, _⟩ => ⟨S_, .f32⟩
  | .hbm, ⟨17, _⟩ => ⟨S4096x4, .f32⟩
  | .hbm, ⟨18, _⟩ => ⟨S4x4096, .f32⟩
  | .hbm, ⟨19, _⟩ => ⟨S4x4096x1, .f32⟩
  | .hbm, ⟨20, _⟩ => ⟨S4x4096x128, .f32⟩
  | .hbm, ⟨21, _⟩ => ⟨S4096x512, .bf16⟩
  | .hbm, ⟨22, _⟩ => ⟨S4096x512, .f32⟩
  | .hbm, ⟨23, _⟩ => ⟨S256x512, .f32⟩
  | .hbm, ⟨24, _⟩ => ⟨S256x512, .f32⟩
  | .local _ .vmem, ⟨0, _⟩ => ⟨S4096x128, .bf16⟩
  | .local _ .vmem, ⟨1, _⟩ => ⟨S4096x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S4096x128, .bf16⟩
  | .local _ .vmem, ⟨7, _⟩ => ⟨S4096x128, .bf16⟩
  | .local _ .vmem, ⟨8, _⟩ => ⟨S1x4096x128, .f32⟩
  | .local _ .vmem, ⟨9, _⟩ => ⟨S1x4096x128, .f32⟩
  | .local _ .vmem, ⟨10, _⟩ => ⟨S4096x128, .bf16⟩
  | .local _ .vmem, ⟨11, _⟩ => ⟨S4096x128, .bf16⟩
  | .local _ .vmem, ⟨12, _⟩ => ⟨S256x128, .bf16⟩
  | .local _ .vmem, ⟨13, _⟩ => ⟨S256x128, .bf16⟩
  | .local _ .vmem, ⟨14, _⟩ => ⟨S256x128, .bf16⟩
  | .local _ .vmem, ⟨15, _⟩ => ⟨S256x128, .bf16⟩
  | .local _ .vmem, ⟨16, _⟩ => ⟨S4096x128, .bf16⟩
  | .local _ .vmem, ⟨17, _⟩ => ⟨S4096x128, .bf16⟩
  | .local _ .vmem, ⟨18, _⟩ => ⟨S1x4096x128, .f32⟩
  | .local _ .vmem, ⟨19, _⟩ => ⟨S1x4096x128, .f32⟩
  | .local _ .vmem, ⟨20, _⟩ => ⟨S1x4096x128, .f32⟩
  | .local _ .vmem, ⟨21, _⟩ => ⟨S1x4096x128, .f32⟩
  | .local _ .vmem, ⟨22, _⟩ => ⟨S4096x128, .f32⟩
  | .local _ .vmem, ⟨23, _⟩ => ⟨S4096x128, .f32⟩
  | .local _ .vmem, ⟨24, _⟩ => ⟨S256x128, .f32⟩
  | .local _ .vmem, ⟨25, _⟩ => ⟨S256x128, .f32⟩
  | .local _ .vmem, ⟨26, _⟩ => ⟨S256x128, .f32⟩
  | .local _ .vmem, ⟨27, _⟩ => ⟨S256x128, .f32⟩
  | _, _ => ⟨S1x4096x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16_0 : Ref sig .tc := ⟨.hbm, 22, rfl⟩
abbrev main_v16_1 : Ref sig .tc := ⟨.hbm, 23, rfl⟩
abbrev main_v16_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S4096x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S256x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S4096x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x4096x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x4096x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S4096x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S256x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S256x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]
-- ==== Reference2Ideal.lean ====
abbrev S1x4096x4x128 : Shape := ⟨4, ![1, 4096, 4, 128]⟩
abbrev S1x256x4x128 : Shape := ⟨4, ![1, 256, 4, 128]⟩
abbrev S1x4096x512 : Shape := ⟨3, ![1, 4096, 512]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x128x4096 : Shape := ⟨4, ![1, 4, 128, 4096]⟩
abbrev S1x4x128x256 : Shape := ⟨4, ![1, 4, 128, 256]⟩
abbrev S4x4096 : Shape := ⟨2, ![4, 4096]⟩
abbrev S1x4x256x128 : Shape := ⟨4, ![1, 4, 256, 128]⟩
abbrev S1x4x4096x128 : Shape := ⟨4, ![1, 4, 4096, 128]⟩
abbrev S4096x512 : Shape := ⟨2, ![4096, 512]⟩
abbrev S256x512 : Shape := ⟨2, ![256, 512]⟩

abbrev nBuf : Space → Nat
  | .hbm => 81
  | .vmem => 0
  | .smem => 0
  | _ => 0

abbrev bufTy : (tb : Table) → Fin (tcTables nBuf tb) → BufTy
  | .hbm, ⟨0, _⟩ => ⟨S1x4096x4x128, .f32⟩
  | .hbm, ⟨1, _⟩ => ⟨S1x256x4x128, .f32⟩
  | .hbm, ⟨2, _⟩ => ⟨S1x256x4x128, .f32⟩
  | .hbm, ⟨3, _⟩ => ⟨S1x4096x512, .f32⟩
  | .hbm, ⟨4, _⟩ => ⟨S1x4x4096x256, .f32⟩
  | .hbm, ⟨5, _⟩ => ⟨S_, .f32⟩
  | .hbm, ⟨6, _⟩ => ⟨S1x4x4096x256, .f32⟩
  | .hbm, ⟨7, _⟩ => ⟨S1x4x4096x256, .f32⟩
  | .hbm, ⟨8, _⟩ => ⟨S_, .f32⟩
  | .hbm, ⟨9, _⟩ => ⟨S1x4x4096, .f32⟩
  | .hbm, ⟨10, _⟩ => ⟨S1x4x4096x1, .f32⟩
  | .hbm, ⟨11, _⟩ => ⟨S1x4x4096x256, .f32⟩
  | .hbm, ⟨12, _⟩ => ⟨S1x4x4096x256, .i1⟩
  | .hbm, ⟨13, _⟩ => ⟨S1x4x4096x256, .f32⟩
  | .hbm, ⟨14, _⟩ => ⟨S_, .f32⟩
  | .hbm, ⟨15, _⟩ => ⟨S1x4x4096, .f32⟩
  | .hbm, ⟨16, _⟩ => ⟨S_, .f32⟩
  | .hbm, ⟨17, _⟩ => ⟨S1x4x4096, .f32⟩
  | .hbm, ⟨18, _⟩ => ⟨S1x4x4096, .f32⟩
  | .hbm, ⟨19, _⟩ => ⟨S_, .f32⟩
  | .hbm, ⟨20, _⟩ => ⟨S1x4x4096, .f32⟩
  | .hbm, ⟨21, _⟩ => ⟨S1x4x4096, .i1⟩
  | .hbm, ⟨22, _⟩ => ⟨S_, .f32⟩
  | .hbm, ⟨23, _⟩ => ⟨S1x4x4096, .f32⟩
  | .hbm, ⟨24, _⟩ => ⟨S1x4x4096, .i1⟩
  | .hbm, ⟨25, _⟩ => ⟨S_, .f32⟩
  | .hbm, ⟨26, _⟩ => ⟨S1x4x4096, .f32⟩
  | .hbm, ⟨27, _⟩ => ⟨S_, .f32⟩
  | .hbm, ⟨28, _⟩ => ⟨S1x4x4096, .f32⟩
  | .hbm, ⟨29, _⟩ => ⟨S_, .f32⟩
  | .hbm, ⟨30, _⟩ => ⟨S1x4x4096, .f32⟩
  | .hbm, ⟨31, _⟩ => ⟨S1x4x4096, .f32⟩
  | .hbm, ⟨32, _⟩ => ⟨S1x4x4096, .f32⟩
  | .hbm, ⟨33, _⟩ => ⟨S1x4x4096x1, .f32⟩
  | .hbm, ⟨34, _⟩ => ⟨S1x4x4096x256, .f32⟩
  | .hbm, ⟨35, _⟩ => ⟨S1x4x4096x256, .f32⟩
  | .hbm, ⟨36, _⟩ => ⟨S1x4x4096x256, .f32⟩
  | .hbm, ⟨37, _⟩ => ⟨S_, .f32⟩
  | .hbm, ⟨38, _⟩ => ⟨S1x4x4096, .f32⟩
  | .hbm, ⟨39, _⟩ => ⟨S1x4x4096x1, .f32⟩
  | .hbm, ⟨40, _⟩ => ⟨S1x4x4096x256, .f32⟩
  | .hbm, ⟨41, _⟩ => ⟨S1x4x4096x256, .f32⟩
  | .hbm, ⟨42, _⟩ => ⟨S1x4x4096x1, .f32⟩
  | .hbm, ⟨43, _⟩ => ⟨S_, .f32⟩
  | .hbm, ⟨44, _⟩ => ⟨S1x4x4096x1, .f32⟩
  | .hbm, ⟨45, _⟩ => ⟨S1x4x4096x1, .f32⟩
  | .hbm, ⟨46, _⟩ => ⟨S1x4x128x4096, .f32⟩
  | .hbm, ⟨47, _⟩ => ⟨S1x4096x4x128, .f32⟩
  | .hbm, ⟨48, _⟩ => ⟨S1x4096x512, .f32⟩
  | .hbm, ⟨49, _⟩ => ⟨S1x4096x4x128, .f32⟩
  | .hbm, ⟨50, _⟩ => ⟨S1x4x128x4096, .f32⟩
  | .hbm, ⟨51, _⟩ => ⟨S1x4x4096x256, .f32⟩
  | .hbm, ⟨52, _⟩ => ⟨S1x4x128x256, .f32⟩
  | .hbm, ⟨53, _⟩ => ⟨S1x256x4x128, .f32⟩
  | .hbm, ⟨54, _⟩ => ⟨S1x4x4096x256, .f32⟩
  | .hbm, ⟨55, _⟩ => ⟨S1x4x4096x256, .f32⟩
  | .hbm, ⟨56, _⟩ => ⟨S1x4x4096x256, .f32⟩
  | .hbm, ⟨57, _⟩ => ⟨S_, .f32⟩
  | .hbm, ⟨58, _⟩ => ⟨S1x4x4096, .f32⟩
  | .hbm, ⟨59, _⟩ => ⟨S1x4x4096x1, .f32⟩
  | .hbm, ⟨60, _⟩ => ⟨S1x4x4096x1, .f32⟩
  | .hbm, ⟨61, _⟩ => ⟨S1x4x4096x256, .f32⟩
  | .hbm, ⟨62, _⟩ => ⟨S1x4x4096x256, .f32⟩
  | .hbm, ⟨63, _⟩ => ⟨S_, .f32⟩
  | .hbm, ⟨64, _⟩ => ⟨S4x4096, .f32⟩
  | .hbm, ⟨65, _⟩ => ⟨S1x4x4096, .f32⟩
  | .hbm, ⟨66, _⟩ => ⟨S1x4x4096x256, .f32⟩
  | .hbm, ⟨67, _⟩ => ⟨S1x4x4096x256, .f32⟩
  | .hbm, ⟨68, _⟩ => ⟨S1x4x4096x256, .f32⟩
  | .hbm, ⟨69, _⟩ => ⟨S_, .f32⟩
  | .hbm, ⟨70, _⟩ => ⟨S1x4x4096x256, .f32⟩
  | .hbm, ⟨71, _⟩ => ⟨S1x4x4096x256, .f32⟩
  | .hbm, ⟨72, _⟩ => ⟨S1x4x256x128, .f32⟩
  | .hbm, ⟨73, _⟩ => ⟨S1x256x4x128, .f32⟩
  | .hbm, ⟨74, _⟩ => ⟨S1x4x4096x128, .f32⟩
  | .hbm, ⟨75, _⟩ => ⟨S1x4096x4x128, .f32⟩
  | .hbm, ⟨76, _⟩ => ⟨S4096x512, .f32⟩
  | .hbm, ⟨77, _⟩ => ⟨S4096x512, .bf16⟩
  | .hbm, ⟨78, _⟩ => ⟨S4096x512, .f32⟩
  | .hbm, ⟨79, _⟩ => ⟨S256x512, .f32⟩
  | .hbm, ⟨80, _⟩ => ⟨S256x512, .f32⟩
  | _, _ => ⟨S1x4096x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_10 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_11 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_12 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩

abbrev nD : Nat := 1
abbrev τ : Topo := Topo.v7x

variable {F : FTy → Type} [FloatOps F]
-- ==== Kernel3.lean ====
abbrev S1x4096x4096 : Shape := ⟨3, ![1, 4096, 4096]⟩
abbrev S4096x1024 : Shape := ⟨2, ![4096, 1024]⟩
abbrev S1x4096x1024 : Shape := ⟨3, ![1, 4096, 1024]⟩
abbrev S4096x4096 : Shape := ⟨2, ![4096, 4096]⟩
abbrev S1024x1024 : Shape := ⟨2, ![1024, 1024]⟩

abbrev nBuf : Space → Nat
  | .hbm => 9
  | .vmem => 8
  | .smem => 0
  | _ => 0

abbrev bufTy : (tb : Table) → Fin (tcTables nBuf tb) → BufTy
  | .hbm, ⟨0, _⟩ => ⟨S1x4096x4096, .f32⟩
  | .hbm, ⟨1, _⟩ => ⟨S4096x1024, .f32⟩
  | .hbm, ⟨2, _⟩ => ⟨S1x4096x1024, .f32⟩
  | .hbm, ⟨3, _⟩ => ⟨S4096x4096, .f32⟩
  | .hbm, ⟨4, _⟩ => ⟨S4096x4096, .bf16⟩
  | .hbm, ⟨5, _⟩ => ⟨S4096x1024, .bf16⟩
  | .hbm, ⟨6, _⟩ => ⟨S4096x1024, .f32⟩
  | .hbm, ⟨7, _⟩ => ⟨S4096x1024, .bf16⟩
  | .hbm, ⟨8, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S1x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S1x4096x4096 : Shape := ⟨3, ![1, 4096, 4096]⟩
abbrev S4096x1024 : Shape := ⟨2, ![4096, 1024]⟩
abbrev S1x4096x1024 : Shape := ⟨3, ![1, 4096, 1024]⟩
abbrev S4096x4096 : Shape := ⟨2, ![4096, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S1x4096x4096, .f32⟩
  | .hbm, ⟨1, _⟩ => ⟨S4096x1024, .f32⟩
  | .hbm, ⟨2, _⟩ => ⟨S1x4096x1024, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .i1⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x1024, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .bf16⟩
  | _, _ => ⟨S1x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel4.lean ====
abbrev S1x4096x4096 : Shape := ⟨3, ![1, 4096, 4096]⟩
abbrev S1x4096x1024 : Shape := ⟨3, ![1, 4096, 1024]⟩
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x4096x4096, .f32⟩
  | .hbm, ⟨1, _⟩ => ⟨S1x4096x1024, .f32⟩
  | .hbm, ⟨2, _⟩ => ⟨S4096x4096, .f32⟩
  | .hbm, ⟨3, _⟩ => ⟨S4096x4096, .bf16⟩
  | .hbm, ⟨4, _⟩ => ⟨S4096x1024, .f32⟩
  | .hbm, ⟨5, _⟩ => ⟨S4096x1024, .bf16⟩
  | .hbm, ⟨6, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S1x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference4Ideal.lean ====
abbrev S1x4096x4096 : Shape := ⟨3, ![1, 4096, 4096]⟩
abbrev S1x4096x1024 : Shape := ⟨3, ![1, 4096, 1024]⟩
abbrev S_ : Shape := ⟨0, ![]⟩
abbrev S4096x1024 : Shape := ⟨2, ![4096, 1024]⟩
abbrev S4096x4096 : Shape := ⟨2, ![4096, 4096]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S1x4096x4096, .f32⟩
  | .hbm, ⟨1, _⟩ => ⟨S1x4096x1024, .f32⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x1024, .f32⟩
  | _, _ => ⟨S1x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S1x4096x1024 : Shape := ⟨3, ![1, 4096, 1024]⟩
abbrev S1x4096x4096 : Shape := ⟨3, ![1, 4096, 4096]⟩
abbrev S4096x1024 : Shape := ⟨2, ![4096, 1024]⟩
abbrev S4096x4096 : Shape := ⟨2, ![4096, 4096]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x4096x1024, .f32⟩
  | .hbm, ⟨1, _⟩ => ⟨S1x4096x4096, .f32⟩
  | .hbm, ⟨2, _⟩ => ⟨S4096x1024, .f32⟩
  | .hbm, ⟨3, _⟩ => ⟨S4096x1024, .bf16⟩
  | .hbm, ⟨4, _⟩ => ⟨S4096x4096, .f32⟩
  | .hbm, ⟨5, _⟩ => ⟨S4096x4096, .bf16⟩
  | .hbm, ⟨6, _⟩ => ⟨S4x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference5Ideal.lean ====
abbrev S1x4096x1024 : Shape := ⟨3, ![1, 4096, 1024]⟩
abbrev S1x4096x4096 : Shape := ⟨3, ![1, 4096, 4096]⟩
abbrev S_ : Shape := ⟨0, ![]⟩
abbrev S1024x4096 : Shape := ⟨2, ![1024, 4096]⟩
abbrev S4096x1024 : Shape := ⟨2, ![4096, 1024]⟩
abbrev S4096x4096 : Shape := ⟨2, ![4096, 4096]⟩
abbrev S1024x4x1024 : Shape := ⟨3, ![1024, 4, 1024]⟩
abbrev S4x1024x1024 : Shape := ⟨3, ![4, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x4096, .f32⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x4x1024, .f32⟩
  | .hbm, ⟨10, _⟩ => ⟨S4x1024x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S1x4096x1024 : Shape := ⟨3, ![1, 4096, 1024]⟩
abbrev S1x4096x3072 : Shape := ⟨3, ![1, 4096, 3072]⟩
abbrev S4096x1024 : Shape := ⟨2, ![4096, 1024]⟩
abbrev S4096x3072 : Shape := ⟨2, ![4096, 3072]⟩
abbrev S1024x3072 : Shape := ⟨2, ![1024, 3072]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x4096x1024, .f32⟩
  | .hbm, ⟨1, _⟩ => ⟨S1x4096x3072, .f32⟩
  | .hbm, ⟨2, _⟩ => ⟨S4096x1024, .f32⟩
  | .hbm, ⟨3, _⟩ => ⟨S4096x1024, .bf16⟩
  | .hbm, ⟨4, _⟩ => ⟨S4096x3072, .f32⟩
  | .hbm, ⟨5, _⟩ => ⟨S4096x3072, .bf16⟩
  | .hbm, ⟨6, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference6Ideal.lean ====
abbrev S1x4096x1024 : Shape := ⟨3, ![1, 4096, 1024]⟩
abbrev S1x4096x3072 : Shape := ⟨3, ![1, 4096, 3072]⟩
abbrev S_ : Shape := ⟨0, ![]⟩
abbrev S1024x3072 : Shape := ⟨2, ![1024, 3072]⟩
abbrev S4096x1024 : Shape := ⟨2, ![4096, 1024]⟩
abbrev S4096x3072 : Shape := ⟨2, ![4096, 3072]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x3072, .f32⟩
  | .hbm, ⟨2, _⟩ => ⟨S_, .f32⟩
  | .hbm, ⟨3, _⟩ => ⟨S1024x3072, .f32⟩
  | .hbm, ⟨4, _⟩ => ⟨S4096x1024, .f32⟩
  | .hbm, ⟨5, _⟩ => ⟨S4096x3072, .f32⟩
  | .hbm, ⟨6, _⟩ => ⟨S4096x3072, .f32⟩
  | .hbm, ⟨7, _⟩ => ⟨S3072x1024, .f32⟩
  | .hbm, ⟨8, _⟩ => ⟨S1024x3072, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S1x4096x1024 : Shape := ⟨3, ![1, 4096, 1024]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩
abbrev S4096x4096 : Shape := ⟨2, ![4096, 4096]⟩
abbrev S1024x1024 : Shape := ⟨2, ![1024, 1024]⟩
abbrev S1x1024x1024 : Shape := ⟨3, ![1, 1024, 1024]⟩

abbrev nBuf : Space → Nat
  | .hbm => 9
  | .vmem => 8
  | .smem => 0
  | _ => 0

abbrev bufTy : (tb : Table) → Fin (tcTables nBuf tb) → BufTy
  | .hbm, ⟨0, _⟩ => ⟨S1x4096x1024, .f32⟩
  | .hbm, ⟨1, _⟩ => ⟨S1024x4096, .f32⟩
  | .hbm, ⟨2, _⟩ => ⟨S4096x1024, .f32⟩
  | .hbm, ⟨3, _⟩ => ⟨S4096x1024, .bf16⟩
  | .hbm, ⟨4, _⟩ => ⟨S1024x4x1024, .f32⟩
  | .hbm, ⟨5, _⟩ => ⟨S4x1024x1024, .f32⟩
  | .hbm, ⟨6, _⟩ => ⟨S4x1024x1024, .bf16⟩
  | .hbm, ⟨7, _⟩ => ⟨S4096x4096, .bf16⟩
  | .hbm, ⟨8, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S1x4096x1024 : Shape := ⟨3, ![1, 4096, 1024]⟩
abbrev S1024x4096 : Shape := ⟨2, ![1024, 4096]⟩
abbrev S4096x1024 : Shape := ⟨2, ![4096, 1024]⟩
abbrev S4096x4096 : Shape := ⟨2, ![4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024x4096, .f32⟩
  | .hbm, ⟨2, _⟩ => ⟨S4096x1024, .f32⟩
  | .hbm, ⟨3, _⟩ => ⟨S4096x4096, .f32⟩
  | .hbm, ⟨4, _⟩ => ⟨S4096x4096, .bf16⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel8.lean ====
abbrev S1x4096x3072 : Shape := ⟨3, ![1, 4096, 3072]⟩
abbrev S1024x6144 : Shape := ⟨2, ![1024, 6144]⟩
abbrev S4096x3072 : Shape := ⟨2, ![4096, 3072]⟩
abbrev S4096x1024 : Shape := ⟨2, ![4096, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S1x4096x3072, .f32⟩
  | .hbm, ⟨1, _⟩ => ⟨S1024x6144, .f32⟩
  | .hbm, ⟨2, _⟩ => ⟨S4096x3072, .f32⟩
  | .hbm, ⟨3, _⟩ => ⟨S4096x3072, .bf16⟩
  | .hbm, ⟨4, _⟩ => ⟨S1024x6144, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S1x4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference8Ideal.lean ====
abbrev S1x4096x3072 : Shape := ⟨3, ![1, 4096, 3072]⟩
abbrev S1024x6144 : Shape := ⟨2, ![1024, 6144]⟩
abbrev S_ : Shape := ⟨0, ![]⟩
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 8
  | .vmem => 0
  | .smem => 0
  | _ => 0

abbrev bufTy : (tb : Table) → Fin (tcTables nBuf tb) → BufTy
  | .hbm, ⟨0, _⟩ => ⟨S1x4096x3072, .f32⟩
  | .hbm, ⟨1, _⟩ => ⟨S1024x6144, .f32⟩
  | .hbm, ⟨2, _⟩ => ⟨S_, .f32⟩
  | .hbm, ⟨3, _⟩ => ⟨S4096x1024, .f32⟩
  | .hbm, ⟨4, _⟩ => ⟨S1024x3072, .f32⟩
  | .hbm, ⟨5, _⟩ => ⟨S4096x3072, .f32⟩
  | .hbm, ⟨6, _⟩ => ⟨S4096x3072, .f32⟩
  | .hbm, ⟨7, _⟩ => ⟨S4096x1024, .f32⟩
  | _, _ => ⟨S1x4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S1x4096x1024 : Shape := ⟨3, ![1, 4096, 1024]⟩
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S4096x1024, .f32⟩
  | .hbm, ⟨3, _⟩ => ⟨S4096x1024, .bf16⟩
  | .hbm, ⟨4, _⟩ => ⟨S4096x1024, .f32⟩
  | .hbm, ⟨5, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== Reference9Ideal.lean ====
abbrev S1x4096x1024 : Shape := ⟨3, ![1, 4096, 1024]⟩
abbrev S_ : Shape := ⟨0, ![]⟩
abbrev S1024x1024 : Shape := ⟨2, ![1024, 1024]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 5
  | .vmem => 5
  | .smem => 0
  | _ => 0

abbrev bufTy : (tb : Table) → Fin (tcTables nBuf tb) → BufTy
  | .hbm, ⟨0, _⟩ => ⟨S1x4096x1024, .f32⟩
  | .hbm, ⟨1, _⟩ => ⟨S1024x1024, .f32⟩
  | .hbm, ⟨2, _⟩ => ⟨S4096x1024, .f32⟩
  | .hbm, ⟨3, _⟩ => ⟨S1024x1024, .bf16⟩
  | .hbm, ⟨4, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference10Ideal.lean ====
abbrev S1x4096x1024 : Shape := ⟨3, ![1, 4096, 1024]⟩
abbrev S1024x1024 : Shape := ⟨2, ![1024, 1024]⟩
abbrev S_ : Shape := ⟨0, ![]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S1x4096x1024 : Shape := ⟨3, ![1, 4096, 1024]⟩
abbrev S1024x6144 : Shape := ⟨2, ![1024, 6144]⟩
abbrev S4096x1024 : Shape := ⟨2, ![4096, 1024]⟩
abbrev S4096x6144 : Shape := ⟨2, ![4096, 6144]⟩
abbrev S1024x1024 : Shape := ⟨2, ![1024, 1024]⟩
abbrev S1024x2048 : Shape := ⟨2, ![1024, 2048]⟩

abbrev nBuf : Space → Nat
  | .hbm => 6
  | .vmem => 6
  | .smem => 0
  | _ => 0

abbrev bufTy : (tb : Table) → Fin (tcTables nBuf tb) → BufTy
  | .hbm, ⟨0, _⟩ => ⟨S1x4096x1024, .f32⟩
  | .hbm, ⟨1, _⟩ => ⟨S1024x6144, .f32⟩
  | .hbm, ⟨2, _⟩ => ⟨S4096x1024, .f32⟩
  | .hbm, ⟨3, _⟩ => ⟨S4096x1024, .bf16⟩
  | .hbm, ⟨4, _⟩ => ⟨S1024x6144, .bf16⟩
  | .hbm, ⟨5, _⟩ => ⟨S4096x6144, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S1x4096x1024 : Shape := ⟨3, ![1, 4096, 1024]⟩
abbrev S1024x6144 : Shape := ⟨2, ![1024, 6144]⟩
abbrev S4096x1024 : Shape := ⟨2, ![4096, 1024]⟩
abbrev S4096x6144 : Shape := ⟨2, ![4096, 6144]⟩

abbrev nBuf : Space → Nat
  | .hbm => 4
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024x6144, .f32⟩
  | .hbm, ⟨2, _⟩ => ⟨S4096x1024, .f32⟩
  | .hbm, ⟨3, _⟩ => ⟨S4096x6144, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel12.lean ====
abbrev S1x4096x4096 : Shape := ⟨3, ![1, 4096, 4096]⟩
abbrev S1024x4096 : Shape := ⟨2, ![1024, 4096]⟩
abbrev S1x4096x1024 : Shape := ⟨3, ![1, 4096, 1024]⟩
abbrev S1x1024 : Shape := ⟨2, ![1, 1024]⟩
abbrev S4096x4096 : Shape := ⟨2, ![4096, 4096]⟩
abbrev S1024x4x1024 : Shape := ⟨3, ![1024, 4, 1024]⟩
abbrev S4x1024x1024 : Shape := ⟨3, ![4, 1024, 1024]⟩
abbrev S4096x1024 : Shape := ⟨2, ![4096, 1024]⟩
abbrev S1024x1024 : Shape := ⟨2, ![1024, 1024]⟩
abbrev S1x1024x1024 : Shape := ⟨3, ![1, 1024, 1024]⟩
abbrev S1024 : Shape := ⟨1, ![1024]⟩
abbrev S1024x1 : Shape := ⟨2, ![1024, 1]⟩

abbrev nBuf : Space → Nat
  | .hbm => 14
  | .vmem => 13
  | .smem => 0
  | _ => 0

abbrev bufTy : (tb : Table) → Fin (tcTables nBuf tb) → BufTy
  | .hbm, ⟨0, _⟩ => ⟨S1x4096x4096, .f32⟩
  | .hbm, ⟨1, _⟩ => ⟨S1024x4096, .f32⟩
  | .hbm, ⟨2, _⟩ => ⟨S1x4096x1024, .f32⟩
  | .hbm, ⟨3, _⟩ => ⟨S1x1024, .f32⟩
  | .hbm, ⟨4, _⟩ => ⟨S1x4096x1024, .f32⟩
  | .hbm, ⟨5, _⟩ => ⟨S4096x4096, .f32⟩
  | .hbm, ⟨6, _⟩ => ⟨S4096x4096, .bf16⟩
  | .hbm, ⟨7, _⟩ => ⟨S1024x4x1024, .f32⟩
  | .hbm, ⟨8, _⟩ => ⟨S4x1024x1024, .f32⟩
  | .hbm, ⟨9, _⟩ => ⟨S4x1024x1024, .bf16⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S1x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def k0_cond3 (i : grid0.Coords) : BitVec 1 :=
  let arg0 : BitVec 32 := BitVec.ofNat 32 (i 0).val
  let c0_i32_26 : BitVec 32 := 0#32
  let v49 : BitVec 1 := Scalar.cmpi .eq arg0 c0_i32_26
  let v50 : BitVec 32 := Scalar.extui v49
  let c0_i32_27 : BitVec 32 := 0#32
  let v51 : BitVec 1 := Scalar.cmpi .ne v50 c0_i32_27
  v51

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== Reference12Ideal.lean ====
abbrev S1x4096x4096 : Shape := ⟨3, ![1, 4096, 4096]⟩
abbrev S1024x4096 : Shape := ⟨2, ![1024, 4096]⟩
abbrev S1x4096x1024 : Shape := ⟨3, ![1, 4096, 1024]⟩
abbrev S1x1024 : Shape := ⟨2, ![1, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩

abbrev nBuf : Space → Nat
  | .hbm => 58
  | .vmem => 0
  | .smem => 0
  | _ => 0

abbrev bufTy : (tb : Table) → Fin (tcTables nBuf tb) → BufTy
  | .hbm, ⟨0, _⟩ => ⟨S1x4096x4096, .f32⟩
  | .hbm, ⟨1, _⟩ => ⟨S1024x4096, .f32⟩
  | .hbm, ⟨2, _⟩ => ⟨S1x4096x1024, .f32⟩
  | .hbm, ⟨3, _⟩ => ⟨S1x1024, .f32⟩
  | .hbm, ⟨4, _⟩ => ⟨S1x4096x1024, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x4096, .f32⟩
  | .hbm, ⟨28, _⟩ => ⟨S4096x4096, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S1x1024, .f32⟩
  | _, _ => ⟨S1x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel13.lean ====
abbrev S1x4096x3072 : Shape := ⟨3, ![1, 4096, 3072]⟩
abbrev S1024x6144 : Shape := ⟨2, ![1024, 6144]⟩
abbrev S1x4096x1024 : Shape := ⟨3, ![1, 4096, 1024]⟩
abbrev S1x1024 : Shape := ⟨2, ![1, 1024]⟩
abbrev S4096x3072 : Shape := ⟨2, ![4096, 3072]⟩
abbrev S4096x1024 : Shape := ⟨2, ![4096, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 14
  | .vmem => 15
  | .smem => 0
  | _ => 0

abbrev bufTy : (tb : Table) → Fin (tcTables nBuf tb) → BufTy
  | .hbm, ⟨0, _⟩ => ⟨S1x4096x3072, .f32⟩
  | .hbm, ⟨1, _⟩ => ⟨S1024x6144, .f32⟩
  | .hbm, ⟨2, _⟩ => ⟨S1x4096x1024, .f32⟩
  | .hbm, ⟨3, _⟩ => ⟨S1x1024, .f32⟩
  | .hbm, ⟨4, _⟩ => ⟨S1x4096x1024, .f32⟩
  | .hbm, ⟨5, _⟩ => ⟨S1x4096x1024, .f32⟩
  | .hbm, ⟨6, _⟩ => ⟨S4096x3072, .f32⟩
  | .hbm, ⟨7, _⟩ => ⟨S4096x3072, .bf16⟩
  | .hbm, ⟨8, _⟩ => ⟨S1024x6144, .bf16⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | .local _ .vmem, ⟨14, _⟩ => ⟨S1024x1024, .f32⟩
  | _, _ => ⟨S1x4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![4, 1, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def k0_cond3 (i : grid0.Coords) : BitVec 1 :=
  let arg0 : BitVec 32 := BitVec.ofNat 32 (i 0).val
  let c0_i32_27 : BitVec 32 := 0#32
  let v52 : BitVec 1 := Scalar.cmpi .eq arg0 c0_i32_27
  let v53 : BitVec 32 := Scalar.extui v52
  let c0_i32_28 : BitVec 32 := 0#32
  let v54 : BitVec 1 := Scalar.cmpi .ne v53 c0_i32_28
  v54

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi arg2 c3_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== Reference13Ideal.lean ====
abbrev S1x4096x3072 : Shape := ⟨3, ![1, 4096, 3072]⟩
abbrev S1024x6144 : Shape := ⟨2, ![1024, 6144]⟩
abbrev S1x4096x1024 : Shape := ⟨3, ![1, 4096, 1024]⟩
abbrev S1x1024 : Shape := ⟨2, ![1, 1024]⟩
abbrev S_ : Shape := ⟨0, ![]⟩
abbrev S4096x1024 : Shape := ⟨2, ![4096, 1024]⟩
abbrev S1024x3072 : Shape := ⟨2, ![1024, 3072]⟩
abbrev S4096x3072 : Shape := ⟨2, ![4096, 3072]⟩
abbrev S1024 : Shape := ⟨1, ![1024]⟩
abbrev S4096 : Shape := ⟨1, ![4096]⟩
abbrev S4096x1 : Shape := ⟨2, ![4096, 1]⟩

abbrev nBuf : Space → Nat
  | .hbm => 64
  | .vmem => 0
  | .smem => 0
  | _ => 0

abbrev bufTy : (tb : Table) → Fin (tcTables nBuf tb) → BufTy
  | .hbm, ⟨0, _⟩ => ⟨S1x4096x3072, .f32⟩
  | .hbm, ⟨1, _⟩ => ⟨S1024x6144, .f32⟩
  | .hbm, ⟨2, _⟩ => ⟨S1x4096x1024, .f32⟩
  | .hbm, ⟨3, _⟩ => ⟨S1x1024, .f32⟩
  | .hbm, ⟨4, _⟩ => ⟨S1x4096x1024, .f32⟩
  | .hbm, ⟨5, _⟩ => ⟨S1x4096x1024, .f32⟩
  | .hbm, ⟨6, _⟩ => ⟨S_, .f32⟩
  | .hbm, ⟨7, _⟩ => ⟨S4096x1024, .f32⟩
  | .hbm, ⟨8, _⟩ => ⟨S1024x3072, .f32⟩
  | .hbm, ⟨9, _⟩ => ⟨S4096x3072, .f32⟩
  | .hbm, ⟨10, _⟩ => ⟨S4096x3072, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S1x1024, .f32⟩
  | _, _ => ⟨S1x4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== Kernel15.lean ====
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 8
  | .vmem => 7
  | .smem => 0
  | _ => 0

abbrev bufTy : (tb : Table) → Fin (tcTables nBuf tb) → BufTy
  | .hbm, ⟨0, _⟩ => ⟨S1x4096x1024, .f32⟩
  | .hbm, ⟨1, _⟩ => ⟨S1024x1024, .f32⟩
  | .hbm, ⟨2, _⟩ => ⟨S1x4096x1024, .f32⟩
  | .hbm, ⟨3, _⟩ => ⟨S4096x1024, .f32⟩
  | .hbm, ⟨4, _⟩ => ⟨S4096x1024, .bf16⟩
  | .hbm, ⟨5, _⟩ => ⟨S1024x1024, .bf16⟩
  | .hbm, ⟨6, _⟩ => ⟨S4096x1024, .f32⟩
  | .hbm, ⟨7, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== Reference15Ideal.lean ====
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024x1024, .f32⟩
  | .hbm, ⟨2, _⟩ => ⟨S1x4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S1x4096x4096 : Shape := ⟨3, ![1, 4096, 4096]⟩
abbrev S4096x1024 : Shape := ⟨2, ![4096, 1024]⟩
abbrev S1x4096x1024 : Shape := ⟨3, ![1, 4096, 1024]⟩
abbrev S4096x4096 : Shape := ⟨2, ![4096, 4096]⟩
abbrev S8x128 : Shape := ⟨2, ![8, 128]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1 : Shape := ⟨2, ![1, 1]⟩
abbrev S_ : Shape := ⟨0, ![]⟩

abbrev nBuf : Space → Nat
  | .hbm => 16
  | .vmem => 14
  | .smem => 0
  | _ => 0

abbrev bufTy : (tb : Table) → Fin (tcTables nBuf tb) → BufTy
  | .hbm, ⟨0, _⟩ => ⟨S1x4096x4096, .f32⟩
  | .hbm, ⟨1, _⟩ => ⟨S4096x1024, .f32⟩
  | .hbm, ⟨2, _⟩ => ⟨S1x4096x1024, .f32⟩
  | .hbm, ⟨3, _⟩ => ⟨S1x4096x1024, .f32⟩
  | .hbm, ⟨4, _⟩ => ⟨S4096x4096, .f32⟩
  | .hbm, ⟨5, _⟩ => ⟨S4096x4096, .bf16⟩
  | .hbm, ⟨6, _⟩ => ⟨S4096x1024, .bf16⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S8x128, .f32⟩
  | .hbm, ⟨11, _⟩ => ⟨S4096x1024, .bf16⟩
  | .hbm, ⟨12, _⟩ => ⟨S1x1, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S8x128, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .f32⟩
  | _, _ => ⟨S1x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def k0_cond3 (i : grid0.Coords) : BitVec 1 :=
  let arg0 : BitVec 32 := BitVec.ofNat 32 (i 0).val
  let c0_i32_22 : BitVec 32 := 0#32
  let v33 : BitVec 1 := Scalar.cmpi .eq arg0 c0_i32_22
  let v34 : BitVec 32 := Scalar.extui v33
  let c0_i32_23 : BitVec 32 := 0#32
  let v35 : BitVec 1 := Scalar.cmpi .ne v34 c0_i32_23
  v35

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== Reference14Ideal.lean ====
abbrev S1x4096x4096 : Shape := ⟨3, ![1, 4096, 4096]⟩
abbrev S4096x1024 : Shape := ⟨2, ![4096, 1024]⟩
abbrev S1x4096x1024 : Shape := ⟨3, ![1, 4096, 1024]⟩
abbrev S4096x4096 : Shape := ⟨2, ![4096, 4096]⟩
abbrev S_ : Shape := ⟨0, ![]⟩
abbrev S4096 : Shape := ⟨1, ![4096]⟩

abbrev nBuf : Space → Nat
  | .hbm => 33
  | .vmem => 0
  | .smem => 0
  | _ => 0

abbrev bufTy : (tb : Table) → Fin (tcTables nBuf tb) → BufTy
  | .hbm, ⟨0, _⟩ => ⟨S1x4096x4096, .f32⟩
  | .hbm, ⟨1, _⟩ => ⟨S4096x1024, .f32⟩
  | .hbm, ⟨2, _⟩ => ⟨S1x4096x1024, .f32⟩
  | .hbm, ⟨3, _⟩ => ⟨S1x4096x1024, .f32⟩
  | .hbm, ⟨4, _⟩ => ⟨S4096x1024, .f32⟩
  | .hbm, ⟨5, _⟩ => ⟨S4096x4096, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S4096x1024, .f32⟩
  | .hbm, ⟨31, _⟩ => ⟨S4096x1024, .f32⟩
  | .hbm, ⟨32, _⟩ => ⟨S4096x1024, .bf16⟩
  | _, _ => ⟨S1x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_cst_4 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]
-- ==== Kernel16.lean ====
abbrev S1x4096x6144 : Shape := ⟨3, ![1, 4096, 6144]⟩
abbrev S1x3072 : Shape := ⟨2, ![1, 3072]⟩
abbrev S1x4096x512 : Shape := ⟨3, ![1, 4096, 512]⟩
abbrev S512x1024 : Shape := ⟨2, ![512, 1024]⟩
abbrev S4096x6144 : Shape := ⟨2, ![4096, 6144]⟩
abbrev S4096x512 : Shape := ⟨2, ![4096, 512]⟩
abbrev S512x4x256 : Shape := ⟨3, ![512, 4, 256]⟩
abbrev S4x512x256 : Shape := ⟨3, ![4, 512, 256]⟩
abbrev S4096x1024 : Shape := ⟨2, ![4096, 1024]⟩
abbrev S512x3072 : Shape := ⟨2, ![512, 3072]⟩
abbrev S512x512 : Shape := ⟨2, ![512, 512]⟩
abbrev S512x256 : Shape := ⟨2, ![512, 256]⟩
abbrev S1x256 : Shape := ⟨2, ![1, 256]⟩
abbrev S1x512x256 : Shape := ⟨3, ![1, 512, 256]⟩

abbrev nBuf : Space → Nat
  | .hbm => 25
  | .vmem => 14
  | .smem => 0
  | _ => 0

abbrev bufTy : (tb : Table) → Fin (tcTables nBuf tb) → BufTy
  | .hbm, ⟨0, _⟩ => ⟨S1x4096x6144, .f32⟩
  | .hbm, ⟨1, _⟩ => ⟨S1x3072, .f32⟩
  | .hbm, ⟨2, _⟩ => ⟨S1x4096x512, .f32⟩
  | .hbm, ⟨3, _⟩ => ⟨S1x4096x512, .f32⟩
  | .hbm, ⟨4, _⟩ => ⟨S1x4096x512, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S4096x6144, .f32⟩
  | .hbm, ⟨9, _⟩ => ⟨S4096x512, .f32⟩
  | .hbm, ⟨10, _⟩ => ⟨S4096x512, .bf16⟩
  | .hbm, ⟨11, _⟩ => ⟨S4096x512, .f32⟩
  | .hbm, ⟨12, _⟩ => ⟨S4096x512, .bf16⟩
  | .hbm, ⟨13, _⟩ => ⟨S4096x512, .f32⟩
  | .hbm, ⟨14, _⟩ => ⟨S4096x512, .bf16⟩
  | .hbm, ⟨15, _⟩ => ⟨S512x4x256, .f32⟩
  | .hbm, ⟨16, _⟩ => ⟨S4x512x256, .f32⟩
  | .hbm, ⟨17, _⟩ => ⟨S4x512x256, .bf16⟩
  | .hbm, ⟨18, _⟩ => ⟨S512x4x256, .f32⟩
  | .hbm, ⟨19, _⟩ => ⟨S4x512x256, .f32⟩
  | .hbm, ⟨20, _⟩ => ⟨S4x512x256, .bf16⟩
  | .hbm, ⟨21, _⟩ => ⟨S512x4x256, .f32⟩
  | .hbm, ⟨22, _⟩ => ⟨S4x512x256, .f32⟩
  | .hbm, ⟨23, _⟩ => ⟨S4x512x256, .bf16⟩
  | .hbm, ⟨24, _⟩ => ⟨S4096x1024, .bf16⟩
  | .local _ .vmem, ⟨0, _⟩ => ⟨S512x3072, .f32⟩
  | .local _ .vmem, ⟨1, _⟩ => ⟨S512x3072, .f32⟩
  | .local _ .vmem, ⟨2, _⟩ => ⟨S1x3072, .f32⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S4x512x256, .bf16⟩
  | .local _ .vmem, ⟨10, _⟩ => ⟨S4x512x256, .bf16⟩
  | .local _ .vmem, ⟨11, _⟩ => ⟨S4x512x256, .bf16⟩
  | .local _ .vmem, ⟨12, _⟩ => ⟨S512x1024, .bf16⟩
  | .local _ .vmem, ⟨13, _⟩ => ⟨S512x1024, .bf16⟩
  | _, _ => ⟨S1x4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference16Ideal.lean ====
abbrev S1x4096x6144 : Shape := ⟨3, ![1, 4096, 6144]⟩
abbrev S1x3072 : Shape := ⟨2, ![1, 3072]⟩
abbrev S1x4096x512 : Shape := ⟨3, ![1, 4096, 512]⟩
abbrev S512x1024 : Shape := ⟨2, ![512, 1024]⟩
abbrev S4096x6144 : Shape := ⟨2, ![4096, 6144]⟩
abbrev S4096x3072 : Shape := ⟨2, ![4096, 3072]⟩
abbrev S4096x512 : Shape := ⟨2, ![4096, 512]⟩
abbrev S3072 : Shape := ⟨1, ![3072]⟩
abbrev S4096x1024 : Shape := ⟨2, ![4096, 1024]⟩
abbrev S_ : Shape := ⟨0, ![]⟩
abbrev S4096x3x1024 : Shape := ⟨3, ![4096, 3, 1024]⟩
abbrev S4096x1x1024 : Shape := ⟨3, ![4096, 1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S1x4096x6144, .f32⟩
  | .hbm, ⟨1, _⟩ => ⟨S1x3072, .f32⟩
  | .hbm, ⟨2, _⟩ => ⟨S1x4096x512, .f32⟩
  | .hbm, ⟨3, _⟩ => ⟨S1x4096x512, .f32⟩
  | .hbm, ⟨4, _⟩ => ⟨S1x4096x512, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S4096x6144, .f32⟩
  | .hbm, ⟨9, _⟩ => ⟨S4096x3072, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S3072, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S1x3072, .f32⟩
  | .hbm, ⟨18, _⟩ => ⟨S4096x3072, .f32⟩
  | .hbm, ⟨19, _⟩ => ⟨S4096x3072, .f32⟩
  | .hbm, ⟨20, _⟩ => ⟨S4096x3072, .f32⟩
  | .hbm, ⟨21, _⟩ => ⟨S4096x3072, .f32⟩
  | .hbm, ⟨22, _⟩ => ⟨S_, .f32⟩
  | .hbm, ⟨23, _⟩ => ⟨S4096x3072, .f32⟩
  | .hbm, ⟨24, _⟩ => ⟨S4096x3072, .f32⟩
  | .hbm, ⟨25, _⟩ => ⟨S_, .f32⟩
  | .hbm, ⟨26, _⟩ => ⟨S4096x3072, .f32⟩
  | .hbm, ⟨27, _⟩ => ⟨S4096x3072, .f32⟩
  | .hbm, ⟨28, _⟩ => ⟨S4096x3x1024, .f32⟩
  | .hbm, ⟨29, _⟩ => ⟨S4096x1x1024, .f32⟩
  | .hbm, ⟨30, _⟩ => ⟨S4096x1024, .f32⟩
  | .hbm, ⟨31, _⟩ => ⟨S4096x1024, .f32⟩
  | .hbm, ⟨32, _⟩ => ⟨S4096x1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .bf16⟩
  | _, _ => ⟨S1x4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Kernel17.lean ====
abbrev S1x4096x6144 : Shape := ⟨3, ![1, 4096, 6144]⟩
abbrev S1x3072 : Shape := ⟨2, ![1, 3072]⟩
abbrev S1x4096x512 : Shape := ⟨3, ![1, 4096, 512]⟩
abbrev S512x1024 : Shape := ⟨2, ![512, 1024]⟩
abbrev S1x4096x1024 : Shape := ⟨3, ![1, 4096, 1024]⟩
abbrev S4096x6144 : Shape := ⟨2, ![4096, 6144]⟩
abbrev S4096x512 : Shape := ⟨2, ![4096, 512]⟩
abbrev S512x4x256 : Shape := ⟨3, ![512, 4, 256]⟩
abbrev S4x512x256 : Shape := ⟨3, ![4, 512, 256]⟩
abbrev S4096x1024 : Shape := ⟨2, ![4096, 1024]⟩
abbrev S4096x3072 : Shape := ⟨2, ![4096, 3072]⟩
abbrev S8x4096x128 : Shape := ⟨3, ![8, 4096, 128]⟩
abbrev S4x4096x128 : Shape := ⟨3, ![4, 4096, 128]⟩
abbrev S512x3072 : Shape := ⟨2, ![512, 3072]⟩
abbrev S512x512 : Shape := ⟨2, ![512, 512]⟩
abbrev S8x512x128 : Shape := ⟨3, ![8, 512, 128]⟩
abbrev S4x512x128 : Shape := ⟨3, ![4, 512, 128]⟩
abbrev S512x128 : Shape := ⟨2, ![512, 128]⟩
abbrev S512x256 : Shape := ⟨2, ![512, 256]⟩
abbrev S1x256 : Shape := ⟨2, ![1, 256]⟩
abbrev S1x512x256 : Shape := ⟨3, ![1, 512, 256]⟩
abbrev S256 : Shape := ⟨1, ![256]⟩
abbrev S512 : Shape := ⟨1, ![512]⟩
abbrev S512x1 : Shape := ⟨2, ![512, 1]⟩
abbrev S1x512x128 : Shape := ⟨3, ![1, 512, 128]⟩

abbrev nBuf : Space → Nat
  | .hbm => 37
  | .vmem => 32
  | .smem => 0
  | _ => 0

abbrev bufTy : (tb : Table) → Fin (tcTables nBuf tb) → BufTy
  | .hbm, ⟨0, _⟩ => ⟨S1x4096x6144, .f32⟩
  | .hbm, ⟨1, _⟩ => ⟨S1x3072, .f32⟩
  | .hbm, ⟨2, _⟩ => ⟨S1x4096x512, .f32⟩
  | .hbm, ⟨3, _⟩ => ⟨S1x4096x512, .f32⟩
  | .hbm, ⟨4, _⟩ => ⟨S1x4096x512, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1x4096x1024, .f32⟩
  | .hbm, ⟨9, _⟩ => ⟨S4096x6144, .f32⟩
  | .hbm, ⟨10, _⟩ => ⟨S4096x512, .f32⟩
  | .hbm, ⟨11, _⟩ => ⟨S4096x512, .bf16⟩
  | .hbm, ⟨12, _⟩ => ⟨S4096x512, .f32⟩
  | .hbm, ⟨13, _⟩ => ⟨S4096x512, .bf16⟩
  | .hbm, ⟨14, _⟩ => ⟨S4096x512, .f32⟩
  | .hbm, ⟨15, _⟩ => ⟨S4096x512, .bf16⟩
  | .hbm, ⟨16, _⟩ => ⟨S512x4x256, .f32⟩
  | .hbm, ⟨17, _⟩ => ⟨S4x512x256, .f32⟩
  | .hbm, ⟨18, _⟩ => ⟨S4x512x256, .bf16⟩
  | .hbm, ⟨19, _⟩ => ⟨S512x4x256, .f32⟩
  | .hbm, ⟨20, _⟩ => ⟨S4x512x256, .f32⟩
  | .hbm, ⟨21, _⟩ => ⟨S4x512x256, .bf16⟩
  | .hbm, ⟨22, _⟩ => ⟨S512x4x256, .f32⟩
  | .hbm, ⟨23, _⟩ => ⟨S4x512x256, .f32⟩
  | .hbm, ⟨24, _⟩ => ⟨S4x512x256, .bf16⟩
  | .hbm, ⟨25, _⟩ => ⟨S4096x1024, .f32⟩
  | .hbm, ⟨26, _⟩ => ⟨S4096x3072, .bf16⟩
  | .hbm, ⟨27, _⟩ => ⟨S4096x512, .bf16⟩
  | .hbm, ⟨28, _⟩ => ⟨S4096x512, .bf16⟩
  | .hbm, ⟨29, _⟩ => ⟨S4096x512, .bf16⟩
  | .hbm, ⟨30, _⟩ => ⟨S8x4096x128, .f32⟩
  | .hbm, ⟨31, _⟩ => ⟨S4096x512, .bf16⟩
  | .hbm, ⟨32, _⟩ => ⟨S4x4096x128, .f32⟩
  | .hbm, ⟨33, _⟩ => ⟨S4x512x256, .f32⟩
  | .hbm, ⟨34, _⟩ => ⟨S4x512x256, .f32⟩
  | .hbm, ⟨35, _⟩ => ⟨S4x512x256, .f32⟩
  | .hbm, ⟨36, _⟩ => ⟨S1x3072, .f32⟩
  | .local _ .vmem, ⟨0, _⟩ => ⟨S512x3072, .f32⟩
  | .local _ .vmem, ⟨1, _⟩ => ⟨S512x3072, .f32⟩
  | .local _ .vmem, ⟨2, _⟩ => ⟨S1x3072, .f32⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S4x512x256, .bf16⟩
  | .local _ .vmem, ⟨10, _⟩ => ⟨S4x512x256, .bf16⟩
  | .local _ .vmem, ⟨11, _⟩ => ⟨S4x512x256, .bf16⟩
  | .local _ .vmem, ⟨12, _⟩ => ⟨S512x1024, .f32⟩
  | .local _ .vmem, ⟨13, _⟩ => ⟨S512x1024, .f32⟩
  | .local _ .vmem, ⟨14, _⟩ => ⟨S512x3072, .bf16⟩
  | .local _ .vmem, ⟨15, _⟩ => ⟨S512x3072, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S8x512x128, .f32⟩
  | .local _ .vmem, ⟨23, _⟩ => ⟨S8x512x128, .f32⟩
  | .local _ .vmem, ⟨24, _⟩ => ⟨S512x512, .bf16⟩
  | .local _ .vmem, ⟨25, _⟩ => ⟨S512x512, .bf16⟩
  | .local _ .vmem, ⟨26, _⟩ => ⟨S4x512x128, .f32⟩
  | .local _ .vmem, ⟨27, _⟩ => ⟨S4x512x128, .f32⟩
  | .local _ .vmem, ⟨28, _⟩ => ⟨S4x512x256, .f32⟩
  | .local _ .vmem, ⟨29, _⟩ => ⟨S4x512x256, .f32⟩
  | .local _ .vmem, ⟨30, _⟩ => ⟨S4x512x256, .f32⟩
  | .local _ .vmem, ⟨31, _⟩ => ⟨S1x3072, .f32⟩
  | _, _ => ⟨S1x4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev main_v17_2 : Ref sig .tc := ⟨.hbm, 28, rfl⟩
abbrev main_v17_3 : Ref sig .tc := ⟨.hbm, 29, rfl⟩
abbrev main_v17_4 : Ref sig .tc := ⟨.hbm, 30, rfl⟩
abbrev main_v17_5 : Ref sig .tc := ⟨.hbm, 31, rfl⟩
abbrev main_v17_6 : Ref sig .tc := ⟨.hbm, 32, rfl⟩
abbrev main_v17_7 : Ref sig .tc := ⟨.hbm, 33, rfl⟩
abbrev main_v17_8 : Ref sig .tc := ⟨.hbm, 34, rfl⟩
abbrev main_v17_9 : Ref sig .tc := ⟨.hbm, 35, rfl⟩
abbrev main_v17_10 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg19_0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem17_0 : DmaSem sig := 29
abbrev cc0_sem18_0 : DmaSem sig := 30
abbrev cc0_sem19_0 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S4x512x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x512x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S4x512x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x3072 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== Reference17Ideal.lean ====
abbrev S1x4096x6144 : Shape := ⟨3, ![1, 4096, 6144]⟩
abbrev S1x3072 : Shape := ⟨2, ![1, 3072]⟩
abbrev S1x4096x512 : Shape := ⟨3, ![1, 4096, 512]⟩
abbrev S512x1024 : Shape := ⟨2, ![512, 1024]⟩
abbrev S1x4096x1024 : Shape := ⟨3, ![1, 4096, 1024]⟩
abbrev S4096x6144 : Shape := ⟨2, ![4096, 6144]⟩
abbrev S4096x3072 : Shape := ⟨2, ![4096, 3072]⟩
abbrev S4096x512 : Shape := ⟨2, ![4096, 512]⟩
abbrev S3072 : Shape := ⟨1, ![3072]⟩
abbrev S4096x1024 : Shape := ⟨2, ![4096, 1024]⟩
abbrev S_ : Shape := ⟨0, ![]⟩
abbrev S4096x3x1024 : Shape := ⟨3, ![4096, 3, 1024]⟩
abbrev S4096x1x1024 : Shape := ⟨3, ![4096, 1, 1024]⟩
abbrev S1024x512 : Shape := ⟨2, ![1024, 512]⟩
abbrev S512x4x256 : Shape := ⟨3, ![512, 4, 256]⟩
abbrev S4x512x256 : Shape := ⟨3, ![4, 512, 256]⟩

abbrev nBuf : Space → Nat
  | .hbm => 90
  | .vmem => 0
  | .smem => 0
  | _ => 0

abbrev bufTy : (tb : Table) → Fin (tcTables nBuf tb) → BufTy
  | .hbm, ⟨0, _⟩ => ⟨S1x4096x6144, .f32⟩
  | .hbm, ⟨1, _⟩ => ⟨S1x3072, .f32⟩
  | .hbm, ⟨2, _⟩ => ⟨S1x4096x512, .f32⟩
  | .hbm, ⟨3, _⟩ => ⟨S1x4096x512, .f32⟩
  | .hbm, ⟨4, _⟩ => ⟨S1x4096x512, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1x4096x1024, .f32⟩
  | .hbm, ⟨9, _⟩ => ⟨S4096x6144, .f32⟩
  | .hbm, ⟨10, _⟩ => ⟨S4096x3072, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S3072, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1x3072, .f32⟩
  | .hbm, ⟨19, _⟩ => ⟨S4096x3072, .f32⟩
  | .hbm, ⟨20, _⟩ => ⟨S4096x3072, .f32⟩
  | .hbm, ⟨21, _⟩ => ⟨S4096x3072, .f32⟩
  | .hbm, ⟨22, _⟩ => ⟨S4096x3072, .f32⟩
  | .hbm, ⟨23, _⟩ => ⟨S_, .f32⟩
  | .hbm, ⟨24, _⟩ => ⟨S4096x3072, .f32⟩
  | .hbm, ⟨25, _⟩ => ⟨S4096x3072, .f32⟩
  | .hbm, ⟨26, _⟩ => ⟨S_, .f32⟩
  | .hbm, ⟨27, _⟩ => ⟨S4096x3072, .f32⟩
  | .hbm, ⟨28, _⟩ => ⟨S4096x3072, .f32⟩
  | .hbm, ⟨29, _⟩ => ⟨S_, .f32⟩
  | .hbm, ⟨30, _⟩ => ⟨S4096x3072, .f32⟩
  | .hbm, ⟨31, _⟩ => ⟨S4096x3072, .f32⟩
  | .hbm, ⟨32, _⟩ => ⟨S4096x3072, .f32⟩
  | .hbm, ⟨33, _⟩ => ⟨S4096x3x1024, .f32⟩
  | .hbm, ⟨34, _⟩ => ⟨S4096x1x1024, .f32⟩
  | .hbm, ⟨35, _⟩ => ⟨S4096x1024, .f32⟩
  | .hbm, ⟨36, _⟩ => ⟨S4096x1024, .f32⟩
  | .hbm, ⟨37, _⟩ => ⟨S4096x1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1x1024, .f32⟩
  | .hbm, ⟨49, _⟩ => ⟨S_, .f32⟩
  | .hbm, ⟨50, _⟩ => ⟨S4096x3x1024, .f32⟩
  | .hbm, ⟨51, _⟩ => ⟨S4096x1024, .f32⟩
  | .hbm, ⟨52, _⟩ => ⟨S4096x1024, .f32⟩
  | .hbm, ⟨53, _⟩ => ⟨S4096x1x1024, .f32⟩
  | .hbm, ⟨54, _⟩ => ⟨S_, .f32⟩
  | .hbm, ⟨55, _⟩ => ⟨S4096x3x1024, .f32⟩
  | .hbm, ⟨56, _⟩ => ⟨S4096x3x1024, .f32⟩
  | .hbm, ⟨57, _⟩ => ⟨S4096x1024, .f32⟩
  | .hbm, ⟨58, _⟩ => ⟨S4096x1024, .f32⟩
  | .hbm, ⟨59, _⟩ => ⟨S4096x1x1024, .f32⟩
  | .hbm, ⟨60, _⟩ => ⟨S_, .f32⟩
  | .hbm, ⟨61, _⟩ => ⟨S4096x3x1024, .f32⟩
  | .hbm, ⟨62, _⟩ => ⟨S4096x3x1024, .f32⟩
  | .hbm, ⟨63, _⟩ => ⟨S4096x3072, .f32⟩
  | .hbm, ⟨64, _⟩ => ⟨S4096x3072, .f32⟩
  | .hbm, ⟨65, _⟩ => ⟨S_, .f32⟩
  | .hbm, ⟨66, _⟩ => ⟨S3072, .f32⟩
  | .hbm, ⟨67, _⟩ => ⟨S1x3072, .f32⟩
  | .hbm, ⟨68, _⟩ => ⟨S_, .f32⟩
  | .hbm, ⟨69, _⟩ => ⟨S3072, .f32⟩
  | .hbm, ⟨70, _⟩ => ⟨S1024x512, .f32⟩
  | .hbm, ⟨71, _⟩ => ⟨S512x1024, .f32⟩
  | .hbm, ⟨72, _⟩ => ⟨S4096x512, .f32⟩
  | .hbm, ⟨73, _⟩ => ⟨S1024x512, .f32⟩
  | .hbm, ⟨74, _⟩ => ⟨S512x1024, .f32⟩
  | .hbm, ⟨75, _⟩ => ⟨S4096x512, .f32⟩
  | .hbm, ⟨76, _⟩ => ⟨S1024x512, .f32⟩
  | .hbm, ⟨77, _⟩ => ⟨S512x1024, .f32⟩
  | .hbm, ⟨78, _⟩ => ⟨S4096x512, .f32⟩
  | .hbm, ⟨79, _⟩ => ⟨S512x4x256, .f32⟩
  | .hbm, ⟨80, _⟩ => ⟨S4x512x256, .f32⟩
  | .hbm, ⟨81, _⟩ => ⟨S512x4x256, .f32⟩
  | .hbm, ⟨82, _⟩ => ⟨S4x512x256, .f32⟩
  | .hbm, ⟨83, _⟩ => ⟨S512x4x256, .f32⟩
  | .hbm, ⟨84, _⟩ => ⟨S4x512x256, .f32⟩
  | .hbm, ⟨85, _⟩ => ⟨S4096x3072, .bf16⟩
  | .hbm, ⟨86, _⟩ => ⟨S4096x512, .bf16⟩
  | .hbm, ⟨87, _⟩ => ⟨S4096x512, .bf16⟩
  | .hbm, ⟨88, _⟩ => ⟨S4096x512, .bf16⟩
  | .hbm, ⟨89, _⟩ => ⟨S1x3072, .f32⟩
  | _, _ => ⟨S1x4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_2 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_3 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_4 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_5 : Ref sig .tc := ⟨.hbm, 65, rfl⟩
abbrev main_v50 : Ref sig .tc := ⟨.hbm, 66, rfl⟩
abbrev main_v51 : Ref sig .tc := ⟨.hbm, 67, rfl⟩
abbrev main_cst_6 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩

abbrev nD : Nat := 1
abbrev τ : Topo := Topo.v7x

variable {F : FTy → Type} [FloatOps F]
-- ==== Kernel18.lean ====
abbrev S1x4096x1024 : Shape := ⟨3, ![1, 4096, 1024]⟩
abbrev S1x1024 : Shape := ⟨2, ![1, 1024]⟩
abbrev S4096x1024 : Shape := ⟨2, ![4096, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S4096x1024, .f32⟩
  | .hbm, ⟨3, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference18Ideal.lean ====
abbrev S1x4096x1024 : Shape := ⟨3, ![1, 4096, 1024]⟩
abbrev S1x1024 : Shape := ⟨2, ![1, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 21
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Proof.Soft.lean ====
/- Sums and maxima of real numbers read as extended reals, and the gradient of a softmax over the reals: the
   identities that let a kernel which keeps the row's log-sum and the row's `delta` agree with the plain gradient. -/
module

public import Idealize.ShloMosaic.Lib.Pointwise
public import Idealize.ShloMosaic.Lib.IdealHost

@[expose] public section

set_option maxRecDepth 16384

noncomputable section

namespace Cert.Soft

open Idealize.ShloMosaic

variable {ι J D : Type} [Fintype ι] [Fintype J] [Fintype D]

/-- A finite sum of reals, read as extended reals, is the sum of the terms read so. -/
theorem coe_sum (f : ι → ℝ) : ((∑ i, f i : ℝ) : EReal) = ∑ i, (f i : EReal) := by
  classical
  induction (Finset.univ : Finset ι) using Finset.induction_on with
  | empty => simp
  | insert a s ha ih => rw [Finset.sum_insert ha, Finset.sum_insert ha, EReal.coe_add, ih]

/-- The exact sum of products of reals. -/
theorem coe_sum_mul (f g : ι → ℝ) : (∑ i, (f i : EReal) * (g i : EReal)) = ((∑ i, f i * g i : ℝ) : EReal) := by
  rw [coe_sum]; exact Finset.sum_congr rfl fun i _ => (EReal.coe_mul _ _).symm

/-- The largest of finitely many reals, as the fold from `-∞` computes it. -/
theorem fold_max_coe [Nonempty ι] (f : ι → ℝ) :
    Finset.fold max (⊥ : EReal) (fun i => (f i : EReal)) Finset.univ = ((Finset.univ.sup' Finset.univ_nonempty f : ℝ) : EReal) := by
  rw [show Finset.fold max (⊥ : EReal) (fun i => (f i : EReal)) Finset.univ
      = Finset.univ.sup (fun i => (f i : EReal)) from rfl, ← Finset.sup'_eq_sup Finset.univ_nonempty]
  exact (Finset.comp_sup'_eq_sup'_comp Finset.univ_nonempty (fun x : ℝ => (x : EReal)) fun x y =>
    EReal.coe_strictMono.monotone.map_max).symm

/-- Division of reals, the divisor not zero. -/
theorem div_coe_coe (x : ℝ) {y : ℝ} (h : y ≠ 0) : Ideal.div (x : EReal) (y : EReal) = ((x / y : ℝ) : EReal) := by
  rw [Ideal.div_coe h, ← EReal.coe_mul]; congr 1; ring

theorem log_coe_pos {x : ℝ} (h : 0 < x) : Ideal.log (x : EReal) = (Real.log x : EReal) := by
  rw [Ideal.log_coe, if_neg (not_le.2 h)]

/-- The word of `-∞`. -/
theorem ofBits_negInf : Ideal.ofBits .f32 0xFF800000#32 = ⊥ := by simp [Ideal.ofBits, Ideal.ieee]

/-- A softmax weight from the row's largest score and log-sum. -/
theorem exp_sub_lse (s m : ℝ) {l : ℝ} (h : 0 < l) : Real.exp (s - (m + Real.log l)) = Real.exp (s - m) / l := by
  rw [← sub_sub, Real.exp_sub, Real.exp_log h]

/-- THE GRADIENT OF A ROW'S SCORE. `E` the unnormalised weights, `L` their sum, `g` the row's cotangent, `v` the
    values: differentiating the quotient `E / L` gives what the kernel computes from the output's inner product with
    the cotangent. -/
theorem dscore (E : J → ℝ) {L : ℝ} (hL : L ≠ 0) (g : D → ℝ) (v : J → D → ℝ) (j : J) :
    ((∑ d, g d * v j d) / L + -(∑ k, (∑ d, g d * v k d) * (1 / (L * L)) * E k)) * E j
      = E j / L * ((∑ d, g d * v j d) - ∑ d, g d * ∑ k, E k / L * v k d) := by
  have h1 : ∑ d, g d * ∑ k, E k / L * v k d = (∑ k, (∑ d, g d * v k d) * E k) / L := by
    rw [Finset.sum_div]
    simp only [Finset.mul_sum, Finset.sum_mul, Finset.sum_div]
    rw [Finset.sum_comm]
    exact Finset.sum_congr rfl fun k _ => Finset.sum_congr rfl fun d _ => by ring
  have h2 : ∑ k, (∑ d, g d * v k d) * (1 / (L * L)) * E k = (∑ k, (∑ d, g d * v k d) * E k) / (L * L) := by
    rw [Finset.sum_div]
    exact Finset.sum_congr rfl fun k _ => by ring
  rw [h1, h2]
  field_simp
  ring

end Cert.Soft

end
-- ==== Proof.Mem.Ref.lean ====
/- The reference of the memory attention, one array per line of its text, each read at an index as a real number
   when the arguments are real. -/
module

public import proofs.«01_k».proof.Proof.Gen.Reference2Ideal.Run
public import proofs.«01_k».proof.Proof.Soft

@[expose] public section

set_option maxRecDepth 16384

noncomputable section

namespace Cert.Mem

open Idealize.ShloMosaic Idealize.ShloMosaic.TcCoe Idealize.SL.Sem

/-! ## Over the reals -/

/-- The scale `1/√128` as the programs' 32-bit word gives it. -/
def sc : ℝ := (Ideal.ofBits .f32 0x3DB504F3#32).toReal

theorem sc_eq : Ideal.ofBits .f32 0x3DB504F3#32 = (sc : EReal) := by
  have h : ∃ r : ℝ, Ideal.ofBits .f32 0x3DB504F3#32 = (r : EReal) := by
    simp only [Ideal.ofBits, Ideal.ieee]
    rw [if_neg (by decide), if_neg (by decide)]
    exact ⟨_, rfl⟩
  obtain ⟨r, hr⟩ := h
  rw [sc, hr, EReal.toReal_coe]

variable (q : Fin 4096 → Fin 128 → ℝ) (k v : Fin 256 → Fin 128 → ℝ) (g : Fin 4096 → Fin 128 → ℝ)

/-- A head's scores. -/
def S (i : Fin 4096) (j : Fin 256) : ℝ := (∑ d, q i d * k j d) * sc
/-- A row's largest score. -/
def M (i : Fin 4096) : ℝ := Finset.univ.sup' Finset.univ_nonempty (S q k i)
/-- The unnormalised weights. -/
def E (i : Fin 4096) (j : Fin 256) : ℝ := Real.exp (S q k i j - M q k i)
/-- Their sum along a row. -/
def L (i : Fin 4096) : ℝ := ∑ j, E q k i j
/-- The weights. -/
def P (i : Fin 4096) (j : Fin 256) : ℝ := E q k i j / L q k i
/-- The output. -/
def O (i : Fin 4096) (d : Fin 128) : ℝ := ∑ j, P q k i j * v j d
/-- The cotangent of the weights. -/
def DP (i : Fin 4096) (j : Fin 256) : ℝ := ∑ d, g i d * v j d
/-- The cotangent of the scores. -/
def DS (i : Fin 4096) (j : Fin 256) : ℝ := P q k i j * (DP v g i j - ∑ d, g i d * O q k v i d)
def DQ (i : Fin 4096) (d : Fin 128) : ℝ := ∑ j, DS q k v g i j * sc * k j d
def DK (j : Fin 256) (d : Fin 128) : ℝ := ∑ i, DS q k v g i j * sc * q i d
def DV (j : Fin 256) (d : Fin 128) : ℝ := ∑ i, P q k i j * g i d

theorem L_pos (i : Fin 4096) : 0 < L q k i := Finset.sum_pos (fun _ _ => Real.exp_pos _) Finset.univ_nonempty

/-! ## The reference's arrays -/

section Arrays

open Cert.Reference2Ideal Cert.Reference2Ideal.Gen Cert.Reference2Ideal.Value

variable (Q : FVec Ideal S1x4096x4x128 .f32) (K V : FVec Ideal S1x256x4x128 .f32) (G : FVec Ideal S1x4096x512 .f32)

def rS : FVec Ideal S1x4x4096x256 .f32 :=
  mulf (Host.dotGeneral dot_S1x4096x4x128_S1x256x4x128_S1x4x4096x256_3_3_1_1_02_02 none Q K)
    (broadcastInDim S1x4x4096x256 ![] bcast_S_S1x4x4096x256 (constant S_ .f32 0x3DB504F3#32))
def rM : FVec Ideal S1x4x4096 .f32 :=
  maximumf (broadcastInDim S1x4x4096 ![] bcast_S_S1x4x4096 (constant S_ .f32 0xFF800000#32))
    (Host.reduce FloatOps.maximumf (rS Q K) (constant S_ .f32 0xFF800000#32) reducesTo_S1x4x4096x256_S1x4x4096_d3 h_S_)
def rE : FVec Ideal S1x4x4096x256 .f32 :=
  Host.exp (subf (rS Q K) (broadcastInDim S1x4x4096x256 ![0, 1, 2, 3] bcast_S1x4x4096x1_S1x4x4096x256_0_1_2_3
    (broadcastInDim S1x4x4096x1 ![0, 1, 2] bcast_S1x4x4096_S1x4x4096x1_0_1_2 (rM Q K))))
def rL : FVec Ideal S1x4x4096x1 .f32 :=
  broadcastInDim S1x4x4096x1 ![0, 1, 2] bcast_S1x4x4096_S1x4x4096x1_0_1_2
    (Host.reduceAdd (rE Q K) (constant S_ .f32 0x00000000#32) reducesTo_S1x4x4096x256_S1x4x4096_d3 h_S_)
def rP : FVec Ideal S1x4x4096x256 .f32 :=
  Host.divf (rE Q K) (broadcastInDim S1x4x4096x256 ![0, 1, 2, 3] bcast_S1x4x4096x1_S1x4x4096x256_0_1_2_3 (rL Q K))
def rG : FVec Ideal S1x4x128x4096 .f32 :=
  transpose S1x4x128x4096 [0, 2, 3, 1] (shapeCast S1x4096x4x128 G shapeCasts_S1x4096x512_S1x4096x4x128) transposes_S1x4096x4x128_S1x4x128x4096_0_2_3_1
def rDP : FVec Ideal S1x4x4096x256 .f32 :=
  Host.dotGeneral dot_S1x4x128x4096_S1x256x4x128_S1x4x4096x256_2_3_3_1_01_02 none (rG G) V
def rN : FVec Ideal S1x4x4096x1 .f32 :=
  Host.negf (shapeCast S1x4x4096x1 (Host.reduceAdd (mulf (mulf (rDP V G) (broadcastInDim S1x4x4096x256 ![0, 1, 2, 3] bcast_S1x4x4096x1_S1x4x4096x256_0_1_2_3
    (Host.divf (broadcastInDim S1x4x4096x1 ![] bcast_S_S1x4x4096x1 (constant S_ .f32 0x3F800000#32)) (mulf (rL Q K) (rL Q K))))) (rE Q K))
    (constant S_ .f32 0x00000000#32) reducesTo_S1x4x4096x256_S1x4x4096_d3 h_S_) shapeCasts_S1x4x4096_S1x4x4096x1)
def rR : FVec Ideal S4x4096 .f32 :=
  Host.reduceAdd (rN Q K V G) (constant S_ .f32 0x00000000#32) reducesTo_S1x4x4096x1_S4x4096_d0_3 h_S_
def rD : FVec Ideal S1x4x4096x256 .f32 :=
  mulf (mulf (addf (Host.divf (rDP V G) (broadcastInDim S1x4x4096x256 ![0, 1, 2, 3] bcast_S1x4x4096x1_S1x4x4096x256_0_1_2_3 (rL Q K)))
    (broadcastInDim S1x4x4096x256 ![0, 1, 2] bcast_S1x4x4096_S1x4x4096x256_0_1_2 (broadcastInDim S1x4x4096 ![1, 2] bcast_S4x4096_S1x4x4096_1_2 (rR Q K V G))))
    (rE Q K)) (broadcastInDim S1x4x4096x256 ![] bcast_S_S1x4x4096x256 (constant S_ .f32 0x3DB504F3#32))
def rO : FVec Ideal S4096x512 .bf16 :=
  truncf .bf16 (shapeCast S4096x512 (shapeCast S1x4096x512 (transpose S1x4096x4x128 [0, 3, 1, 2]
    (Host.dotGeneral dot_S1x256x4x128_S1x4x4096x256_S1x4x128x4096_1_3_3_2_02_01 none V (rP Q K)) transposes_S1x4x128x4096_S1x4096x4x128_0_3_1_2)
    shapeCasts_S1x4096x4x128_S1x4096x512) shapeCasts_S1x4096x512_S4096x512) bitsLt_bf16_f32
def rDQ : FVec Ideal S4096x512 .f32 :=
  shapeCast S4096x512 (transpose S1x4096x4x128 [0, 2, 1, 3] (Host.dotGeneral dot_S1x4x4096x256_S1x256x4x128_S1x4x4096x128_3_1_2_3_01_02 none
    (rD Q K V G) K) transposes_S1x4x4096x128_S1x4096x4x128_0_2_1_3) shapeCasts_S1x4096x4x128_S4096x512
def rDK : FVec Ideal S256x512 .f32 :=
  shapeCast S256x512 (transpose S1x256x4x128 [0, 2, 1, 3] (Host.dotGeneral dot_S1x4x4096x256_S1x4096x4x128_S1x4x256x128_2_1_3_3_01_02 none
    (rD Q K V G) Q) transposes_S1x4x256x128_S1x256x4x128_0_2_1_3) shapeCasts_S1x256x4x128_S256x512
def rDV : FVec Ideal S256x512 .f32 :=
  shapeCast S256x512 (transpose S1x256x4x128 [0, 3, 1, 2] (Host.dotGeneral dot_S1x4x128x4096_S1x4x4096x256_S1x4x128x256_3_2_2_3_01_01 none
    (rG G) (rP Q K)) transposes_S1x4x128x256_S1x256x4x128_0_3_1_2) shapeCasts_S1x256x4x128_S256x512

/-- The reference ends with these four arrays. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v59) = rO (m ((c.tc : Thread nD τ).loc main_arg0)) (m ((c.tc : Thread nD τ).loc main_arg1)) (m ((c.tc : Thread nD τ).loc main_arg2))
      ∧ r.2.mem ((c.tc : Thread nD τ).loc main_v60) = rDQ (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v61) = rDK (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v62) = rDV (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  run m ρ

end Arrays

end Cert.Mem

end
-- ==== Proof.Mem.Body.lean ====
/- The two kernel bodies of the memory attention on one head's blocks, read at an index as real numbers. -/
module

public import proofs.«01_k».proof.Proof.Gen.Kernel2Ideal.Skeleton
public import proofs.«01_k».proof.Proof.Mem.Ref
public import Idealize.ShloMosaic.Lib.Pointwise

@[expose] public section

set_option maxRecDepth 16384

noncomputable section

namespace Cert.Mem

open Idealize.ShloMosaic Idealize.ShloMosaic.TcCoe Idealize.SL.Sem
open Cert.Kernel2Ideal Cert.Kernel2Ideal.Gen

section Body

variable {x0 xg : Vec Ideal S4096x128 .bf16} {x1 x2 : Vec Ideal S256x128 .bf16} {xl xd : Vec Ideal S1x4096x128 .f32}
variable {q g : Fin 4096 → Fin 128 → ℝ} {k v : Fin 256 → Fin 128 → ℝ}
variable (h0 : ∀ i d, x0 (ix2 i d) = ((q i d : ℝ) : EReal)) (h1 : ∀ j d, x1 (ix2 j d) = ((k j d : ℝ) : EReal))
  (h2 : ∀ j d, x2 (ix2 j d) = ((v j d : ℝ) : EReal)) (hg : ∀ i d, xg (ix2 i d) = ((g i d : ℝ) : EReal))
  (hl : ∀ i e, xl (ix3 0 i e) = ((M q k i + Real.log (L q k i) : ℝ) : EReal))
  (hd : ∀ i e, xd (ix3 0 i e) = ((∑ d, g i d * O q k v i d : ℝ) : EReal))

include h0 h1 in
theorem pay1_at (i : Fin 4096) (j : Fin 256) : k0_pay1 x0 x1 (ix2 i j) = ((S q k i j : ℝ) : EReal) := by
  pointwise [k0_pay1, h0, h1]
  rw [sc_eq, Soft.coe_sum_mul, ← EReal.coe_mul]; rfl

theorem multiMax_at (x : FVec Ideal S4096x256 .f32) (i : Fin 4096) :
    shapeCast S4096x1 (multiReduction .maximumf [1] S4096 x 0xFF800000#32 reduces_S4096x256_S4096 (.inl rfl) rfl) shapeCasts_S4096_S4096x1 (ix2 i 0)
      = Finset.univ.fold max (⊥ : EReal) (fun j => x (ix2 i j)) := by
  pointwise
  try rw [Soft.ofBits_negInf]

include h0 h1 in
theorem pay2_at (i : Fin 4096) : k0_pay2 x0 x1 (ix2 i 0) = ((M q k i : ℝ) : EReal) := by
  unfold k0_pay2
  rw [multiMax_at, M, ← Soft.fold_max_coe, funext (pay1_at h0 h1 i)]

include h0 h1 in
theorem pay3_at (i : Fin 4096) (j : Fin 256) : k0_pay3 x0 x1 (ix2 i j) = ((E q k i j : ℝ) : EReal) := by
  pointwise [k0_pay3, pay1_at h0 h1, pay2_at h0 h1]
  rw [← EReal.coe_sub, Ideal.exp_coe]; rfl

include h0 h1 in
theorem pay4_at (i : Fin 4096) : k0_pay4 x0 x1 (ix2 i 0) = ((L q k i : ℝ) : EReal) := by
  pointwise [k0_pay4, pay3_at h0 h1]
  rw [← Soft.coe_sum]; rfl

include h0 h1 h2 in
/-- The forward body's output block. -/
theorem pay5_at (i : Fin 4096) (d : Fin 128) : k0_pay5 x0 x1 x2 (ix2 i d) = ((O q k v i d : ℝ) : EReal) := by
  pointwise [k0_pay5, pay3_at h0 h1, pay4_at h0 h1, h2]
  simp only [Soft.div_coe_coe _ (L_pos _ _ _).ne']
  rw [Soft.coe_sum_mul]; rfl

theorem column_at (y : FVec Ideal S4096x1 .f32) (i : Fin 4096) (e : Fin 128) :
    shapeCast S1x4096x128 (broadcastTo S4096x128 (shapeCast S4096x1 y shapeCasts_S4096x1_S4096x1) broadcasts_S4096x1_S4096x128) shapeCasts_S4096x128_S1x4096x128 (ix3 0 i e)
      = y (ix2 i 0) := by
  pointwise

include h0 h1 in
/-- The forward body's log-sum block. -/
theorem pay6_at (i : Fin 4096) (e : Fin 128) : k0_pay6 x0 x1 (ix3 0 i e) = ((M q k i + Real.log (L q k i) : ℝ) : EReal) := by
  have e1 : k0_pay6 x0 x1 (ix3 0 i e) = addf (k0_pay2 x0 x1) (log (k0_pay4 x0 x1)) (ix2 i 0) := column_at _ i e
  have e2 : log (k0_pay4 x0 x1) (ix2 i 0) = Ideal.log (k0_pay4 x0 x1 (ix2 i 0)) := rfl
  rw [e1, addf_apply, e2, pay2_at h0 h1, pay4_at h0 h1, Soft.log_coe_pos (L_pos _ _ _)]
  exact (EReal.coe_add _ _).symm

include h0 h1 hl in
theorem pay7_at (i : Fin 4096) (j : Fin 256) : k1_pay7 x0 x1 xl (ix2 i j) = ((P q k i j : ℝ) : EReal) := by
  pointwise [k1_pay7, k1_pay5, h0, h1, hl]
  rw [dite_eq_ite, ite_self, sc_eq, Soft.coe_sum_mul, ← EReal.coe_mul, ← EReal.coe_sub, Ideal.exp_coe]
  exact congrArg _ (Soft.exp_sub_lse _ _ (L_pos _ _ _))

include h0 h1 h2 hg hl hd in
theorem pay8_at (i : Fin 4096) (j : Fin 256) : k1_pay8 x0 xg x1 xl x2 xd (ix2 i j) = ((DS q k v g i j : ℝ) : EReal) := by
  pointwise [k1_pay8, k1_pay6, pay7_at h0 h1 hl, hg, h2, hd]
  rw [dite_eq_ite, ite_self, Soft.coe_sum_mul, ← EReal.coe_sub, ← EReal.coe_mul]; rfl

include h0 h1 h2 hg hl hd in
/-- The backward body's `dq` block. -/
theorem pay9_at (i : Fin 4096) (d : Fin 128) : k1_pay9 x0 xg x1 xl x2 xd x1 (ix2 i d) = ((DQ q k v g i d : ℝ) : EReal) := by
  pointwise [k1_pay9, pay8_at h0 h1 h2 hg hl hd, h1]
  rw [sc_eq, Soft.coe_sum_mul, ← EReal.coe_mul, Finset.sum_mul]
  exact congrArg _ (Finset.sum_congr rfl fun j _ => by ring)

include h0 h1 h2 hg hl hd in
/-- The backward body's `dk` block. -/
theorem payK_at (j : Fin 256) (d : Fin 128) :
    k1_pay1 (k1_pay5 x0) (k1_pay8 x0 xg x1 xl x2 xd) (k1_pay3 (F := Ideal)) (ix2 j d) = ((DK q k v g j d : ℝ) : EReal) := by
  pointwise [k1_pay1, k1_pay5, k1_pay3, pay8_at h0 h1 h2 hg hl hd, h0]
  rw [sc_eq, Soft.coe_sum_mul, ← EReal.coe_mul, Finset.sum_mul]
  exact congrArg _ (Finset.sum_congr rfl fun j _ => by ring)

include h0 h1 hg hl in
/-- The backward body's `dv` block. -/
theorem payV_at (j : Fin 256) (d : Fin 128) :
    k1_pay2 (k1_pay6 xg) (k1_pay7 x0 x1 xl) (k1_pay4 (F := Ideal)) (ix2 j d) = ((DV q k g j d : ℝ) : EReal) := by
  pointwise [k1_pay2, k1_pay6, k1_pay4, pay7_at h0 h1 hl, hg]
  rw [Soft.coe_sum_mul]; rfl

end Body

end Cert.Mem

end
-- ==== Proof.Mem.Region0.lean ====
/- The memory attention's forward region: its two result arrays as real numbers. -/
module

public import proofs.«01_k».proof.Proof.Gen.Kernel2Ideal.Frame
public import proofs.«01_k».proof.Proof.Mem.Body
public import Idealize.ShloMosaic.Lib.Pipeline.ValueKit

@[expose] public section

set_option maxRecDepth 16384

noncomputable section

namespace Cert.Mem

open Idealize.ShloMosaic Idealize.ShloMosaic.TcCoe Idealize.SL.Sem
open Idealize.ShloMosaic.Pipeline (Dat)
open Cert.Kernel2Ideal Cert.Kernel2Ideal.Gen

theorem idx0 : ∀ t : Fin cfg0.N, t.val < 4 ∧ win0_0.index t = ![0, t.val] ∧ win0_1.index t = ![0, t.val] ∧ win0_2.index t = ![0, t.val]
    ∧ win0_3.index t = ![0, t.val] ∧ win0_4.index t = ![t.val, 0, 0] :=
  (by decide +kernel : ∀ t : Fin grid0.N, _)

/-- The head that a grid point works on. -/
def head0 (t : Fin cfg0.N) : Fin 4 := ⟨t.val, (idx0 t).1⟩
/-- The head that a column belongs to, and its place in the head. -/
def hd (n : Fin 512) : Fin 4 := ⟨n.val / 128, by omega⟩
def ld (n : Fin 512) : Fin 128 := ⟨n.val % 128, by omega⟩

variable (q g : Fin 4 → Fin 4096 → Fin 128 → ℝ) (k v : Fin 4 → Fin 256 → Fin 128 → ℝ)

/-- The output, the log-sum and the three gradients of all heads as arrays. -/
def gO : FVec Ideal S4096x512 .bf16 := fun y => ((O (q (hd (y 1))) (k (hd (y 1))) (v (hd (y 1))) (y 0) (ld (y 1)) : ℝ) : EReal)
def gLse : FVec Ideal S4x4096x128 .f32 := fun y => ((M (q (y 0)) (k (y 0)) (y 1) + Real.log (L (q (y 0)) (k (y 0)) (y 1)) : ℝ) : EReal)

theorem hd_mk (h : Fin 4) (d : Fin 128) : hd ⟨h.val * 128 + d.val, by omega⟩ = h := Fin.ext (by unfold hd; dsimp only; omega)
theorem ld_mk (h : Fin 4) (d : Fin 128) : ld ⟨h.val * 128 + d.val, by omega⟩ = d := Fin.ext (by unfold ld; dsimp only; omega)

theorem gO_at (h : Fin 4) (i : Fin 4096) (d : Fin 128) :
    gO q k v (ix2 i ⟨h.val * 128 + d.val, by omega⟩) = ((O (q h) (k h) (v h) i d : ℝ) : EReal) := by
  show ((O (q (hd ⟨h.val * 128 + d.val, _⟩)) (k (hd ⟨h.val * 128 + d.val, _⟩)) (v (hd ⟨h.val * 128 + d.val, _⟩)) i (ld ⟨h.val * 128 + d.val, _⟩) : ℝ) : EReal) = _
  rw [hd_mk, ld_mk]

variable {q k v}
variable (V : (c : Dev nD) → (b : Ref sig .tc) → Buf (Elt Ideal) ((c : Thread nD τ).loc b)) (c : Dev nD)
variable (hq : ∀ h i (d : Fin 128), V c main_v1 (ix2 i (⟨h.val * 128 + d.val, by omega⟩ : Fin 512)) = ((q h i d : ℝ) : EReal))
  (hk : ∀ h i (d : Fin 128), V c main_v3 (ix2 i (⟨h.val * 128 + d.val, by omega⟩ : Fin 512)) = ((k h i d : ℝ) : EReal))
  (hv : ∀ h i (d : Fin 128), V c main_v5 (ix2 i (⟨h.val * 128 + d.val, by omega⟩ : Fin 512)) = ((v h i d : ℝ) : EReal))

include hq in
theorem blk0_0 (t : Fin cfg0.N) (i : Fin 4096) (d : Fin 128) : iblk0 V c 0 t (ix2 i d) = ((q (head0 t) i d : ℝ) : EReal) := by
  rw [← hq]
  blk_ext [iblk0, idx0 t, head0]

include hk in
theorem blk0_1 (t : Fin cfg0.N) (i : Fin 256) (d : Fin 128) : iblk0 V c 1 t (ix2 i d) = ((k (head0 t) i d : ℝ) : EReal) := by
  rw [← hk]
  blk_ext [iblk0, idx0 t, head0]

include hv in
theorem blk0_2 (t : Fin cfg0.N) (i : Fin 256) (d : Fin 128) : iblk0 V c 2 t (ix2 i d) = ((v (head0 t) i d : ℝ) : EReal) := by
  rw [← hv]
  blk_ext [iblk0, idx0 t, head0]

include hq hk hv in
theorem final0_3 : (dat0 V c).arrAt 3 cfg0.N = gO q k v := by
  refine (dat0 V c).arrAt_eq_of_covers 3 _ (by decide +kernel) fun t hf y => ?_
  blk_simp
  rw [after0_3]
  frame_out
  idx_vars y
  have e : ((View.whole main_v7_0).slice (win0_3.rect t)).emb (ix2 y0 y1) = ix2 y0 (⟨(head0 t).val * 128 + y1.val, by omega⟩ : Fin 512) := by
    blk_ext [idx0 t, head0]
  rw [e, gO_at]
  exact pay5_at (blk0_0 V c hq t) (blk0_1 V c hk t) (blk0_2 V c hv t) y0 y1

include hq hk in
theorem final0_4 : (dat0 V c).arrAt 4 cfg0.N = gLse q k := by
  refine (dat0 V c).arrAt_eq_of_covers 4 _ (by decide +kernel) fun t hf y => ?_
  blk_simp
  rw [after0_4]
  frame_out
  idx_vars y
  obtain rfl : y0 = 0 := Subsingleton.elim _ _
  have e : ((View.whole main_v7_1).slice (win0_4.rect t)).emb (ix3 0 y1 y2) = ix3 (head0 t) y1 y2 := by
    blk_ext [idx0 t, head0]
  rw [e]
  exact pay6_at (blk0_0 V c hq t) (blk0_1 V c hk t) y1 y2

end Cert.Mem

end
-- ==== Proof.Mem.Region1.lean ====
/- The memory attention's backward region: its three result arrays as real numbers. -/
module

public import proofs.«01_k».proof.Proof.Mem.Region0

@[expose] public section

set_option maxRecDepth 16384

noncomputable section

namespace Cert.Mem

open Idealize.ShloMosaic Idealize.ShloMosaic.TcCoe Idealize.SL.Sem
open Idealize.ShloMosaic.Pipeline (Dat)
open Cert.Kernel2Ideal Cert.Kernel2Ideal.Gen

theorem idx1 : ∀ t : Fin cfg1.N, t.val < 4 ∧ win1_0.index t = ![0, t.val] ∧ win1_1.index t = ![0, t.val] ∧ win1_2.index t = ![0, t.val]
    ∧ win1_3.index t = ![0, t.val] ∧ win1_4.index t = ![t.val, 0, 0] ∧ win1_5.index t = ![t.val, 0, 0]
    ∧ win1_6.index t = ![0, t.val] ∧ win1_7.index t = ![0, t.val] ∧ win1_8.index t = ![0, t.val] :=
  (by decide +kernel : ∀ t : Fin grid1.N, _)

def head1 (t : Fin cfg1.N) : Fin 4 := ⟨t.val, (idx1 t).1⟩

variable (q g : Fin 4 → Fin 4096 → Fin 128 → ℝ) (k v : Fin 4 → Fin 256 → Fin 128 → ℝ)

def gDQ : FVec Ideal S4096x512 .f32 := fun y => ((DQ (q (hd (y 1))) (k (hd (y 1))) (v (hd (y 1))) (g (hd (y 1))) (y 0) (ld (y 1)) : ℝ) : EReal)
def gDK : FVec Ideal S256x512 .f32 := fun y => ((DK (q (hd (y 1))) (k (hd (y 1))) (v (hd (y 1))) (g (hd (y 1))) (y 0) (ld (y 1)) : ℝ) : EReal)
def gDV : FVec Ideal S256x512 .f32 := fun y => ((DV (q (hd (y 1))) (k (hd (y 1))) (g (hd (y 1))) (y 0) (ld (y 1)) : ℝ) : EReal)

theorem gDQ_at (h : Fin 4) (i : Fin 4096) (d : Fin 128) :
    gDQ q g k v (ix2 i ⟨h.val * 128 + d.val, by omega⟩) = ((DQ (q h) (k h) (v h) (g h) i d : ℝ) : EReal) := by
  show ((DQ (q (hd ⟨h.val * 128 + d.val, _⟩)) (k (hd ⟨h.val * 128 + d.val, _⟩)) (v (hd ⟨h.val * 128 + d.val, _⟩)) (g (hd ⟨h.val * 128 + d.val, _⟩)) i (ld ⟨h.val * 128 + d.val, _⟩) : ℝ) : EReal) = _
  rw [hd_mk, ld_mk]
theorem gDK_at (h : Fin 4) (i : Fin 256) (d : Fin 128) :
    gDK q g k v (ix2 i ⟨h.val * 128 + d.val, by omega⟩) = ((DK (q h) (k h) (v h) (g h) i d : ℝ) : EReal) := by
  show ((DK (q (hd ⟨h.val * 128 + d.val, _⟩)) (k (hd ⟨h.val * 128 + d.val, _⟩)) (v (hd ⟨h.val * 128 + d.val, _⟩)) (g (hd ⟨h.val * 128 + d.val, _⟩)) i (ld ⟨h.val * 128 + d.val, _⟩) : ℝ) : EReal) = _
  rw [hd_mk, ld_mk]
theorem gDV_at (h : Fin 4) (i : Fin 256) (d : Fin 128) :
    gDV q g k (ix2 i ⟨h.val * 128 + d.val, by omega⟩) = ((DV (q h) (k h) (g h) i d : ℝ) : EReal) := by
  show ((DV (q (hd ⟨h.val * 128 + d.val, _⟩)) (k (hd ⟨h.val * 128 + d.val, _⟩)) (g (hd ⟨h.val * 128 + d.val, _⟩)) i (ld ⟨h.val * 128 + d.val, _⟩) : ℝ) : EReal) = _
  rw [hd_mk, ld_mk]

variable {q k v g}
variable (V : (c : Dev nD) → (b : Ref sig .tc) → Buf (Elt Ideal) ((c : Thread nD τ).loc b)) (c : Dev nD)
variable (hq : ∀ h i (d : Fin 128), V c main_v1 (ix2 i (⟨h.val * 128 + d.val, by omega⟩ : Fin 512)) = ((q h i d : ℝ) : EReal))
  (hk : ∀ h i (d : Fin 128), V c main_v3 (ix2 i (⟨h.val * 128 + d.val, by omega⟩ : Fin 512)) = ((k h i d : ℝ) : EReal))
  (hv : ∀ h i (d : Fin 128), V c main_v5 (ix2 i (⟨h.val * 128 + d.val, by omega⟩ : Fin 512)) = ((v h i d : ℝ) : EReal))
  (hg : ∀ h i (d : Fin 128), V c main_v15 (ix2 i (⟨h.val * 128 + d.val, by omega⟩ : Fin 512)) = ((g h i d : ℝ) : EReal))
  (hl : ∀ h i (e : Fin 128), V c main_v7_1 (ix3 h i e) = ((M (q h) (k h) i + Real.log (L (q h) (k h) i) : ℝ) : EReal))
  (hd : ∀ h i (e : Fin 128), V c main_v14 (ix3 h i e) = ((∑ d, g h i d * O (q h) (k h) (v h) i d : ℝ) : EReal))

include hq in
theorem blk1_0 (t : Fin cfg1.N) (i : Fin 4096) (d : Fin 128) : iblk1 V c 0 t (ix2 i d) = ((q (head1 t) i d : ℝ) : EReal) := by
  rw [← hq]
  blk_ext [iblk1, idx1 t, head1]

include hk in
theorem blk1_1 (t : Fin cfg1.N) (i : Fin 256) (d : Fin 128) : iblk1 V c 1 t (ix2 i d) = ((k (head1 t) i d : ℝ) : EReal) := by
  rw [← hk]
  blk_ext [iblk1, idx1 t, head1]

include hv in
theorem blk1_2 (t : Fin cfg1.N) (i : Fin 256) (d : Fin 128) : iblk1 V c 2 t (ix2 i d) = ((v (head1 t) i d : ℝ) : EReal) := by
  rw [← hv]
  blk_ext [iblk1, idx1 t, head1]

include hg in
theorem blk1_3 (t : Fin cfg1.N) (i : Fin 4096) (d : Fin 128) : iblk1 V c 3 t (ix2 i d) = ((g (head1 t) i d : ℝ) : EReal) := by
  rw [← hg]
  blk_ext [iblk1, idx1 t, head1]

include hl in
theorem blk1_4 (t : Fin cfg1.N) (i : Fin 4096) (d : Fin 128) : iblk1 V c 4 t (ix3 0 i d) = ((M (q (head1 t)) (k (head1 t)) i + Real.log (L (q (head1 t)) (k (head1 t)) i) : ℝ) : EReal) := by
  rw [← hl _ _ d]
  blk_ext [iblk1, idx1 t, head1]

include hd in
theorem blk1_5 (t : Fin cfg1.N) (i : Fin 4096) (d : Fin 128) : iblk1 V c 5 t (ix3 0 i d) = ((∑ d, g (head1 t) i d * O (q (head1 t)) (k (head1 t)) (v (head1 t)) i d : ℝ) : EReal) := by
  rw [← hd _ _ d]
  blk_ext [iblk1, idx1 t, head1]

include hq hk hv hg hl hd in
theorem final1_6 : (dat1 V c).arrAt 6 cfg1.N = gDQ q g k v := by
  refine (dat1 V c).arrAt_eq_of_covers 6 _ (by decide +kernel) fun t hf y => ?_
  blk_simp
  rw [after1_6]
  unfold outsAt1
  frame_out
  idx_vars y
  have e : ((View.whole main_v16_0).slice (win1_6.rect t)).emb (ix2 y0 y1) = ix2 y0 (⟨(head1 t).val * 128 + y1.val, by omega⟩ : Fin 512) := by
    blk_ext [idx1 t, head1]
  rw [e, gDQ_at]
  exact pay9_at (blk1_0 V c hq t) (blk1_1 V c hk t) (blk1_2 V c hv t) (blk1_3 V c hg t) (blk1_4 V c hl t) (blk1_5 V c hd t) y0 y1

include hq hk hv hg hl hd in
theorem final1_7 : (dat1 V c).arrAt 7 cfg1.N = gDK q g k v := by
  refine (dat1 V c).arrAt_eq_of_covers 7 _ (by decide +kernel) fun t hf y => ?_
  blk_simp
  rw [after1_7]
  unfold outsAt1
  frame_out
  idx_vars y
  have e : ((View.whole main_v16_1).slice (win1_7.rect t)).emb (ix2 y0 y1) = ix2 y0 (⟨(head1 t).val * 128 + y1.val, by omega⟩ : Fin 512) := by
    blk_ext [idx1 t, head1]
  rw [e, gDK_at]
  exact payK_at (blk1_0 V c hq t) (blk1_1 V c hk t) (blk1_2 V c hv t) (blk1_3 V c hg t) (blk1_4 V c hl t) (blk1_5 V c hd t) y0 y1

include hq hk hg hl in
theorem final1_8 : (dat1 V c).arrAt 8 cfg1.N = gDV q g k := by
  refine (dat1 V c).arrAt_eq_of_covers 8 _ (by decide +kernel) fun t hf y => ?_
  blk_simp
  rw [after1_8]
  unfold outsAt1
  frame_out
  idx_vars y
  have e : ((View.whole main_v16_2).slice (win1_8.rect t)).emb (ix2 y0 y1) = ix2 y0 (⟨(head1 t).val * 128 + y1.val, by omega⟩ : Fin 512) := by
    blk_ext [idx1 t, head1]
  rw [e, gDV_at]
  exact payV_at (blk1_0 V c hq t) (blk1_1 V c hk t) (blk1_3 V c hg t) (blk1_4 V c hl t) y0 y1

end Cert.Mem

end
-- ==== Proof.Mem.Entry.lean ====
/- What the two regions of the memory attention's program find in their arrays, as real numbers. -/
module

public import proofs.«01_k».proof.Proof.Mem.Region1
public import Idealize.ShloMosaic.Lib.Claim
public import Idealize.ShloMosaic.Lib.IdealHost

@[expose] public section

set_option maxRecDepth 16384

noncomputable section

namespace Cert.Mem

open Idealize.ShloMosaic Idealize.ShloMosaic.TcCoe Idealize.ShloMosaic.Tactic Idealize.SL.Sem
open Cert.Kernel2Ideal Cert.Kernel2Ideal.Gen

/-! ## The host's operations at an index -/

theorem rowsCast_at (x : FVec Ideal S1x4096x4x128 .f32) (h : Fin 4) (i : Fin 4096) (d : Fin 128) :
    truncf (F := Ideal) .bf16 (shapeCast S4096x512 x shapeCasts_S1x4096x4x128_S4096x512) bitsLt_bf16_f32 (ix2 i (⟨h.val * 128 + d.val, by omega⟩ : Fin 512))
      = x (ix4 0 i h d) := by
  pointwise

theorem keysCast_at (x : FVec Ideal S1x256x4x128 .f32) (h : Fin 4) (i : Fin 256) (d : Fin 128) :
    truncf (F := Ideal) .bf16 (shapeCast S256x512 x shapeCasts_S1x256x4x128_S256x512) bitsLt_bf16_f32 (ix2 i (⟨h.val * 128 + d.val, by omega⟩ : Fin 512))
      = x (ix4 0 i h d) := by
  pointwise

theorem ctCast_at (x : FVec Ideal S1x4096x512 .f32) (i : Fin 4096) (n : Fin 512) :
    shapeCast S4096x512 x shapeCasts_S1x4096x512_S4096x512 (ix2 i n) = x (ix3 0 i n) := by
  pointwise

theorem delta_at (x : FVec Ideal S4096x512 .f32) (o : FVec Ideal S4096x512 .bf16) (h : Fin 4) (i : Fin 4096) (e : Fin 128) :
    broadcastInDim S4x4096x128 ![0, 1, 2] bcast_S4x4096x1_S4x4096x128_0_1_2 (broadcastInDim S4x4096x1 ![0, 1] bcast_S4x4096_S4x4096x1_0_1
      (transpose S4x4096 [1, 0] (Host.reduceAdd (shapeCast S4096x4x128 (mulf x (extf .f32 o bitsLt_bf16_f32)) shapeCasts_S4096x512_S4096x4x128)
        (constant S_ .f32 0x00000000#32) reducesTo_S4096x4x128_S4096x4_d2 h_S_) transposes_S4096x4_S4x4096_1_0)) (ix3 h i e)
      = ∑ d : Fin 128, x (ix2 i (⟨h.val * 128 + d.val, by omega⟩ : Fin 512)) * o (ix2 i (⟨h.val * 128 + d.val, by omega⟩ : Fin 512)) := by
  pointwise

section Entry

variable (m : (ℓ : Loc nD τ sig) → Buf (Elt Ideal) ℓ) (ρ : Dev nD → PrngReg) (c : Dev nD)

theorem V1_v1 : V1 m ρ c main_v1 = truncf (F := Ideal) .bf16 (shapeCast S4096x512 (m ((c : Thread nD τ).loc main_arg0)) shapeCasts_S1x4096x4x128_S4096x512) bitsLt_bf16_f32 := by
  unfold_abbrev_sides
  after_results
  rfl
theorem V1_v3 : V1 m ρ c main_v3 = truncf (F := Ideal) .bf16 (shapeCast S256x512 (m ((c : Thread nD τ).loc main_arg1)) shapeCasts_S1x256x4x128_S256x512) bitsLt_bf16_f32 := by
  unfold_abbrev_sides
  after_results
  rfl
theorem V1_v5 : V1 m ρ c main_v5 = truncf (F := Ideal) .bf16 (shapeCast S256x512 (m ((c : Thread nD τ).loc main_arg2)) shapeCasts_S1x256x4x128_S256x512) bitsLt_bf16_f32 := by
  unfold_abbrev_sides
  after_results
  rfl
theorem V1_v6 : V1 m ρ c main_v6 = shapeCast S4096x512 (m ((c : Thread nD τ).loc main_arg3)) shapeCasts_S1x4096x512_S4096x512 := by
  unfold_abbrev_sides
  after_results
  rfl

variable {q g : Fin 4 → Fin 4096 → Fin 128 → ℝ} {k v : Fin 4 → Fin 256 → Fin 128 → ℝ}
variable (h0 : ∀ h i d, m ((c : Thread nD τ).loc main_arg0) (ix4 0 i h d) = ((q h i d : ℝ) : EReal))
  (h1 : ∀ h i d, m ((c : Thread nD τ).loc main_arg1) (ix4 0 i h d) = ((k h i d : ℝ) : EReal))
  (h2 : ∀ h i d, m ((c : Thread nD τ).loc main_arg2) (ix4 0 i h d) = ((v h i d : ℝ) : EReal))
  (h3 : ∀ (h : Fin 4) i (d : Fin 128), m ((c : Thread nD τ).loc main_arg3) (ix3 0 i (⟨h.val * 128 + d.val, by omega⟩ : Fin 512)) = ((g h i d : ℝ) : EReal))

include h0 in
theorem V1_q (h : Fin 4) (i : Fin 4096) (d : Fin 128) : V1 m ρ c main_v1 (ix2 i (⟨h.val * 128 + d.val, by omega⟩ : Fin 512)) = ((q h i d : ℝ) : EReal) :=
  (congrFun (V1_v1 m ρ c) _).trans ((rowsCast_at _ h i d).trans (h0 h i d))
include h1 in
theorem V1_k (h : Fin 4) (i : Fin 256) (d : Fin 128) : V1 m ρ c main_v3 (ix2 i (⟨h.val * 128 + d.val, by omega⟩ : Fin 512)) = ((k h i d : ℝ) : EReal) :=
  (congrFun (V1_v3 m ρ c) _).trans ((keysCast_at _ h i d).trans (h1 h i d))
include h2 in
theorem V1_v (h : Fin 4) (i : Fin 256) (d : Fin 128) : V1 m ρ c main_v5 (ix2 i (⟨h.val * 128 + d.val, by omega⟩ : Fin 512)) = ((v h i d : ℝ) : EReal) :=
  (congrFun (V1_v5 m ρ c) _).trans ((keysCast_at _ h i d).trans (h2 h i d))
include h3 in
theorem V1_g (h : Fin 4) (i : Fin 4096) (d : Fin 128) : V1 m ρ c main_v6 (ix2 i (⟨h.val * 128 + d.val, by omega⟩ : Fin 512)) = ((g h i d : ℝ) : EReal) :=
  (congrFun (V1_v6 m ρ c) _).trans ((ctCast_at _ i _).trans (h3 h i d))

include h0 h1 h2 in
theorem W2_o : W2 m ρ c (Proc.devRef .tc main_v7_0) = gO q k v :=
  (W2_arr m ρ c 3).trans (final0_3 (V1 m ρ) c (V1_q m ρ c h0) (V1_k m ρ c h1) (V1_v m ρ c h2))
include h0 h1 in
theorem W2_lse : W2 m ρ c (Proc.devRef .tc main_v7_1) = gLse q k :=
  (W2_arr m ρ c 4).trans (final0_4 (V1 m ρ) c (V1_q m ρ c h0) (V1_k m ρ c h1))

theorem W2_in (r : Ref sig .tc) (h : ∀ w : Fin cfg0.W, Pipeline.arrRef spec0 w = r → (cfg0.win w).isOut = false)
    (h' : r ∉ hostOps1_W) : V3 m ρ c r = V1 m ρ c r :=
  (W3_of m ρ c r h').trans (W2_of m ρ c r h)

theorem V3_v15 : V3 m ρ c main_v15 = truncf (F := Ideal) .bf16 (W2 m ρ c (Proc.devRef .tc main_v6)) bitsLt_bf16_f32 := by
  unfold_abbrev_sides
  after_results
theorem V3_v14 : V3 m ρ c main_v14 = broadcastInDim S4x4096x128 ![0, 1, 2] bcast_S4x4096x1_S4x4096x128_0_1_2 (broadcastInDim S4x4096x1 ![0, 1] bcast_S4x4096_S4x4096x1_0_1
      (transpose S4x4096 [1, 0] (Host.reduceAdd (F := Ideal) (shapeCast S4096x4x128 (mulf (W2 m ρ c (Proc.devRef .tc main_v6)) (extf .f32 (W2 m ρ c (Proc.devRef .tc main_v7_0)) bitsLt_bf16_f32)) shapeCasts_S4096x512_S4096x4x128)
        (constant S_ .f32 0x00000000#32) reducesTo_S4096x4x128_S4096x4_d2 h_S_) transposes_S4096x4_S4x4096_1_0)) := by
  unfold_abbrev_sides
  after_results
  rfl

theorem W2_v6 : W2 m ρ c (Proc.devRef .tc main_v6) = V1 m ρ c main_v6 := W2_of m ρ c main_v6 (by decide +kernel)

include h3 in
theorem V3_g (h : Fin 4) (i : Fin 4096) (d : Fin 128) : V3 m ρ c main_v15 (ix2 i (⟨h.val * 128 + d.val, by omega⟩ : Fin 512)) = ((g h i d : ℝ) : EReal) := by
  rw [V3_v15, W2_v6]
  exact V1_g m ρ c h3 h i d

include h0 h1 h2 h3 in
theorem V3_delta (h : Fin 4) (i : Fin 4096) (e : Fin 128) : V3 m ρ c main_v14 (ix3 h i e) = ((∑ d, g h i d * O (q h) (k h) (v h) i d : ℝ) : EReal) := by
  rw [V3_v14, W2_v6, W2_o m ρ c h0 h1 h2, delta_at]
  exact (Finset.sum_congr (M := EReal) rfl fun d _ => congrArg₂ (fun a b : EReal => a * b) (V1_g m ρ c h3 h i d) (gO_at q k v h i d)).trans
    (Soft.coe_sum_mul _ _)

include h0 h1 in
theorem V3_lse (h : Fin 4) (i : Fin 4096) (e : Fin 128) : V3 m ρ c main_v7_1 (ix3 h i e) = ((M (q h) (k h) i + Real.log (L (q h) (k h) i) : ℝ) : EReal) :=
  congrFun ((W3_of m ρ c main_v7_1 (by decide)).trans (W2_lse m ρ c h0 h1)) (ix3 h i e)

include h0 in
theorem V3_q (h : Fin 4) (i : Fin 4096) (d : Fin 128) : V3 m ρ c main_v1 (ix2 i (⟨h.val * 128 + d.val, by omega⟩ : Fin 512)) = ((q h i d : ℝ) : EReal) :=
  (congrFun (W2_in m ρ c main_v1 (by decide +kernel) (by decide)) _).trans (V1_q m ρ c h0 h i d)
include h1 in
theorem V3_k (h : Fin 4) (i : Fin 256) (d : Fin 128) : V3 m ρ c main_v3 (ix2 i (⟨h.val * 128 + d.val, by omega⟩ : Fin 512)) = ((k h i d : ℝ) : EReal) :=
  (congrFun (W2_in m ρ c main_v3 (by decide +kernel) (by decide)) _).trans (V1_k m ρ c h1 h i d)
include h2 in
theorem V3_v (h : Fin 4) (i : Fin 256) (d : Fin 128) : V3 m ρ c main_v5 (ix2 i (⟨h.val * 128 + d.val, by omega⟩ : Fin 512)) = ((v h i d : ℝ) : EReal) :=
  (congrFun (W2_in m ρ c main_v5 (by decide +kernel) (by decide)) _).trans (V1_v m ρ c h2 h i d)

/-! ## What the program leaves in its four results -/

include h0 h1 h2 in
theorem W4_o : W4 m ρ c (Proc.devRef .tc main_v7_0) = gO q k v :=
  (W4_of m ρ c main_v7_0 (by decide +kernel)).trans ((W3_of m ρ c main_v7_0 (by decide)).trans (W2_o m ρ c h0 h1 h2))
include h0 h1 h2 h3 in
theorem W4_dq : W4 m ρ c (Proc.devRef .tc main_v16_0) = gDQ q g k v :=
  (W4_arr m ρ c 6).trans (final1_6 (V3 m ρ) c (V3_q m ρ c h0) (V3_k m ρ c h1) (V3_v m ρ c h2) (V3_g m ρ c h3) (V3_lse m ρ c h0 h1) (V3_delta m ρ c h0 h1 h2 h3))
include h0 h1 h2 h3 in
theorem W4_dk : W4 m ρ c (Proc.devRef .tc main_v16_1) = gDK q g k v :=
  (W4_arr m ρ c 7).trans (final1_7 (V3 m ρ) c (V3_q m ρ c h0) (V3_k m ρ c h1) (V3_v m ρ c h2) (V3_g m ρ c h3) (V3_lse m ρ c h0 h1) (V3_delta m ρ c h0 h1 h2 h3))
include h0 h1 h3 in
theorem W4_dv : W4 m ρ c (Proc.devRef .tc main_v16_2) = gDV q g k :=
  (W4_arr m ρ c 8).trans (final1_8 (V3 m ρ) c (V3_q m ρ c h0) (V3_k m ρ c h1) (V3_g m ρ c h3) (V3_lse m ρ c h0 h1))

end Entry

end Cert.Mem

end
-- ==== Proof.Mem.Run.lean ====
/- The memory attention's program: what its launch leaves in every buffer, and the entry contents of its two regions. -/
module

public import proofs.«01_k».proof.Proof.Gen.Kernel2Ideal.Frame
public import Idealize.ShloMosaic.Lib.Pipeline.ValueKit
public import Idealize.ShloMosaic.Lib.Pointwise
public import Idealize.ShloMosaic.Lib.Claim

@[expose] public section

set_option maxRecDepth 16384

noncomputable section

namespace Cert.Mem

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

section Launch

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer that outlives the regions ends as the fold through @main has it, every counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

end Launch

end Cert.Mem

end
-- ==== Proof.Mem.RefAt.lean ====
/- The arrays of the memory attention's reference read at an index, as real numbers. -/
module

public import proofs.«01_k».proof.Proof.Mem.Ref
public import Idealize.ShloMosaic.Lib.IdealHost

@[expose] public section

set_option maxRecDepth 16384

noncomputable section

namespace Cert.Mem

open Idealize.ShloMosaic Idealize.ShloMosaic.TcCoe Idealize.SL.Sem

section Arrays

open Cert.Reference2Ideal Cert.Reference2Ideal.Gen Cert.Reference2Ideal.Value

/-! ## Read at an index -/

/-- Lane `d` of head `h` lies within the columns. -/
theorem col_lt (h : Fin 4) (d : Fin 128) : h.val * 128 + d.val < 512 := by omega

variable {Q : FVec Ideal S1x4096x4x128 .f32} {K V : FVec Ideal S1x256x4x128 .f32} {G : FVec Ideal S1x4096x512 .f32}
variable {q : Fin 4 → Fin 4096 → Fin 128 → ℝ} {k v : Fin 4 → Fin 256 → Fin 128 → ℝ} {g : Fin 4 → Fin 4096 → Fin 128 → ℝ}
variable (hQ : ∀ h i d, Q (ix4 0 i h d) = ((q h i d : ℝ) : EReal)) (hK : ∀ h j d, K (ix4 0 j h d) = ((k h j d : ℝ) : EReal))
  (hV : ∀ h j d, V (ix4 0 j h d) = ((v h j d : ℝ) : EReal))
  (hG : ∀ (h : Fin 4) i (d : Fin 128), G (ix3 0 i ⟨h.val * 128 + d.val, col_lt h d⟩) = ((g h i d : ℝ) : EReal))

include hQ hK in
theorem rS_at (h : Fin 4) (i : Fin 4096) (j : Fin 256) : rS Q K (ix4 0 h i j) = ((S (q h) (k h) i j : ℝ) : EReal) := by
  pointwise [rS, hQ, hK]
  rw [sc_eq, Soft.coe_sum_mul, ← EReal.coe_mul]; rfl

theorem reduceMax_at (x : FVec Ideal S1x4x4096x256 .f32) (h : Fin 4) (i : Fin 4096) :
    Host.reduce FloatOps.maximumf x (constant S_ .f32 0xFF800000#32) reducesTo_S1x4x4096x256_S1x4x4096_d3 h_S_ (ix3 0 h i)
      = Finset.univ.fold max (⊥ : EReal) (fun j => x (ix4 0 h i j)) := by
  pointwise
  rw [Soft.ofBits_negInf]

include hQ hK in
theorem rM_at (h : Fin 4) (i : Fin 4096) : rM Q K (ix3 0 h i) = ((M (q h) (k h) i : ℝ) : EReal) := by
  unfold rM
  rw [maximumf_apply, reduceMax_at, M, ← Soft.fold_max_coe, funext (rS_at hQ hK h i)]
  exact max_eq_right ((le_of_eq Soft.ofBits_negInf).trans bot_le)

include hQ hK in
theorem rE_at (h : Fin 4) (i : Fin 4096) (j : Fin 256) : rE Q K (ix4 0 h i j) = ((E (q h) (k h) i j : ℝ) : EReal) := by
  pointwise [rE, rS_at hQ hK, rM_at hQ hK]
  rw [← EReal.coe_sub, Ideal.exp_coe]; rfl

include hQ hK in
theorem rL_at (h : Fin 4) (i : Fin 4096) : rL Q K (ix4 0 h i 0) = ((L (q h) (k h) i : ℝ) : EReal) := by
  pointwise [rL, rE_at hQ hK]
  rw [← Soft.coe_sum]; rfl

include hQ hK in
theorem rP_at (h : Fin 4) (i : Fin 4096) (j : Fin 256) : rP Q K (ix4 0 h i j) = ((P (q h) (k h) i j : ℝ) : EReal) := by
  pointwise [rP, rE_at hQ hK, rL_at hQ hK]
  exact Soft.div_coe_coe _ (L_pos _ _ _).ne'

include hG in
theorem rG_at (h : Fin 4) (i : Fin 4096) (d : Fin 128) : rG G (ix4 0 h d i) = ((g h i d : ℝ) : EReal) := by
  pointwise [rG]
  exact hG h i d

include hV hG in
theorem rDP_at (h : Fin 4) (i : Fin 4096) (j : Fin 256) : rDP V G (ix4 0 h i j) = ((DP (v h) (g h) i j : ℝ) : EReal) := by
  pointwise [rDP, rG_at hG, hV]
  rw [Soft.coe_sum_mul]; rfl

include hQ hK hV hG in
theorem rN_at (h : Fin 4) (i : Fin 4096) : rN Q K V G (ix4 0 h i 0)
    = ((-(∑ j, DP (v h) (g h) i j * (1 / (L (q h) (k h) i * L (q h) (k h) i)) * E (q h) (k h) i j) : ℝ) : EReal) := by
  pointwise [rN, rL_at hQ hK, rDP_at hV hG, rE_at hQ hK]
  have h1 : Ideal.div 1 (((L (q h) (k h) i : ℝ) : EReal) * ((L (q h) (k h) i : ℝ) : EReal))
      = ((1 / (L (q h) (k h) i * L (q h) (k h) i) : ℝ) : EReal) := by
    rw [← EReal.coe_mul, ← EReal.coe_one]
    exact Soft.div_coe_coe _ (mul_pos (L_pos _ _ _) (L_pos _ _ _)).ne'
  rw [h1]
  simp only [← EReal.coe_mul, ← Soft.coe_sum, zero_add, ← EReal.coe_neg]

theorem drop_unit (i : S1x4x4096x1.Idx) (h : Fin 4) (r : Fin 4096) :
    (reducesTo_S1x4x4096x1_S4x4096_d0_3.drop i = ix2 h r) ↔ i = ix4 0 h r 0 := by
  constructor
  · intro e
    have e0 := congrArg Fin.val (congrFun e 0)
    have e1 := congrArg Fin.val (congrFun e 1)
    rw [Shape.ReducesTo.drop_apply_val_of_eq _ i 0 1] at e0
    rw [Shape.ReducesTo.drop_apply_val_of_eq _ i 1 2] at e1
    funext a
    apply Fin.ext
    fin_cases a
    · exact Nat.lt_one_iff.mp (i 0).isLt
    · exact e0
    · exact e1
    · exact Nat.lt_one_iff.mp (i 3).isLt
  · intro e
    subst e
    funext b
    apply Fin.ext
    fin_cases b
    · exact Shape.ReducesTo.drop_apply_val_of_eq reducesTo_S1x4x4096x1_S4x4096_d0_3 (ix4 0 h r 0) 0 1
    · exact Shape.ReducesTo.drop_apply_val_of_eq reducesTo_S1x4x4096x1_S4x4096_d0_3 (ix4 0 h r 0) 1 2

theorem reduce_unit (x : FVec Ideal S1x4x4096x1 .f32) (h : Fin 4) (i : Fin 4096) :
    Host.reduceAdd x (constant S_ .f32 0x00000000#32) reducesTo_S1x4x4096x1_S4x4096_d0_3 h_S_ (ix2 h i) = x (ix4 0 h i 0) := by
  rw [ValueIdx.hostReduceAdd_apply]
  unfold Ideal.hostReduceAdd
  rw [Finset.filter_congr (fun j _ => drop_unit j h i), Finset.filter_eq', if_pos (Finset.mem_univ _), Finset.sum_singleton]
  exact (congrArg (· + _) Ideal.ofBits_zero_f32).trans (zero_add _)

include hQ hK hV hG in
theorem rD_at (h : Fin 4) (i : Fin 4096) (j : Fin 256) : rD Q K V G (ix4 0 h i j)
    = ((DS (q h) (k h) (v h) (g h) i j * sc : ℝ) : EReal) := by
  have hR : rR Q K V G (ix2 h i) = _ := (by unfold rR; exact reduce_unit _ h i : rR Q K V G (ix2 h i) = rN Q K V G (ix4 0 h i 0))
  rw [rN_at hQ hK hV hG] at hR
  pointwise [rD, rDP_at hV hG, rL_at hQ hK, hR, rE_at hQ hK]
  rw [Soft.div_coe_coe _ (L_pos _ _ _).ne', sc_eq, ← EReal.coe_add, ← EReal.coe_mul, ← EReal.coe_mul]
  congr 2
  exact Soft.dscore _ (L_pos _ _ _).ne' _ _ _

include hQ hK hV in
theorem rO_at (h : Fin 4) (i : Fin 4096) (d : Fin 128) : rO Q K V (ix2 i ⟨h.val * 128 + d.val, col_lt h d⟩)
    = ((O (q h) (k h) (v h) i d : ℝ) : EReal) := by
  pointwise [rO, rP_at hQ hK, hV]
  rw [Soft.coe_sum_mul]
  exact congrArg _ (Finset.sum_congr rfl fun j _ => mul_comm _ _)

include hQ hK hV hG in
theorem rDQ_at (h : Fin 4) (i : Fin 4096) (d : Fin 128) : rDQ Q K V G (ix2 i ⟨h.val * 128 + d.val, col_lt h d⟩)
    = ((DQ (q h) (k h) (v h) (g h) i d : ℝ) : EReal) := by
  pointwise [rDQ, rD_at hQ hK hV hG, hK]
  rw [Soft.coe_sum_mul]
  rfl

include hQ hK hV hG in
theorem rDK_at (h : Fin 4) (j : Fin 256) (d : Fin 128) : rDK Q K V G (ix2 j ⟨h.val * 128 + d.val, col_lt h d⟩)
    = ((DK (q h) (k h) (v h) (g h) j d : ℝ) : EReal) := by
  pointwise [rDK, rD_at hQ hK hV hG, hQ]
  rw [Soft.coe_sum_mul]
  rfl

include hQ hK hG in
theorem rDV_at (h : Fin 4) (j : Fin 256) (d : Fin 128) : rDV Q K G (ix2 j ⟨h.val * 128 + d.val, col_lt h d⟩)
    = ((DV (q h) (k h) (g h) j d : ℝ) : EReal) := by
  pointwise [rDV, rG_at hG, rP_at hQ hK]
  rw [Soft.coe_sum_mul]
  exact congrArg _ (Finset.sum_congr rfl fun j _ => mul_comm _ _)

end Arrays

end Cert.Mem

end
-- ==== Proof.Mem.Fin.lean ====
/- The precondition: every element of the four arrays is a real number. -/
module

public import proofs.«01_k».proof.Proof.Gen.Pre_all_finite
public import Idealize.ShloMosaic.PureOps.Ideal.Laws
public import Idealize.ShloMosaic.Lib.ValueIdx
public import Idealize.ShloMosaic.Lib.Pointwise

@[expose] public section

set_option maxRecDepth 16384

noncomputable section

namespace Cert.Mem

open Idealize.ShloMosaic Idealize.SL.Sem
open Cert.Pre_all_finite Cert.Pre_all_finite.Facts Cert.Pre_all_finite.Gen

attribute [local instance] Cert.Pre_all_finite.Gen.facts

theorem inf_eq : Ideal.ofBits .f32 0x7F800000#32 = (⊤ : EReal) := by
  simp [Ideal.ofBits, Ideal.ieee]

/-- Below infinity in absolute value is a real number. -/
theorem real_of_lt (x : EReal) (h : Ideal.cmp .olt (max x (-x)) (Ideal.ofBits .f32 0x7F800000#32) = 1#1) :
    ∃ r : ℝ, x = (r : EReal) := by
  rw [inf_eq] at h
  have h2 : max x (-x) < ⊤ := by
    by_contra hn
    simp [Ideal.cmp, hn] at h
  induction x using EReal.rec with
  | bot => simp at h2
  | top => simp at h2
  | coe r => exact ⟨r, rfl⟩

theorem and_split {x y : BitVec 1} (h : x &&& y = 1#1) : x = 1#1 ∧ y = 1#1 := by
  revert x y; decide

theorem foldl_and {ι : Type} (f : ι → BitVec 1) (l : List ι) (b : BitVec 1) (h : l.foldl (fun r n => IntOp.andi r (f n)) b = 1#1) :
    b = 1#1 ∧ ∀ i ∈ l, f i = 1#1 := by
  induction l generalizing b with
  | nil => exact ⟨h, by simp⟩
  | cons a l ih =>
    obtain ⟨h1, h2⟩ := ih _ h
    have h3 : b = 1#1 ∧ f a = 1#1 := and_split h1
    exact ⟨h3.1, by simpa using ⟨h3.2, h2⟩⟩

theorem reduce_and {s : Shape} {axes : List (Fin s.rank)} (x : IVec s 1) (h : s.ReducesTo axes S_) (hu : 0 < S_.numel)
    (he : Host.reduce IntOp.andi x (constantI S_ 1 1#1) h hu ix0 = 1#1) (i : s.Idx) : x i = 1#1 := by
  have hd : h.drop i = ix0 := funext fun a => a.elim0
  have h1 := (foldl_and (fun n => x (s.rowMajor.symm n)) _ _ he).2 (s.rowMajor i)
    (List.mem_filter.mpr ⟨List.mem_finRange _, decide_eq_true (by rw [Equiv.symm_apply_apply]; exact hd)⟩)
  rwa [Equiv.symm_apply_apply] at h1

theorem finite_of_pre (a0 : FVec Ideal S1x4096x4x128 .f32) (a1 a2 : FVec Ideal S1x256x4x128 .f32) (a3 : FVec Ideal S1x4096x512 .f32)
    (h : Cert.Pre_all_finite.fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal)) := by
  obtain ⟨h012, h3⟩ := and_split (congrFun h ix0)
  obtain ⟨h01, h2⟩ := and_split h012
  obtain ⟨h0, h1⟩ := and_split h01
  exact ⟨fun i => real_of_lt _ (reduce_and _ _ _ h0 i), fun i => real_of_lt _ (reduce_and _ _ _ h1 i),
    fun i => real_of_lt _ (reduce_and _ _ _ h2 i), fun i => real_of_lt _ (reduce_and _ _ _ h3 i)⟩

end Cert.Mem

end
-- ==== Proof.Mem.Claim.lean ====
/- The memory attention's claim: on real arguments the kernels' program and the plain reference end with the same arrays. -/
module

public import proofs.«01_k».proof.Defs
public import proofs.«01_k».proof.Proof.Mem.Entry
public import proofs.«01_k».proof.Proof.Mem.Run
public import proofs.«01_k».proof.Proof.Mem.RefAt
public import proofs.«01_k».proof.Proof.Mem.Fin

@[expose] public section

set_option maxRecDepth 16384

noncomputable section

namespace Cert.Mem

open Idealize.ShloMosaic Idealize.ShloMosaic.TcCoe Idealize.SL.Sem

attribute [local instance] Cert.Kernel2Ideal.Gen.facts Cert.Reference2Ideal.Gen.facts Cert.Pre_all_finite.Gen.facts

/-! ## The reference's arrays are the ones the kernels leave -/

section Ref

open Cert.Reference2Ideal

variable {Q : FVec Ideal S1x4096x4x128 .f32} {K V : FVec Ideal S1x256x4x128 .f32} {G : FVec Ideal S1x4096x512 .f32}
variable {q : Fin 4 → Fin 4096 → Fin 128 → ℝ} {k v : Fin 4 → Fin 256 → Fin 128 → ℝ} {g : Fin 4 → Fin 4096 → Fin 128 → ℝ}
variable (hQ : ∀ h i d, Q (ix4 0 i h d) = ((q h i d : ℝ) : EReal)) (hK : ∀ h j d, K (ix4 0 j h d) = ((k h j d : ℝ) : EReal))
  (hV : ∀ h j d, V (ix4 0 j h d) = ((v h j d : ℝ) : EReal))
  (hG : ∀ (h : Fin 4) i (d : Fin 128), G (ix3 0 i ⟨h.val * 128 + d.val, col_lt h d⟩) = ((g h i d : ℝ) : EReal))

/-- Every column is a head's column. -/
theorem column_eq (n : Fin 512) : (⟨(hd n).val * 128 + (ld n).val, col_lt _ _⟩ : Fin 512) = n :=
  Fin.ext (by unfold hd ld; dsimp only; omega)

/-- Two arrays that agree at every head's columns are equal. -/
theorem ext_heads {f f' : FVec Ideal S4096x512 .f32}
    (h : ∀ (h : Fin 4) (i : Fin 4096) (d : Fin 128), f (ix2 i ⟨h.val * 128 + d.val, col_lt h d⟩) = f' (ix2 i ⟨h.val * 128 + d.val, col_lt h d⟩)) : f = f' := by
  funext y
  idx_vars y
  have := h (hd y1) y0 (ld y1)
  rwa [column_eq] at this

/-- Two arrays that agree at every head's columns are equal. -/
theorem ext_heads' {f f' : FVec Ideal S256x512 .f32}
    (h : ∀ (h : Fin 4) (i : Fin 256) (d : Fin 128), f (ix2 i ⟨h.val * 128 + d.val, col_lt h d⟩) = f' (ix2 i ⟨h.val * 128 + d.val, col_lt h d⟩)) : f = f' := by
  funext y
  idx_vars y
  have := h (hd y1) y0 (ld y1)
  rwa [column_eq] at this

include hQ hK hV in
theorem rO_eq : rO Q K V = gO q k v := ext_heads fun h i d => (rO_at hQ hK hV h i d).trans (gO_at q k v h i d).symm
include hQ hK hV hG in
theorem rDQ_eq : rDQ Q K V G = gDQ q g k v := ext_heads fun h i d => (rDQ_at hQ hK hV hG h i d).trans (gDQ_at q g k v h i d).symm
include hQ hK hV hG in
theorem rDK_eq : rDK Q K V G = gDK q g k v := ext_heads' fun h i d => (rDK_at hQ hK hV hG h i d).trans (gDK_at q g k v h i d).symm
include hQ hK hG in
theorem rDV_eq : rDV Q K G = gDV q g k := ext_heads' fun h i d => (rDV_at hQ hK hG h i d).trans (gDV_at q g k h i d).symm

end Ref

theorem frame_ideal : Cert.quiescent_Kernel2Ideal := fun m ρ _ => Cert.Kernel2Ideal.Gen.frame m ρ

open Cert.Kernel2Ideal Cert.Kernel2Ideal.Gen in
theorem algebraic : Cert.algebraic_Kernel2Ideal_Reference2Ideal_pre_all_finite := by
  intro m ρ m' ρ' hpre hin
  let q : Dev nD → Fin 4 → Fin 4096 → Fin 128 → ℝ := fun (c : Dev nD) h i d => EReal.toReal (m ((c.tc : Thread nD τ).loc main_arg0) (ix4 0 i h d))
  let k : Dev nD → Fin 4 → Fin 256 → Fin 128 → ℝ := fun (c : Dev nD) h i d => EReal.toReal (m ((c.tc : Thread nD τ).loc main_arg1) (ix4 0 i h d))
  let v : Dev nD → Fin 4 → Fin 256 → Fin 128 → ℝ := fun (c : Dev nD) h i d => EReal.toReal (m ((c.tc : Thread nD τ).loc main_arg2) (ix4 0 i h d))
  let g : Dev nD → Fin 4 → Fin 4096 → Fin 128 → ℝ := fun (c : Dev nD) h i d =>
    EReal.toReal (m ((c.tc : Thread nD τ).loc main_arg3) (ix3 0 i (⟨h.val * 128 + d.val, col_lt h d⟩ : Fin 512)))
  have real : ∀ {x : EReal}, (∃ r : ℝ, x = (r : EReal)) → x = ((EReal.toReal x : ℝ) : EReal) := by
    rintro x ⟨r, rfl⟩; rw [EReal.toReal_coe]
  have hfin := fun c => finite_of_pre _ _ _ _ (hpre c)
  have h0 : ∀ (c : Dev nD) h i d, m ((c.tc : Thread nD τ).loc main_arg0) (ix4 0 i h d) = ((q c h i d : ℝ) : EReal) := fun c h i d => real ((hfin c).1 _)
  have h1 : ∀ (c : Dev nD) h i d, m ((c.tc : Thread nD τ).loc main_arg1) (ix4 0 i h d) = ((k c h i d : ℝ) : EReal) := fun c h i d => real ((hfin c).2.1 _)
  have h2 : ∀ (c : Dev nD) h i d, m ((c.tc : Thread nD τ).loc main_arg2) (ix4 0 i h d) = ((v c h i d : ℝ) : EReal) := fun c h i d => real ((hfin c).2.2.1 _)
  have h3 : ∀ (c : Dev nD) (h : Fin 4) i (d : Fin 128), m ((c.tc : Thread nD τ).loc main_arg3) (ix3 0 i (⟨h.val * 128 + d.val, col_lt h d⟩ : Fin 512)) = ((g c h i d : ℝ) : EReal) :=
    fun c h i d => real ((hfin c).2.2.2 _)
  refine ⟨fun c => gO (q c) (k c) (v c), fun c => gDQ (q c) (g c) (k c) (v c), fun c => gDK (q c) (g c) (k c) (v c), fun c => gDV (q c) (g c) (k c), ?_, ?_⟩
  · refine (θ_run defs _ _).mono (fun r h c => ?_) (run_all m ρ)
    have hm := h.1 c
    exact ⟨(hm _ (mem_uc main_v7_0 (by decide))).trans (W4_o m ρ c (h0 c) (h1 c) (h2 c)),
      (hm _ (mem_uc main_v16_0 (by decide))).trans (W4_dq m ρ c (h0 c) (h1 c) (h2 c) (h3 c)),
      (hm _ (mem_uc main_v16_1 (by decide))).trans (W4_dk m ρ c (h0 c) (h1 c) (h2 c) (h3 c)),
      (hm _ (mem_uc main_v16_2 (by decide))).trans (W4_dv m ρ c (h0 c) (h1 c) (h3 c)),
      (hm _ (mem_uc main_arg0 (by decide))).trans (W4_main_arg0 m ρ c),
      (hm _ (mem_uc main_arg1 (by decide))).trans (W4_main_arg1 m ρ c),
      (hm _ (mem_uc main_arg2 (by decide))).trans (W4_main_arg2 m ρ c),
      (hm _ (mem_uc main_arg3 (by decide))).trans (W4_main_arg3 m ρ c)⟩
  · refine (θ_run Cert.Reference2Ideal.defs _ _).mono (fun r h c => ?_) (ref_run m' ρ')
    obtain ⟨e0, e1, e2, e3, rest⟩ := h c
    obtain ⟨i0, i1, i2, i3⟩ := hin c
    rw [i0, i1, i2] at e0
    rw [i0, i1, i2, i3] at e1 e2
    rw [i0, i1, i3] at e3
    exact ⟨e0.trans (rO_eq (h0 c) (h1 c) (h2 c)), e1.trans (rDQ_eq (h0 c) (h1 c) (h2 c) (h3 c)), e2.trans (rDK_eq (h0 c) (h1 c) (h2 c) (h3 c)),
      e3.trans (rDV_eq (h0 c) (h1 c) (h3 c)), rest⟩

end Cert.Mem

end
-- ==== Proof.Down.Value.lean ====
/- The gradient of the down projection's weights: what the kernel's tiles add up to. -/
module

public import proofs.«01_k».proof.Proof.Gen.Kernel4Ideal.Frame
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.IdealHost

@[expose] public section

set_option maxRecDepth 16384

noncomputable section

namespace Cert.Down

open Idealize.ShloMosaic Idealize.ShloMosaic.TcCoe Idealize.ShloMosaic.Tactic Idealize.SL.Sem
open Idealize.ShloMosaic.Pipeline (Dat)
open Cert.Kernel4Ideal Cert.Kernel4Ideal.Gen

theorem zero_at (r n : Fin 1024) : k0_pay1 (F := Ideal) (ix2 r n) = 0 := by
  pointwise [k0_pay1]

/-- One step adds the product of the transposed left tile with the right tile. -/
theorem step_at (acc : FVec Ideal S1024x1024 .f32) (a b : FVec Ideal S1024x1024 .bf16) (r n : Fin 1024) :
    k0_pay2 acc a b (ix2 r n) = acc (ix2 r n) + ∑ k : Fin 1024, a (ix2 k r) * b (ix2 k n) := by
  pointwise [k0_pay2]

variable (m : (ℓ : Loc nD τ sig) → Buf (Elt Ideal) ℓ) (c : Dev nD)

/-- The product of a transposed tile with a tile. -/
def part (a b : FVec Ideal S1024x1024 .bf16) : S1024x1024.Idx → EReal := fun y =>
  ∑ k : Fin 1024, a (ix2 k (y 0)) * b (ix2 k (y 1))

/-- What one grid point adds. -/
def term (t : Fin cfg0.N) : S1024x1024.Idx → EReal := part (iblk m c 0 t) (iblk m c 1 t)

theorem scratch_reset (t : Fin cfg0.N) (h : t.val % 4 = 0) (y : S1024x1024.Idx) :
    (outsAt0 m c t.val t.isLt).2 y = 0 + term m c t y := by
  rw [outsAt0_A m c t h (by omega)]
  frame_out
  idx_vars y
  rw [step_at, zero_at]
  rfl

theorem scratch_step (t : Fin cfg0.N) (h : ¬t.val % 4 = 0) (y : S1024x1024.Idx) :
    (outsAt0 m c t.val t.isLt).2 y = (outsAt0 m c (t.val - 1) (Nat.lt_of_le_of_lt (Nat.sub_le _ _) t.isLt)).2 y + term m c t y := by
  by_cases h3 : t.val % 4 = 3
  · rw [outsAt0_C m c t h h3]
    frame_out
    simp only [read_unread_whole]
    idx_vars y
    rw [step_at]
    rfl
  · rw [outsAt0_B m c t h h3]
    frame_out
    simp only [read_unread_whole]
    idx_vars y
    rw [step_at]
    rfl

/-- At the last step of a run the block written back is the scratch. -/
theorem out_eq_scratch (t : Fin cfg0.N) (h3 : t.val % 4 = 3) : (outsAt0 m c t.val t.isLt).1 = (outsAt0 m c t.val t.isLt).2 := by
  rw [outsAt0_C m c t (by omega) h3]
  frame_out

theorem entry0 : V m c main_v1 = truncf (F := Ideal) .bf16 (shapeCast S4096x4096 (m ((c : Thread nD τ).loc main_arg0)) shapeCasts_S1x4096x4096_S4096x4096) bitsLt_bf16_f32 := by
  unfold_abbrev_sides
  after_results
  rfl
theorem entry1 : V m c main_v3 = truncf (F := Ideal) .bf16 (shapeCast S4096x1024 (m ((c : Thread nD τ).loc main_arg1)) shapeCasts_S1x4096x1024_S4096x1024) bitsLt_bf16_f32 := by
  unfold_abbrev_sides
  after_results
  rfl

theorem castLeft_at (x : FVec Ideal S1x4096x4096 .f32) (i n : Fin 4096) :
    truncf (F := Ideal) .bf16 (shapeCast S4096x4096 x shapeCasts_S1x4096x4096_S4096x4096) bitsLt_bf16_f32 (ix2 i n) = x (ix3 0 i n) := by
  pointwise
theorem castRight_at (x : FVec Ideal S1x4096x1024 .f32) (i : Fin 4096) (n : Fin 1024) :
    truncf (F := Ideal) .bf16 (shapeCast S4096x1024 x shapeCasts_S1x4096x1024_S4096x1024) bitsLt_bf16_f32 (ix2 i n) = x (ix3 0 i n) := by
  pointwise

theorem left_at (i n : Fin 4096) : V m c main_v1 (ix2 i n) = m ((c : Thread nD τ).loc main_arg0) (ix3 0 i n) :=
  (congrFun (entry0 m c) _).trans (castLeft_at _ i n)
theorem right_at (i : Fin 4096) (n : Fin 1024) : V m c main_v3 (ix2 i n) = m ((c : Thread nD τ).loc main_arg1) (ix3 0 i n) :=
  (congrFun (entry1 m c) _).trans (castRight_at _ i n)

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- The product of the transposed activations with the output's gradient. -/
def G (u : FVec Ideal S1x4096x4096 .f32) (g : FVec Ideal S1x4096x1024 .f32) : FVec Ideal S4096x1024 .f32 := fun y =>
  ∑ k : Fin 4096, u (ix3 0 k (y 0)) * g (ix3 0 k (y 1))

theorem final : (dats m 0 c).arrAt 2 cfg0.N = G (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have hN : t.val < 16 := lt_of_lt_of_eq t.isLt (show cfg0.N = 16 from N_0)
  blk_simp
  rw [after0_2, out_eq_scratch m c t h3]
  rw [Pipeline.eq_sum_fin_of_reset_step_apply_of_flush (fun n h => (outsAt0 m c n h).2) 4 (fun _ => 0) (term m c)
    (scratch_reset m c) (scratch_step m c) t h3 y]
  idx_vars y
  have e : ((View.whole main_v4).slice (win0_2.rect t)).emb (ix2 y0 y1) = ix2 (⟨t.val / 4 * 1024 + y0.val, by omega⟩ : Fin 4096) y1 := by
    blk_ext [idx t]
  rw [e, zero_add]
  unfold term part G
  refine Fin.sum_mul_add_congr fun s k hl => ?_
  have hs : (4 * (t.val / 4) + s.val) % 4 = s.val := by omega
  have hd : (4 * (t.val / 4) + s.val) / 4 = t.val / 4 := by omega
  have i0 := (idx ⟨4 * (t.val / 4) + s.val, Pipeline.run_point_lt_of_flush t h3 s⟩).1
  have i1 := (idx ⟨4 * (t.val / 4) + s.val, Pipeline.run_point_lt_of_flush t h3 s⟩).2.1
  dsimp only at i0 i1
  rw [hs, hd] at i0
  rw [hs] at i1
  congr 1
  · refine Eq.trans ?_ (left_at m c _ _)
    blk_ext [iblk, i0]
  · refine Eq.trans ?_ (right_at m c _ _)
    blk_ext [iblk, i1]

end Cert.Down

end
-- ==== Proof.Hid.Value.lean ====
/- The gradient before the hidden activation: what the kernel writes, tile by tile. -/
module

public import proofs.«01_k».proof.Proof.Down.Value
public import proofs.«01_k».proof.Proof.Gen.Kernel3Ideal.Frame

@[expose] public section

set_option maxRecDepth 16384

noncomputable section

namespace Cert.Hid

open Idealize.ShloMosaic Idealize.ShloMosaic.TcCoe Idealize.ShloMosaic.Tactic Idealize.SL.Sem
open Idealize.ShloMosaic.Pipeline (Dat)
open Cert.Kernel3Ideal Cert.Kernel3Ideal.Gen
open Cert.Down (castLeft_at castRight_at)

/-- A tile: the product of the rows, times twice the positive part. -/
theorem pay_at (a b u : FVec Ideal S1024x1024 .bf16) (r n : Fin 1024) :
    k0_pay1 a b u (ix2 r n) = (∑ k : Fin 1024, a (ix2 r k) * b (ix2 n k)) * (Ideal.ofBits .f32 0x40000000#32 * max (u (ix2 r n)) 0) := by
  pointwise [k0_pay1]

variable (m : (ℓ : Loc nD τ sig) → Buf (Elt Ideal) ℓ) (c : Dev nD)

theorem entry0 : V m c main_v4 = truncf (F := Ideal) .bf16 (shapeCast S4096x1024 (m ((c : Thread nD τ).loc main_arg2)) shapeCasts_S1x4096x1024_S4096x1024) bitsLt_bf16_f32 := by
  unfold_abbrev_sides
  after_results
  rfl
theorem entry1 : V m c main_v2 = truncf (F := Ideal) .bf16 (m ((c : Thread nD τ).loc main_arg1) : FVec Ideal S4096x1024 .f32) bitsLt_bf16_f32 := by
  unfold_abbrev_sides
  after_results
theorem entry2 : V m c main_v1 = truncf (F := Ideal) .bf16 (shapeCast S4096x4096 (m ((c : Thread nD τ).loc main_arg0)) shapeCasts_S1x4096x4096_S4096x4096) bitsLt_bf16_f32 := by
  unfold_abbrev_sides
  after_results
  rfl

theorem ct_at (i : Fin 4096) (n : Fin 1024) : V m c main_v4 (ix2 i n) = m ((c : Thread nD τ).loc main_arg2) (ix3 0 i n) :=
  (congrFun (entry0 m c) _).trans (castRight_at _ i n)
theorem w_at (i : Fin 4096) (n : Fin 1024) : V m c main_v2 (ix2 i n) = m ((c : Thread nD τ).loc main_arg1) (ix2 i n) :=
  congrFun (entry1 m c) _
theorem up_at (i n : Fin 4096) : V m c main_v1 (ix2 i n) = m ((c : Thread nD τ).loc main_arg0) (ix3 0 i n) :=
  (congrFun (entry2 m c) _).trans (castLeft_at _ i n)

theorem idx : ∀ t : Fin cfg0.N, win0_0.index t = ![t.val / 4, 0] ∧ win0_1.index t = ![t.val % 4, 0]
    ∧ win0_2.index t = ![t.val / 4, t.val % 4] ∧ win0_3.index t = ![t.val / 4, t.val % 4] :=
  (by decide +kernel : ∀ t : Fin grid0.N, _)

/-- The output's gradient through the down projection, times twice the positive part. -/
def G (u : FVec Ideal S1x4096x4096 .f32) (w : FVec Ideal S4096x1024 .f32) (g : FVec Ideal S1x4096x1024 .f32) : FVec Ideal S4096x4096 .bf16 := fun y =>
  (∑ k : Fin 1024, g (ix3 0 (y 0) k) * w (ix2 (y 1) k)) * (Ideal.ofBits .f32 0x40000000#32 * max (u (ix3 0 (y 0) (y 1))) 0)

theorem final : (dats m 0 c).arrAt 3 cfg0.N = G (m ((c : Thread nD τ).loc main_arg0)) (m ((c : Thread nD τ).loc main_arg1)) (m ((c : Thread nD τ).loc main_arg2)) := by
  refine (dats m 0 c).arrAt_eq_of_covers 3 _ (by decide +kernel) fun t hf y => ?_
  have hN : t.val < 16 := lt_of_lt_of_eq t.isLt (show cfg0.N = 16 from N_0)
  blk_simp
  rw [after0_3]
  frame_out
  idx_vars y
  obtain ⟨i0, i1, i2, i3⟩ := idx t
  have e : ((View.whole main_v5).slice (win0_3.rect t)).emb (ix2 y0 y1)
      = ix2 (⟨t.val / 4 * 1024 + y0.val, by omega⟩ : Fin 4096) (⟨t.val % 4 * 1024 + y1.val, by omega⟩ : Fin 4096) := by
    blk_ext [i3]
  rw [e]
  refine (pay_at _ _ _ _ _).trans ?_
  unfold G
  congr 1
  · refine Finset.sum_congr rfl fun k _ => ?_
    congr 1
    · refine Eq.trans ?_ (ct_at m c _ _)
      blk_ext [iblk, i0]
    · refine Eq.trans ?_ (w_at m c _ _)
      blk_ext [iblk, i1]
  · refine congrArg (fun x => Ideal.ofBits .f32 0x40000000#32 * max x 0) ?_
    refine Eq.trans ?_ (up_at m c _ _)
    blk_ext [iblk, i2]

end Cert.Hid

end
-- ==== Proof.Hid.Claim.lean ====
/- The gradient before the hidden activation: the kernel and the plain reference end with the same array. -/
module

public import proofs.«01_k».proof.Defs
public import proofs.«01_k».proof.Proof.Gen.Kernel3Ideal.Value
public import proofs.«01_k».proof.Proof.Gen.Reference3Ideal.Run
public import proofs.«01_k».proof.Proof.Hid.Value

@[expose] public section

set_option maxRecDepth 16384

noncomputable section

namespace Cert.Hid

open Idealize.ShloMosaic Idealize.ShloMosaic.TcCoe Idealize.ShloMosaic.Tactic Idealize.SL.Sem

attribute [local instance] Cert.Kernel3Ideal.Gen.facts Cert.Reference3Ideal.Gen.facts

section
open Cert.Reference3Ideal Cert.Reference3Ideal.Gen

/-- Where the input is not positive the factor twice its positive part is zero, and so the reference's choice changes nothing. -/
theorem choice (x d : EReal) : (if 0 < x then d * (Ideal.ofBits .f32 0x40000000#32 * max x 0) else 0) = d * (Ideal.ofBits .f32 0x40000000#32 * max x 0) := by
  split_ifs with h
  · rfl
  · rw [max_eq_right (not_lt.mp h), mul_zero, mul_zero]

theorem ref_eq (u : FVec Ideal S1x4096x4096 .f32) (w : FVec Ideal S4096x1024 .f32) (g : FVec Ideal S1x4096x1024 .f32) :
    truncf (F := Ideal) .bf16 (select (cmpf .ogt (shapeCast _ u shapeCasts_S1x4096x4096_S4096x4096) (broadcastInDim S4096x4096 ![] bcast_S_S4096x4096 (constant S_ .f32 0x00000000#32))) (mulf (Host.dotGeneral dot_S4096x1024_S4096x1024_S4096x4096_1_1_0_0_n_n none (shapeCast _ g shapeCasts_S1x4096x1024_S4096x1024) w) (mulf (broadcastInDim S4096x4096 ![] bcast_S_S4096x4096 (constant S_ .f32 0x40000000#32)) (maximumf (shapeCast _ u shapeCasts_S1x4096x4096_S4096x4096) (broadcastInDim S4096x4096 ![] bcast_S_S4096x4096 (constant S_ .f32 0x00000000#32))))) (broadcastInDim S4096x4096 ![] bcast_S_S4096x4096 (constant S_ .f32 0x00000000#32))) bitsLt_bf16_f32
      = G u w g := by
  funext y
  idx_vars y
  pointwise
  unfold G
  exact choice _ _

end

theorem frame_reference : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

open Cert.Kernel3Ideal in
theorem algebraic : Cert.algebraic_Kernel3Ideal_Reference3Ideal := by
  intro m ρ m' ρ' _ hin
  refine ⟨fun c => G (m ((c.tc : Thread nD τ).loc main_arg0)) (m ((c.tc : Thread nD τ).loc main_arg1)) (m ((c.tc : Thread nD τ).loc main_arg2)), ?_, ?_⟩
  · exact (θ_run defs _ _).mono (fun r h c => ⟨(h c).1.trans (final m c), (h c).2⟩) (Cert.Kernel3Ideal.Value.run_blocks m ρ)
  · refine (θ_run Cert.Reference3Ideal.defs _ _).mono (fun r h c => ?_) (Cert.Reference3Ideal.Value.run m' ρ')
    obtain ⟨e, rest⟩ := h c
    obtain ⟨i0, i1, i2⟩ := hin c
    rw [i0, i1, i2] at e
    exact ⟨e.trans (ref_eq _ _ _), rest⟩

end Cert.Hid

end
-- ==== Proof.Down.Claim.lean ====
/- The gradient of the down projection's weights: the kernel and the plain reference end with the same array. -/
module

public import proofs.«01_k».proof.Defs
public import proofs.«01_k».proof.Proof.Gen.Kernel4Ideal.Value
public import proofs.«01_k».proof.Proof.Gen.Reference4Ideal.Run
public import proofs.«01_k».proof.Proof.Down.Value

@[expose] public section

set_option maxRecDepth 16384

noncomputable section

namespace Cert.Down

open Idealize.ShloMosaic Idealize.ShloMosaic.TcCoe Idealize.ShloMosaic.Tactic Idealize.SL.Sem

attribute [local instance] Cert.Kernel4Ideal.Gen.facts Cert.Reference4Ideal.Gen.facts

section
open Cert.Reference4Ideal Cert.Reference4Ideal.Gen

/-- The reference multiplies the two factors the other way round and transposes. -/
theorem ref_eq (u : FVec Ideal S1x4096x4096 .f32) (g : FVec Ideal S1x4096x1024 .f32) :
    transpose S4096x1024 [1, 0] (Host.dotGeneral (F := Ideal) dot_S4096x1024_S4096x4096_S1024x4096_0_0_1_1_n_n none (shapeCast _ g shapeCasts_S1x4096x1024_S4096x1024) (shapeCast _ u shapeCasts_S1x4096x4096_S4096x4096)) transposes_S1024x4096_S4096x1024_1_0
      = G u g := by
  funext y
  idx_vars y
  pointwise
  unfold G
  exact Finset.sum_congr rfl fun k _ => mul_comm _ _

end

theorem frame_reference : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

open Cert.Kernel4Ideal in
theorem algebraic : Cert.algebraic_Kernel4Ideal_Reference4Ideal := by
  intro m ρ m' ρ' _ hin
  refine ⟨fun c => G (m ((c.tc : Thread nD τ).loc main_arg0)) (m ((c.tc : Thread nD τ).loc main_arg1)), ?_, ?_⟩
  · exact (θ_run defs _ _).mono (fun r h c => ⟨(h c).1.trans (final m c), (h c).2⟩) (Cert.Kernel4Ideal.Value.run_blocks m ρ)
  · refine (θ_run Cert.Reference4Ideal.defs _ _).mono (fun r h c => ?_) (Cert.Reference4Ideal.Value.run m' ρ')
    obtain ⟨e, rest⟩ := h c
    obtain ⟨i0, i1⟩ := hin c
    rw [i0, i1] at e
    exact ⟨e.trans (ref_eq _ _), rest⟩

end Cert.Down

end
-- ==== Proof.Up.Value.lean ====
/- The gradient of the up projection's weights: what the kernel's tiles add up to. -/
module

public import proofs.«01_k».proof.Proof.Down.Value
public import proofs.«01_k».proof.Proof.Gen.Kernel5Ideal.Frame

@[expose] public section

set_option maxRecDepth 16384

noncomputable section

namespace Cert.Up

open Idealize.ShloMosaic Idealize.ShloMosaic.TcCoe Idealize.ShloMosaic.Tactic Idealize.SL.Sem
open Idealize.ShloMosaic.Pipeline (Dat)
open Cert.Kernel5Ideal Cert.Kernel5Ideal.Gen
open Cert.Down (part castLeft_at castRight_at)

theorem first : k0_pay1 (F := Ideal) = Cert.Kernel4Ideal.Gen.k0_pay1 := rfl
theorem step (acc : FVec Ideal S1024x1024 .f32) (a b : FVec Ideal S1024x1024 .bf16) : k0_pay2 (F := Ideal) acc a b = Cert.Kernel4Ideal.Gen.k0_pay2 (F := Ideal) acc a b := rfl
/-- The finished tile is laid into its expert's plane. -/
theorem plane_at (acc : FVec Ideal S1024x1024 .f32) (r n : Fin 1024) : k0_pay3 acc (ix3 0 r n) = acc (ix2 r n) := by
  pointwise [k0_pay3]

variable (m : (ℓ : Loc nD τ sig) → Buf (Elt Ideal) ℓ) (c : Dev nD)

/-- What one grid point adds. -/
def term (t : Fin cfg0.N) : S1024x1024.Idx → EReal := part (iblk m c 0 t) (iblk m c 1 t)

theorem scratch_reset (t : Fin cfg0.N) (h : t.val % 4 = 0) (y : S1024x1024.Idx) :
    (outsAt0 m c t.val t.isLt).2 y = 0 + term m c t y := by
  rw [outsAt0_A m c t h (by omega)]
  frame_out
  idx_vars y
  rw [step, first, Cert.Down.step_at, Cert.Down.zero_at]
  rfl

theorem scratch_step (t : Fin cfg0.N) (h : ¬t.val % 4 = 0) (y : S1024x1024.Idx) :
    (outsAt0 m c t.val t.isLt).2 y = (outsAt0 m c (t.val - 1) (Nat.lt_of_le_of_lt (Nat.sub_le _ _) t.isLt)).2 y + term m c t y := by
  idx_vars y
  by_cases h3 : t.val % 4 = 3
  · rw [outsAt0_C m c t h h3]
    frame_out
    simp only [read_unread_whole]
    exact Cert.Down.step_at _ _ _ _ _
  · rw [outsAt0_B m c t h h3]
    frame_out
    simp only [read_unread_whole]
    exact Cert.Down.step_at _ _ _ _ _

/-- At the last step of a run the block written back is the scratch. -/
theorem out_eq_scratch (t : Fin cfg0.N) (h3 : t.val % 4 = 3) (r n : Fin 1024) :
    (outsAt0 m c t.val t.isLt).1 (ix3 0 r n) = (outsAt0 m c t.val t.isLt).2 (ix2 r n) := by
  rw [outsAt0_C m c t (by omega) h3]
  frame_out
  exact plane_at _ _ _

theorem entry0 : V m c main_v1 = truncf (F := Ideal) .bf16 (shapeCast S4096x1024 (m ((c : Thread nD τ).loc main_arg0)) shapeCasts_S1x4096x1024_S4096x1024) bitsLt_bf16_f32 := by
  unfold_abbrev_sides
  after_results
  rfl
theorem entry1 : V m c main_v3 = truncf (F := Ideal) .bf16 (shapeCast S4096x4096 (m ((c : Thread nD τ).loc main_arg1)) shapeCasts_S1x4096x4096_S4096x4096) bitsLt_bf16_f32 := by
  unfold_abbrev_sides
  after_results
  rfl

theorem left_at (i : Fin 4096) (n : Fin 1024) : V m c main_v1 (ix2 i n) = m ((c : Thread nD τ).loc main_arg0) (ix3 0 i n) :=
  (congrFun (entry0 m c) _).trans (castRight_at _ i n)
theorem right_at (i n : Fin 4096) : V m c main_v3 (ix2 i n) = m ((c : Thread nD τ).loc main_arg1) (ix3 0 i n) :=
  (congrFun (entry1 m c) _).trans (castLeft_at _ i n)

theorem idx : ∀ t : Fin cfg0.N, win0_0.index t = ![t.val % 4, 0] ∧ win0_1.index t = ![t.val % 4, t.val / 4] ∧ win0_2.index t = ![t.val / 4, 0, 0] :=
  (by decide +kernel : ∀ t : Fin grid0.N, _)

theorem col_lt (s : Fin 4) (n : Fin 1024) : s.val * 1024 + n.val < 4096 := by omega

/-- The product of the transposed inputs with the hidden gradient, a quarter of the columns in each plane. -/
def G (h : FVec Ideal S1x4096x1024 .f32) (g : FVec Ideal S1x4096x4096 .f32) : FVec Ideal S4x1024x1024 .f32 := fun y =>
  ∑ k : Fin 4096, h (ix3 0 k (y 1)) * g (ix3 0 k (⟨(y 0).val * 1024 + (y 2).val, col_lt (y 0) (y 2)⟩ : Fin 4096))

theorem final : (dats m 0 c).arrAt 2 cfg0.N = G (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have hN : t.val < 16 := lt_of_lt_of_eq t.isLt (show cfg0.N = 16 from N_0)
  blk_simp
  idx_vars y
  obtain rfl : y0 = 0 := Subsingleton.elim _ _
  rw [after0_2, out_eq_scratch m c t h3]
  rw [Pipeline.eq_sum_fin_of_reset_step_apply_of_flush (fun n h => (outsAt0 m c n h).2) 4 (fun _ => 0) (term m c)
    (scratch_reset m c) (scratch_step m c) t h3 (ix2 y1 y2)]
  have e : ((View.whole main_v4).slice (win0_2.rect t)).emb (ix3 0 y1 y2) = ix3 (⟨t.val / 4, by omega⟩ : Fin 4) y1 y2 := by
    blk_ext [idx t]
  rw [e, zero_add]
  unfold term part G
  refine Fin.sum_mul_add_congr fun s k hl => ?_
  have hs : (4 * (t.val / 4) + s.val) % 4 = s.val := by omega
  have hd : (4 * (t.val / 4) + s.val) / 4 = t.val / 4 := by omega
  have i0 := (idx ⟨4 * (t.val / 4) + s.val, Pipeline.run_point_lt_of_flush t h3 s⟩).1
  have i1 := (idx ⟨4 * (t.val / 4) + s.val, Pipeline.run_point_lt_of_flush t h3 s⟩).2.1
  dsimp only at i0 i1
  rw [hs] at i0
  rw [hs, hd] at i1
  congr 1
  · refine Eq.trans ?_ (left_at m c _ _)
    blk_ext [iblk, i0]
  · refine Eq.trans ?_ (right_at m c _ _)
    blk_ext [iblk, i1]

end Cert.Up

end
-- ==== Proof.Up.Claim.lean ====
/- The gradient of the up projection's weights: the kernel and the plain reference end with the same array. -/
module

public import proofs.«01_k».proof.Defs
public import proofs.«01_k».proof.Proof.Gen.Kernel5Ideal.Value
public import proofs.«01_k».proof.Proof.Gen.Reference5Ideal.Run
public import proofs.«01_k».proof.Proof.Up.Value

@[expose] public section

set_option maxRecDepth 16384

noncomputable section

namespace Cert.Up

open Idealize.ShloMosaic Idealize.ShloMosaic.TcCoe Idealize.ShloMosaic.Tactic Idealize.SL.Sem

attribute [local instance] Cert.Kernel5Ideal.Gen.facts Cert.Reference5Ideal.Gen.facts

section
open Cert.Reference5Ideal Cert.Reference5Ideal.Gen

/-- A column of the reference's weights lies in the plane of its quarter. -/
theorem planes_at (x : FVec Ideal S1024x4096 .f32) (s : Fin 4) (r n : Fin 1024) :
    transpose S4x1024x1024 [1, 0, 2] (shapeCast S1024x4x1024 x shapeCasts_S1024x4096_S1024x4x1024) transposes_S1024x4x1024_S4x1024x1024_1_0_2 (ix3 s r n)
      = x (ix2 r (⟨s.val * 1024 + n.val, col_lt s n⟩ : Fin 4096)) := by
  pointwise

/-- The reference multiplies the two factors the other way round, transposes and parts the columns. -/
theorem ref_eq (h : FVec Ideal S1x4096x1024 .f32) (g : FVec Ideal S1x4096x4096 .f32) :
    transpose S4x1024x1024 [1, 0, 2] (shapeCast _ (transpose S1024x4096 [1, 0] (Host.dotGeneral (F := Ideal) dot_S4096x4096_S4096x1024_S4096x1024_0_0_1_1_n_n none (shapeCast _ g shapeCasts_S1x4096x4096_S4096x4096) (shapeCast _ h shapeCasts_S1x4096x1024_S4096x1024)) transposes_S4096x1024_S1024x4096_1_0) shapeCasts_S1024x4096_S1024x4x1024) transposes_S1024x4x1024_S4x1024x1024_1_0_2
      = G h g := by
  funext y
  idx_vars y
  refine (planes_at _ _ _ _).trans ?_
  pointwise
  unfold G
  exact Finset.sum_congr rfl fun k _ => mul_comm _ _

end

theorem frame_reference : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

open Cert.Kernel5Ideal in
theorem algebraic : Cert.algebraic_Kernel5Ideal_Reference5Ideal := by
  intro m ρ m' ρ' _ hin
  refine ⟨fun c => G (m ((c.tc : Thread nD τ).loc main_arg0)) (m ((c.tc : Thread nD τ).loc main_arg1)), ?_, ?_⟩
  · exact (θ_run defs _ _).mono (fun r h c => ⟨(h c).1.trans (final m c), (h c).2⟩) (Cert.Kernel5Ideal.Value.run_blocks m ρ)
  · refine (θ_run Cert.Reference5Ideal.defs _ _).mono (fun r h c => ?_) (Cert.Reference5Ideal.Value.run m' ρ')
    obtain ⟨e, rest⟩ := h c
    obtain ⟨i0, i1⟩ := hin c
    rw [i0, i1] at e
    exact ⟨e.trans (ref_eq _ _), rest⟩

end Cert.Up

end
-- ==== Proof.Heads.Value.lean ====
/- The gradient of one half of the combined projection's weights: what the kernel's tiles add up to. -/
module

public import proofs.«01_k».proof.Proof.Down.Value
public import proofs.«01_k».proof.Proof.Gen.Kernel6Ideal.Frame

@[expose] public section

set_option maxRecDepth 16384

noncomputable section

namespace Cert.Heads

open Idealize.ShloMosaic Idealize.ShloMosaic.TcCoe Idealize.ShloMosaic.Tactic Idealize.SL.Sem
open Idealize.ShloMosaic.Pipeline (Dat)
open Cert.Kernel6Ideal Cert.Kernel6Ideal.Gen
open Cert.Down (part castRight_at)

theorem first : k0_pay1 (F := Ideal) = Cert.Kernel4Ideal.Gen.k0_pay1 := rfl

variable (m : (ℓ : Loc nD τ sig) → Buf (Elt Ideal) ℓ) (c : Dev nD)

/-- What one grid point adds. -/
def term (t : Fin cfg0.N) : S1024x1024.Idx → EReal := part (iblk m c 0 t) (iblk m c 1 t)

theorem scratch_reset (t : Fin cfg0.N) (h : t.val % 4 = 0) (y : S1024x1024.Idx) :
    (outsAt0 m c t.val t.isLt).2 y = 0 + term m c t y := by
  idx_vars y
  rw [outsAt0_A m c t h (by omega)]
  frame_out
  exact (Cert.Down.step_at _ _ _ _ _).trans (congrArg (· + _) ((congrFun first _).trans (Cert.Down.zero_at _ _)))

theorem scratch_step (t : Fin cfg0.N) (h : ¬t.val % 4 = 0) (y : S1024x1024.Idx) :
    (outsAt0 m c t.val t.isLt).2 y = (outsAt0 m c (t.val - 1) (Nat.lt_of_le_of_lt (Nat.sub_le _ _) t.isLt)).2 y + term m c t y := by
  idx_vars y
  by_cases h3 : t.val % 4 = 3
  · rw [outsAt0_C m c t h h3]
    frame_out
    simp only [read_unread_whole]
    exact Cert.Down.step_at _ _ _ _ _
  · rw [outsAt0_B m c t h h3]
    frame_out
    simp only [read_unread_whole]
    exact Cert.Down.step_at _ _ _ _ _

/-- At the last step of a run the block written back is the scratch. -/
theorem out_eq_scratch (t : Fin cfg0.N) (h3 : t.val % 4 = 3) : (outsAt0 m c t.val t.isLt).1 = (outsAt0 m c t.val t.isLt).2 := by
  rw [outsAt0_C m c t (by omega) h3]
  frame_out

theorem entry0 : V m c main_v1 = truncf (F := Ideal) .bf16 (shapeCast S4096x1024 (m ((c : Thread nD τ).loc main_arg0)) shapeCasts_S1x4096x1024_S4096x1024) bitsLt_bf16_f32 := by
  unfold_abbrev_sides
  after_results
  rfl
theorem entry1 : V m c main_v3 = truncf (F := Ideal) .bf16 (shapeCast S4096x3072 (m ((c : Thread nD τ).loc main_arg1)) shapeCasts_S1x4096x3072_S4096x3072) bitsLt_bf16_f32 := by
  unfold_abbrev_sides
  after_results
  rfl

theorem castWide_at (x : FVec Ideal S1x4096x3072 .f32) (i : Fin 4096) (n : Fin 3072) :
    truncf (F := Ideal) .bf16 (shapeCast S4096x3072 x shapeCasts_S1x4096x3072_S4096x3072) bitsLt_bf16_f32 (ix2 i n) = x (ix3 0 i n) := by
  pointwise

theorem left_at (i : Fin 4096) (n : Fin 1024) : V m c main_v1 (ix2 i n) = m ((c : Thread nD τ).loc main_arg0) (ix3 0 i n) :=
  (congrFun (entry0 m c) _).trans (castRight_at _ i n)
theorem right_at (i : Fin 4096) (n : Fin 3072) : V m c main_v3 (ix2 i n) = m ((c : Thread nD τ).loc main_arg1) (ix3 0 i n) :=
  (congrFun (entry1 m c) _).trans (castWide_at _ i n)

theorem idx : ∀ t : Fin cfg0.N, win0_0.index t = ![t.val % 4, 0] ∧ win0_1.index t = ![t.val % 4, t.val / 4] ∧ win0_2.index t = ![0, t.val / 4] :=
  (by decide +kernel : ∀ t : Fin grid0.N, _)

/-- The product of the transposed inputs with the gradient of one half of the projected columns. -/
def G (h : FVec Ideal S1x4096x1024 .f32) (g : FVec Ideal S1x4096x3072 .f32) : FVec Ideal S1024x3072 .f32 := fun y =>
  ∑ k : Fin 4096, h (ix3 0 k (y 0)) * g (ix3 0 k (y 1))

theorem final : (dats m 0 c).arrAt 2 cfg0.N = G (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have hN : t.val < 12 := lt_of_lt_of_eq t.isLt (show cfg0.N = 12 from N_0)
  blk_simp
  rw [after0_2, out_eq_scratch m c t h3]
  rw [Pipeline.eq_sum_fin_of_reset_step_apply_of_flush (fun n h => (outsAt0 m c n h).2) 4 (fun _ => 0) (term m c)
    (scratch_reset m c) (scratch_step m c) t h3 y]
  idx_vars y
  have e : ((View.whole main_v4).slice (win0_2.rect t)).emb (ix2 y0 y1) = ix2 y0 (⟨t.val / 4 * 1024 + y1.val, by omega⟩ : Fin 3072) := by
    blk_ext [idx t]
  rw [e, zero_add]
  unfold term part G
  refine Fin.sum_mul_add_congr fun s k hl => ?_
  have hs : (4 * (t.val / 4) + s.val) % 4 = s.val := by omega
  have hd : (4 * (t.val / 4) + s.val) / 4 = t.val / 4 := by omega
  have i0 := (idx ⟨4 * (t.val / 4) + s.val, Pipeline.run_point_lt_of_flush t h3 s⟩).1
  have i1 := (idx ⟨4 * (t.val / 4) + s.val, Pipeline.run_point_lt_of_flush t h3 s⟩).2.1
  dsimp only at i0 i1
  rw [hs] at i0
  rw [hs, hd] at i1
  congr 1
  · refine Eq.trans ?_ (left_at m c _ _)
    blk_ext [iblk, i0]
  · refine Eq.trans ?_ (right_at m c _ _)
    blk_ext [iblk, i1]

end Cert.Heads

end
-- ==== Proof.Heads.Claim.lean ====
/- The gradient of one half of the combined projection's weights: the kernel and the plain reference end with the same array. -/
module

public import proofs.«01_k».proof.Defs
public import proofs.«01_k».proof.Proof.Gen.Kernel6Ideal.Value
public import proofs.«01_k».proof.Proof.Gen.Reference6Ideal.Run
public import proofs.«01_k».proof.Proof.Heads.Value

@[expose] public section

set_option maxRecDepth 16384

noncomputable section

namespace Cert.Heads

open Idealize.ShloMosaic Idealize.ShloMosaic.TcCoe Idealize.ShloMosaic.Tactic Idealize.SL.Sem

attribute [local instance] Cert.Kernel6Ideal.Gen.facts Cert.Reference6Ideal.Gen.facts

section
open Cert.Reference6Ideal Cert.Reference6Ideal.Gen

/-- The reference multiplies the two factors the other way round and transposes. -/
theorem ref_eq (h : FVec Ideal S1x4096x1024 .f32) (g : FVec Ideal S1x4096x3072 .f32) :
    transpose S1024x3072 [1, 0] (Host.dotGeneral (F := Ideal) dot_S4096x3072_S4096x1024_S3072x1024_0_0_1_1_n_n none (shapeCast _ g shapeCasts_S1x4096x3072_S4096x3072) (shapeCast _ h shapeCasts_S1x4096x1024_S4096x1024)) transposes_S3072x1024_S1024x3072_1_0
      = G h g := by
  funext y
  idx_vars y
  pointwise
  unfold G
  exact Finset.sum_congr rfl fun k _ => mul_comm _ _

end

theorem frame_reference : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

open Cert.Kernel6Ideal in
theorem algebraic : Cert.algebraic_Kernel6Ideal_Reference6Ideal := by
  intro m ρ m' ρ' _ hin
  refine ⟨fun c => G (m ((c.tc : Thread nD τ).loc main_arg0)) (m ((c.tc : Thread nD τ).loc main_arg1)), ?_, ?_⟩
  · exact (θ_run defs _ _).mono (fun r h c => ⟨(h c).1.trans (final m c), (h c).2⟩) (Cert.Kernel6Ideal.Value.run_blocks m ρ)
  · refine (θ_run Cert.Reference6Ideal.defs _ _).mono (fun r h c => ?_) (Cert.Reference6Ideal.Value.run m' ρ')
    obtain ⟨e, rest⟩ := h c
    obtain ⟨i0, i1⟩ := hin c
    rw [i0, i1] at e
    exact ⟨e.trans (ref_eq _ _), rest⟩

end Cert.Heads

end
-- ==== Proof.Act.Value.lean ====
/- The hidden layer: the up projection and its activation, tile by tile. -/
module

public import proofs.«01_k».proof.Proof.Down.Value
public import proofs.«01_k».proof.Proof.Gen.Kernel7Ideal.Frame

@[expose] public section

set_option maxRecDepth 16384

noncomputable section

namespace Cert.Act

open Idealize.ShloMosaic Idealize.ShloMosaic.TcCoe Idealize.ShloMosaic.Tactic Idealize.SL.Sem
open Idealize.ShloMosaic.Pipeline (Dat)
open Cert.Kernel7Ideal Cert.Kernel7Ideal.Gen
open Cert.Down (castRight_at)

theorem acc_at (a : FVec Ideal S1024x1024 .bf16) (b : FVec Ideal S1x1024x1024 .bf16) (r n : Fin 1024) :
    k0_pay1 (F := Ideal) a b (ix2 r n) = ∑ k : Fin 1024, a (ix2 r k) * b (ix3 0 k n) := by
  pointwise [k0_pay1]
theorem pre_at (a : FVec Ideal S1024x1024 .bf16) (b : FVec Ideal S1x1024x1024 .bf16) (r n : Fin 1024) :
    k0_pay2 (F := Ideal) a b (ix2 r n) = ∑ k : Fin 1024, a (ix2 r k) * b (ix3 0 k n) := acc_at a b r n
/-- The activation squares the positive part. -/
theorem act_at (a : FVec Ideal S1024x1024 .bf16) (b : FVec Ideal S1x1024x1024 .bf16) (r n : Fin 1024) :
    k0_pay3 (F := Ideal) a b (ix2 r n) = max (∑ k : Fin 1024, a (ix2 r k) * b (ix3 0 k n)) 0 * max (∑ k : Fin 1024, a (ix2 r k) * b (ix3 0 k n)) 0 := by
  pointwise [k0_pay3, acc_at]

variable (m : (ℓ : Loc nD τ sig) → Buf (Elt Ideal) ℓ) (c : Dev nD)

theorem entry0 : V m c main_v1 = truncf (F := Ideal) .bf16 (shapeCast S4096x1024 (m ((c : Thread nD τ).loc main_arg0)) shapeCasts_S1x4096x1024_S4096x1024) bitsLt_bf16_f32 := by
  unfold_abbrev_sides
  after_results
  rfl
theorem entry1 : V m c main_v4 = truncf (F := Ideal) .bf16 (transpose S4x1024x1024 [1, 0, 2] (shapeCast S1024x4x1024 (m ((c : Thread nD τ).loc main_arg1)) shapeCasts_S1024x4096_S1024x4x1024) transposes_S1024x4x1024_S4x1024x1024_1_0_2) bitsLt_bf16_f32 := by
  unfold_abbrev_sides
  after_results
  rfl

theorem col_lt (s : Fin 4) (n : Fin 1024) : s.val * 1024 + n.val < 4096 := by omega

theorem planes_at (x : FVec Ideal S1024x4096 .f32) (s : Fin 4) (r n : Fin 1024) :
    truncf (F := Ideal) .bf16 (transpose S4x1024x1024 [1, 0, 2] (shapeCast S1024x4x1024 x shapeCasts_S1024x4096_S1024x4x1024) transposes_S1024x4x1024_S4x1024x1024_1_0_2) bitsLt_bf16_f32 (ix3 s r n)
      = x (ix2 r (⟨s.val * 1024 + n.val, col_lt s n⟩ : Fin 4096)) := by
  pointwise

theorem left_at (i : Fin 4096) (n : Fin 1024) : V m c main_v1 (ix2 i n) = m ((c : Thread nD τ).loc main_arg0) (ix3 0 i n) :=
  (congrFun (entry0 m c) _).trans (castRight_at _ i n)
theorem right_at (s : Fin 4) (r n : Fin 1024) :
    V m c main_v4 (ix3 s r n) = m ((c : Thread nD τ).loc main_arg1) (ix2 r (⟨s.val * 1024 + n.val, col_lt s n⟩ : Fin 4096)) :=
  (congrFun (entry1 m c) _).trans (planes_at _ s r n)

theorem idx : ∀ t : Fin cfg0.N, win0_0.index t = ![t.val / 4, 0] ∧ win0_1.index t = ![t.val % 4, 0, 0]
    ∧ win0_2.index t = ![t.val / 4, t.val % 4] ∧ win0_3.index t = ![t.val / 4, t.val % 4] :=
  (by decide +kernel : ∀ t : Fin grid0.N, _)

/-- The up projection at one row and column. -/
def P (h : FVec Ideal S1x4096x1024 .f32) (w : FVec Ideal S1024x4096 .f32) (i n : Fin 4096) : EReal :=
  ∑ k : Fin 1024, h (ix3 0 i k) * w (ix2 k n)
/-- The hidden layer before its activation. -/
def gUp (h : FVec Ideal S1x4096x1024 .f32) (w : FVec Ideal S1024x4096 .f32) : FVec Ideal S4096x4096 .bf16 := fun y => P h w (y 0) (y 1)
/-- The hidden layer after its activation. -/
def gAct (h : FVec Ideal S1x4096x1024 .f32) (w : FVec Ideal S1024x4096 .f32) : FVec Ideal S4096x4096 .bf16 := fun y =>
  max (P h w (y 0) (y 1)) 0 * max (P h w (y 0) (y 1)) 0

/-- A tile's product of its two blocks is the projection at the tile's row and column. -/
theorem tile_at (t : Fin cfg0.N) (r n : Fin 1024) (hr : t.val / 4 * 1024 + r.val < 4096) (hn : t.val % 4 * 1024 + n.val < 4096) :
    k0_pay1 (iblk m c 0 t) (iblk m c 1 t) (ix2 r n)
      = P (m ((c : Thread nD τ).loc main_arg0)) (m ((c : Thread nD τ).loc main_arg1)) ⟨t.val / 4 * 1024 + r.val, hr⟩ ⟨t.val % 4 * 1024 + n.val, hn⟩ := by
  have hN : t.val < 16 := lt_of_lt_of_eq t.isLt (show cfg0.N = 16 from N_0)
  obtain ⟨i0, i1, -, -⟩ := idx t
  refine (acc_at _ _ _ _).trans (Finset.sum_congr rfl fun k _ => ?_)
  congr 1
  · refine Eq.trans ?_ (left_at m c _ _)
    blk_ext [iblk, i0]
  · refine Eq.trans ?_ (right_at m c (⟨t.val % 4, Nat.mod_lt _ (by decide)⟩ : Fin 4) k n)
    blk_ext [iblk, i1]

theorem finalUp : (dats m 0 c).arrAt 2 cfg0.N = gUp (m ((c : Thread nD τ).loc main_arg0)) (m ((c : Thread nD τ).loc main_arg1)) := by
  refine (dats m 0 c).arrAt_eq_of_covers 2 _ (by decide +kernel) fun t hf y => ?_
  have hN : t.val < 16 := lt_of_lt_of_eq t.isLt (show cfg0.N = 16 from N_0)
  blk_simp
  rw [after0_2]
  frame_out
  idx_vars y
  have e : ((View.whole main_v5_0).slice (win0_2.rect t)).emb (ix2 y0 y1)
      = ix2 (⟨t.val / 4 * 1024 + y0.val, by omega⟩ : Fin 4096) (⟨t.val % 4 * 1024 + y1.val, by omega⟩ : Fin 4096) := by
    blk_ext [(idx t).2.2.1]
  rw [e]
  exact tile_at m c t y0 y1 _ _

theorem finalAct : (dats m 0 c).arrAt 3 cfg0.N = gAct (m ((c : Thread nD τ).loc main_arg0)) (m ((c : Thread nD τ).loc main_arg1)) := by
  refine (dats m 0 c).arrAt_eq_of_covers 3 _ (by decide +kernel) fun t hf y => ?_
  have hN : t.val < 16 := lt_of_lt_of_eq t.isLt (show cfg0.N = 16 from N_0)
  blk_simp
  rw [after0_3]
  frame_out
  idx_vars y
  have e : ((View.whole main_v5_1).slice (win0_3.rect t)).emb (ix2 y0 y1)
      = ix2 (⟨t.val / 4 * 1024 + y0.val, by omega⟩ : Fin 4096) (⟨t.val % 4 * 1024 + y1.val, by omega⟩ : Fin 4096) := by
    blk_ext [(idx t).2.2.2]
  rw [e]
  refine (act_at _ _ _ _).trans ?_
  rw [← acc_at]
  exact congrArg (fun x => max x 0 * max x 0) (tile_at m c t y0 y1 _ _)

end Cert.Act

end
-- ==== Proof.Act.Claim.lean ====
/- The hidden layer: the kernel and the plain reference end with the same two arrays. -/
module

public import proofs.«01_k».proof.Defs
public import proofs.«01_k».proof.Proof.Gen.Kernel7Ideal.Value
public import proofs.«01_k».proof.Proof.Gen.Reference7Ideal.Run
public import proofs.«01_k».proof.Proof.Act.Value

@[expose] public section

set_option maxRecDepth 16384

noncomputable section

namespace Cert.Act

open Idealize.ShloMosaic Idealize.ShloMosaic.TcCoe Idealize.ShloMosaic.Tactic Idealize.SL.Sem

attribute [local instance] Cert.Kernel7Ideal.Gen.facts Cert.Reference7Ideal.Gen.facts

section
open Cert.Reference7Ideal Cert.Reference7Ideal.Gen

/-- The reference's up projection. -/
def rUp (h : FVec Ideal S1x4096x1024 .f32) (w : FVec Ideal S1024x4096 .f32) : FVec Ideal S4096x4096 .f32 :=
  Host.dotGeneral (F := Ideal) dot_S4096x1024_S1024x4096_S4096x4096_1_0_0_1_n_n none (shapeCast _ h shapeCasts_S1x4096x1024_S4096x1024) w

theorem rUp_at (h : FVec Ideal S1x4096x1024 .f32) (w : FVec Ideal S1024x4096 .f32) (i n : Fin 4096) : rUp h w (ix2 i n) = P h w i n := by
  pointwise [rUp]
  rfl

theorem up_eq (h : FVec Ideal S1x4096x1024 .f32) (w : FVec Ideal S1024x4096 .f32) : truncf (F := Ideal) .bf16 (rUp h w) bitsLt_bf16_f32 = gUp h w := by
  funext y
  idx_vars y
  exact rUp_at h w y0 y1

theorem act_eq (h : FVec Ideal S1x4096x1024 .f32) (w : FVec Ideal S1024x4096 .f32) :
    truncf (F := Ideal) .bf16 (mulf (maximumf (rUp h w) (broadcastInDim S4096x4096 ![] bcast_S_S4096x4096 (constant S_ .f32 0x00000000#32)))
      (maximumf (rUp h w) (broadcastInDim S4096x4096 ![] bcast_S_S4096x4096 (constant S_ .f32 0x00000000#32)))) bitsLt_bf16_f32 = gAct h w := by
  funext y
  idx_vars y
  pointwise
  rw [rUp_at]
  rfl

end

theorem frame_reference : Cert.quiescent_Reference7Ideal := fun m ρ _ =>
  (θ_run Cert.Reference7Ideal.defs _ _).mono (fun r h => ⟨fun c => (h c).2.2, Idealize.ShloMosaic.sem_eq_zero_of_no_sems (by decide) r.2⟩)
    (Cert.Reference7Ideal.Value.run (F := Ideal) m ρ)

open Cert.Kernel7Ideal in
theorem algebraic : Cert.algebraic_Kernel7Ideal_Reference7Ideal := by
  intro m ρ m' ρ' _ hin
  refine ⟨fun c => gUp (m ((c.tc : Thread nD τ).loc main_arg0)) (m ((c.tc : Thread nD τ).loc main_arg1)),
    fun c => gAct (m ((c.tc : Thread nD τ).loc main_arg0)) (m ((c.tc : Thread nD τ).loc main_arg1)), ?_, ?_⟩
  · exact (θ_run defs _ _).mono (fun r h c => ⟨(h c).1.trans (finalUp m c), (h c).2.1.trans (finalAct m c), (h c).2.2⟩) (Cert.Kernel7Ideal.Value.run_blocks m ρ)
  · refine (θ_run Cert.Reference7Ideal.defs _ _).mono (fun r h c => ?_) (Cert.Reference7Ideal.Value.run m' ρ')
    obtain ⟨e, e', rest⟩ := h c
    obtain ⟨i0, i1⟩ := hin c
    rw [i0, i1] at e e'
    exact ⟨e.trans (up_eq _ _), e'.trans (act_eq _ _), rest⟩

end Cert.Act

end
-- ==== Proof.DhLo.Value.lean ====
/- The input gradient through the first half of the combined projection: what the kernel's tiles add up to. -/
module

public import proofs.«01_k».proof.Proof.Down.Value
public import proofs.«01_k».proof.Proof.Heads.Value
public import proofs.«01_k».proof.Proof.Gen.Kernel8Ideal.Frame

@[expose] public section

set_option maxRecDepth 16384

noncomputable section

namespace Cert.DhLo

open Idealize.ShloMosaic Idealize.ShloMosaic.TcCoe Idealize.ShloMosaic.Tactic Idealize.SL.Sem
open Idealize.ShloMosaic.Pipeline (Dat)
open Cert.Kernel8Ideal Cert.Kernel8Ideal.Gen

theorem first : k0_pay1 (F := Ideal) = Cert.Kernel4Ideal.Gen.k0_pay1 := rfl

/-- One block's share of the product with the second factor transposed. -/
def part (a b : FVec Ideal S1024x1024 .bf16) : S1024x1024.Idx → EReal := fun y =>
  ∑ k : Fin 1024, a (ix2 (y 0) k) * b (ix2 (y 1) k)

theorem step_at (acc : FVec Ideal S1024x1024 .f32) (a b : FVec Ideal S1024x1024 .bf16) (r n : Fin 1024) :
    k0_pay2 (F := Ideal) acc a b (ix2 r n) = acc (ix2 r n) + part a b (ix2 r n) := by
  pointwise [k0_pay2, part]

variable (m : (ℓ : Loc nD τ sig) → Buf (Elt Ideal) ℓ) (c : Dev nD)

/-- What one grid point adds. -/
def term (t : Fin cfg0.N) : S1024x1024.Idx → EReal := part (iblk m c 0 t) (iblk m c 1 t)

theorem scratch_reset (t : Fin cfg0.N) (h : t.val % 3 = 0) (y : S1024x1024.Idx) :
    (outsAt0 m c t.val t.isLt).2 y = 0 + term m c t y := by
  idx_vars y
  rw [outsAt0_A m c t h (by omega)]
  frame_out
  exact (step_at _ _ _ _ _).trans (congrArg (· + _) ((congrFun first _).trans (Cert.Down.zero_at _ _)))

theorem scratch_step (t : Fin cfg0.N) (h : ¬t.val % 3 = 0) (y : S1024x1024.Idx) :
    (outsAt0 m c t.val t.isLt).2 y = (outsAt0 m c (t.val - 1) (Nat.lt_of_le_of_lt (Nat.sub_le _ _) t.isLt)).2 y + term m c t y := by
  idx_vars y
  by_cases h3 : t.val % 3 = 2
  · rw [outsAt0_C m c t h h3]
    frame_out
    simp only [read_unread_whole]
    exact step_at _ _ _ _ _
  · rw [outsAt0_B m c t h h3]
    frame_out
    simp only [read_unread_whole]
    exact step_at _ _ _ _ _

/-- At the last step of a run the block written back is the scratch. -/
theorem out_eq_scratch (t : Fin cfg0.N) (h3 : t.val % 3 = 2) : (outsAt0 m c t.val t.isLt).1 = (outsAt0 m c t.val t.isLt).2 := by
  rw [outsAt0_C m c t (by omega) h3]
  frame_out

theorem entry0 : V m c main_v1 = truncf (F := Ideal) .bf16 (shapeCast S4096x3072 (m ((c : Thread nD τ).loc main_arg0)) shapeCasts_S1x4096x3072_S4096x3072) bitsLt_bf16_f32 := by
  unfold_abbrev_sides
  after_results
  rfl
theorem entry1 : V m c main_v2 = truncf (F := Ideal) .bf16 (m ((c : Thread nD τ).loc main_arg1) : FVec Ideal S1024x6144 .f32) bitsLt_bf16_f32 := by
  unfold_abbrev_sides
  after_results

theorem left_at (i : Fin 4096) (n : Fin 3072) : V m c main_v1 (ix2 i n) = m ((c : Thread nD τ).loc main_arg0) (ix3 0 i n) :=
  (congrFun (entry0 m c) _).trans (Cert.Heads.castWide_at _ i n)
theorem right_at (i : Fin 1024) (n : Fin 6144) : V m c main_v2 (ix2 i n) = m ((c : Thread nD τ).loc main_arg1) (ix2 i n) :=
  congrFun (entry1 m c) _

theorem idx : ∀ t : Fin cfg0.N, win0_0.index t = ![t.val / 3, t.val % 3] ∧ win0_1.index t = ![0, t.val % 3] ∧ win0_2.index t = ![t.val / 3, 0] :=
  (by decide +kernel : ∀ t : Fin grid0.N, _)

/-- The gradient of the first half's columns, times those columns of the weights transposed. -/
def G (g : FVec Ideal S1x4096x3072 .f32) (w : FVec Ideal S1024x6144 .f32) : FVec Ideal S4096x1024 .f32 := fun y =>
  ∑ k : Fin 3072, g (ix3 0 (y 0) k) * w (ix2 (y 1) (⟨k.val, by omega⟩ : Fin 6144))

theorem final : (dats m 0 c).arrAt 2 cfg0.N = G (m ((c : Thread nD τ).loc main_arg0)) (m ((c : Thread nD τ).loc main_arg1)) := by
  refine (dats m 0 c).arrAt_eq_of_covers 2 _ (by decide +kernel) fun t hf y => ?_
  have h3 : t.val % 3 = 2 := (flush0_2 t).mp hf
  have hN : t.val < 12 := lt_of_lt_of_eq t.isLt (show cfg0.N = 12 from N_0)
  blk_simp
  rw [after0_2, out_eq_scratch m c t h3]
  rw [Pipeline.eq_sum_fin_of_reset_step_apply_of_flush (fun n h => (outsAt0 m c n h).2) 3 (fun _ => 0) (term m c)
    (scratch_reset m c) (scratch_step m c) t h3 y]
  idx_vars y
  have e : ((View.whole main_v3).slice (win0_2.rect t)).emb (ix2 y0 y1) = ix2 (⟨t.val / 3 * 1024 + y0.val, by omega⟩ : Fin 4096) y1 := by
    blk_ext [idx t]
  rw [e, zero_add]
  unfold term part G
  refine Fin.sum_mul_add_congr fun s k hl => ?_
  have hs : (3 * (t.val / 3) + s.val) % 3 = s.val := by omega
  have hd : (3 * (t.val / 3) + s.val) / 3 = t.val / 3 := by omega
  have i0 := (idx ⟨3 * (t.val / 3) + s.val, Pipeline.run_point_lt_of_flush t h3 s⟩).1
  have i1 := (idx ⟨3 * (t.val / 3) + s.val, Pipeline.run_point_lt_of_flush t h3 s⟩).2.1
  dsimp only at i0 i1
  rw [hs, hd] at i0
  rw [hs] at i1
  congr 1
  · refine Eq.trans ?_ (left_at m c _ _)
    blk_ext [iblk, i0]
  · refine Eq.trans ?_ (right_at m c _ _)
    blk_ext [iblk, i1]

end Cert.DhLo

end
-- ==== Proof.DhLo.Claim.lean ====
/- The input gradient through the first half of the combined projection: the kernel and the plain reference end with the same array. -/
module

public import proofs.«01_k».proof.Defs
public import proofs.«01_k».proof.Proof.Gen.Kernel8Ideal.Value
public import proofs.«01_k».proof.Proof.Gen.Reference8Ideal.Run
public import proofs.«01_k».proof.Proof.DhLo.Value

@[expose] public section

set_option maxRecDepth 16384

noncomputable section

namespace Cert.DhLo

open Idealize.ShloMosaic Idealize.ShloMosaic.TcCoe Idealize.ShloMosaic.Tactic Idealize.SL.Sem

attribute [local instance] Cert.Kernel8Ideal.Gen.facts Cert.Reference8Ideal.Gen.facts

section
open Cert.Reference8Ideal Cert.Reference8Ideal.Gen

/-- The reference cuts the first half of the columns out of the weights and multiplies once. -/
theorem ref_eq (g : FVec Ideal S1x4096x3072 .f32) (w : FVec Ideal S1024x6144 .f32) :
    Host.dotGeneral (F := Ideal) dot_S4096x3072_S1024x3072_S4096x1024_1_1_0_0_n_n none (shapeCast _ g shapeCasts_S1x4096x3072_S4096x3072) (extractStridedSlice S1024x3072 ![0, 0] w slices_S1024x6144_S1024x3072_0_0)
      = G g w := by
  funext y
  idx_vars y
  pointwise [G]

end

theorem frame_reference : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

open Cert.Kernel8Ideal in
theorem algebraic : Cert.algebraic_Kernel8Ideal_Reference8Ideal := by
  intro m ρ m' ρ' _ hin
  refine ⟨fun c => G (m ((c.tc : Thread nD τ).loc main_arg0)) (m ((c.tc : Thread nD τ).loc main_arg1)), ?_, ?_⟩
  · exact (θ_run defs _ _).mono (fun r h c => ⟨(h c).1.trans (final m c), (h c).2⟩) (Cert.Kernel8Ideal.Value.run_blocks m ρ)
  · refine (θ_run Cert.Reference8Ideal.defs _ _).mono (fun r h c => ?_) (Cert.Reference8Ideal.Value.run m' ρ')
    obtain ⟨e, rest⟩ := h c
    obtain ⟨i0, i1⟩ := hin c
    rw [i0, i1] at e
    exact ⟨e.trans (ref_eq _ _), rest⟩

end Cert.DhLo

end
-- ==== Proof.DwOut.Value.lean ====
/- The gradient of the output projection's weights: what the kernel's tiles add up to. -/
module

public import proofs.«01_k».proof.Proof.Down.Value
public import proofs.«01_k».proof.Proof.Gen.Kernel9Ideal.Frame

@[expose] public section

set_option maxRecDepth 16384

noncomputable section

namespace Cert.DwOut

open Idealize.ShloMosaic Idealize.ShloMosaic.TcCoe Idealize.ShloMosaic.Tactic Idealize.SL.Sem
open Idealize.ShloMosaic.Pipeline (Dat)
open Cert.Kernel9Ideal Cert.Kernel9Ideal.Gen

theorem first : k0_pay1 (F := Ideal) = Cert.Kernel4Ideal.Gen.k0_pay1 := rfl

/-- One block's share of the product with the first factor transposed. -/
def part (a : FVec Ideal S1024x1024 .bf16) (b : FVec Ideal S1024x1024 .f32) : S1024x1024.Idx → EReal := fun y =>
  ∑ k : Fin 1024, a (ix2 k (y 0)) * b (ix2 k (y 1))

theorem step_at (acc : FVec Ideal S1024x1024 .f32) (a : FVec Ideal S1024x1024 .bf16) (b : FVec Ideal S1024x1024 .f32) (r n : Fin 1024) :
    k0_pay2 (F := Ideal) acc a b (ix2 r n) = acc (ix2 r n) + part a b (ix2 r n) := by
  pointwise [k0_pay2, part]

variable (m : (ℓ : Loc nD τ sig) → Buf (Elt Ideal) ℓ) (c : Dev nD)

/-- What one grid point adds. -/
def term (t : Fin cfg0.N) : S1024x1024.Idx → EReal := part (iblk m c 0 t) (iblk m c 1 t)

theorem scratch_reset (t : Fin cfg0.N) (h : t.val % 4 = 0) (y : S1024x1024.Idx) :
    (outsAt0 m c t.val t.isLt).2 y = 0 + term m c t y := by
  idx_vars y
  rw [outsAt0_A m c t h (by omega)]
  frame_out
  exact (step_at _ _ _ _ _).trans (congrArg (· + _) ((congrFun first _).trans (Cert.Down.zero_at _ _)))

theorem scratch_step (t : Fin cfg0.N) (h : ¬t.val % 4 = 0) (y : S1024x1024.Idx) :
    (outsAt0 m c t.val t.isLt).2 y = (outsAt0 m c (t.val - 1) (Nat.lt_of_le_of_lt (Nat.sub_le _ _) t.isLt)).2 y + term m c t y := by
  idx_vars y
  by_cases h3 : t.val % 4 = 3
  · rw [outsAt0_C m c t h h3]
    frame_out
    simp only [read_unread_whole]
    exact step_at _ _ _ _ _
  · rw [outsAt0_B m c t h h3]
    frame_out
    simp only [read_unread_whole]
    exact step_at _ _ _ _ _

/-- At the last step the block written back is the scratch. -/
theorem out_eq_scratch (t : Fin cfg0.N) (h3 : t.val % 4 = 3) : (outsAt0 m c t.val t.isLt).1 = (outsAt0 m c t.val t.isLt).2 := by
  rw [outsAt0_C m c t (by omega) h3]
  frame_out

theorem entry0 : V m c main_v1 = truncf (F := Ideal) .bf16 (shapeCast S4096x1024 (m ((c : Thread nD τ).loc main_arg0)) shapeCasts_S1x4096x1024_S4096x1024) bitsLt_bf16_f32 := by
  unfold_abbrev_sides
  after_results
  rfl
theorem entry1 : V m c main_v2 = shapeCast S4096x1024 (m ((c : Thread nD τ).loc main_arg1) : FVec Ideal S1x4096x1024 .f32) shapeCasts_S1x4096x1024_S4096x1024 := by
  unfold_abbrev_sides
  after_results
  rfl

/-- A row array with a leading axis of one, read without it. -/
theorem rows_at (x : FVec Ideal S1x4096x1024 .f32) (i : Fin 4096) (n : Fin 1024) :
    shapeCast S4096x1024 x shapeCasts_S1x4096x1024_S4096x1024 (ix2 i n) = x (ix3 0 i n) := by
  pointwise

theorem left_at (i : Fin 4096) (n : Fin 1024) : V m c main_v1 (ix2 i n) = m ((c : Thread nD τ).loc main_arg0) (ix3 0 i n) :=
  (congrFun (entry0 m c) _).trans (Cert.Down.castRight_at _ i n)
theorem right_at (i : Fin 4096) (n : Fin 1024) : V m c main_v2 (ix2 i n) = m ((c : Thread nD τ).loc main_arg1) (ix3 0 i n) :=
  (congrFun (entry1 m c) _).trans (rows_at _ i n)

theorem idx : ∀ t : Fin cfg0.N, win0_0.index t = ![t.val % 4, 0] ∧ win0_1.index t = ![t.val % 4, 0] ∧ win0_2.index t = ![0, 0] :=
  (by decide +kernel : ∀ t : Fin grid0.N, _)

/-- The merged heads transposed, times the gradient of the projected rows. -/
def G (a g : FVec Ideal S1x4096x1024 .f32) : FVec Ideal S1024x1024 .f32 := fun y =>
  ∑ k : Fin 4096, a (ix3 0 k (y 0)) * g (ix3 0 k (y 1))

theorem final : (dats m 0 c).arrAt 2 cfg0.N = G (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have hN : t.val < 4 := lt_of_lt_of_eq t.isLt (show cfg0.N = 4 from N_0)
  blk_simp
  rw [after0_2, out_eq_scratch m c t h3]
  rw [Pipeline.eq_sum_fin_of_reset_step_apply_of_flush (fun n h => (outsAt0 m c n h).2) 4 (fun _ => 0) (term m c)
    (scratch_reset m c) (scratch_step m c) t h3 y]
  idx_vars y
  have e : ((View.whole main_v3).slice (win0_2.rect t)).emb (ix2 y0 y1) = ix2 y0 y1 := by
    blk_ext [idx t]
  rw [e, zero_add]
  unfold term part G
  refine Fin.sum_mul_add_congr fun s k hl => ?_
  have hs : (4 * (t.val / 4) + s.val) % 4 = s.val := by omega
  have i0 := (idx ⟨4 * (t.val / 4) + s.val, Pipeline.run_point_lt_of_flush t h3 s⟩).1
  have i1 := (idx ⟨4 * (t.val / 4) + s.val, Pipeline.run_point_lt_of_flush t h3 s⟩).2.1
  dsimp only at i0 i1
  rw [hs] at i0 i1
  congr 1
  · refine Eq.trans ?_ (left_at m c _ _)
    blk_ext [iblk, i0]
  · refine Eq.trans ?_ (right_at m c _ _)
    blk_ext [iblk, i1]

end Cert.DwOut

end
-- ==== Proof.DwOut.Claim.lean ====
/- The gradient of the output projection's weights: the kernel and the plain reference end with the same array. -/
module

public import proofs.«01_k».proof.Defs
public import proofs.«01_k».proof.Proof.Gen.Kernel9Ideal.Value
public import proofs.«01_k».proof.Proof.Gen.Reference9Ideal.Run
public import proofs.«01_k».proof.Proof.DwOut.Value

@[expose] public section

set_option maxRecDepth 16384

noncomputable section

namespace Cert.DwOut

open Idealize.ShloMosaic Idealize.ShloMosaic.TcCoe Idealize.ShloMosaic.Tactic Idealize.SL.Sem

attribute [local instance] Cert.Kernel9Ideal.Gen.facts Cert.Reference9Ideal.Gen.facts

section
open Cert.Reference9Ideal Cert.Reference9Ideal.Gen

/-- The reference multiplies the two factors the other way round and transposes. -/
theorem ref_eq (a g : FVec Ideal S1x4096x1024 .f32) :
    transpose S1024x1024 [1, 0] (Host.dotGeneral (F := Ideal) dot_S4096x1024_S4096x1024_S1024x1024_0_0_1_1_n_n none (shapeCast _ g shapeCasts_S1x4096x1024_S4096x1024) (shapeCast _ a shapeCasts_S1x4096x1024_S4096x1024)) transposes_S1024x1024_S1024x1024_1_0
      = G a g := by
  funext y
  idx_vars y
  pointwise
  unfold G
  exact Finset.sum_congr rfl fun k _ => mul_comm _ _

end

theorem frame_reference : Cert.quiescent_Reference9Ideal := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)

open Cert.Kernel9Ideal in
theorem algebraic : Cert.algebraic_Kernel9Ideal_Reference9Ideal := by
  intro m ρ m' ρ' _ hin
  refine ⟨fun c => G (m ((c.tc : Thread nD τ).loc main_arg0)) (m ((c.tc : Thread nD τ).loc main_arg1)), ?_, ?_⟩
  · exact (θ_run defs _ _).mono (fun r h c => ⟨(h c).1.trans (final m c), (h c).2⟩) (Cert.Kernel9Ideal.Value.run_blocks m ρ)
  · refine (θ_run Cert.Reference9Ideal.defs _ _).mono (fun r h c => ?_) (Cert.Reference9Ideal.Value.run m' ρ')
    obtain ⟨e, rest⟩ := h c
    obtain ⟨i0, i1⟩ := hin c
    rw [i0, i1] at e
    exact ⟨e.trans (ref_eq _ _), rest⟩

end Cert.DwOut

end
-- ==== Proof.DMerged.Value.lean ====
/- The gradient of the merged heads: what the kernel writes, tile by tile. -/
module

public import proofs.«01_k».proof.Proof.DwOut.Value
public import proofs.«01_k».proof.Proof.Gen.Kernel10Ideal.Frame

@[expose] public section

set_option maxRecDepth 16384

noncomputable section

namespace Cert.DMerged

open Idealize.ShloMosaic Idealize.ShloMosaic.TcCoe Idealize.ShloMosaic.Tactic Idealize.SL.Sem
open Idealize.ShloMosaic.Pipeline (Dat)
open Cert.Kernel10Ideal Cert.Kernel10Ideal.Gen

theorem pay_at (a : FVec Ideal S1024x1024 .f32) (b : FVec Ideal S1024x1024 .bf16) (r n : Fin 1024) :
    k0_pay1 (F := Ideal) a b (ix2 r n) = ∑ k : Fin 1024, a (ix2 r k) * b (ix2 n k) := by
  pointwise [k0_pay1]

variable (m : (ℓ : Loc nD τ sig) → Buf (Elt Ideal) ℓ) (c : Dev nD)

theorem entry0 : V m c main_v0 = shapeCast S4096x1024 (m ((c : Thread nD τ).loc main_arg0) : FVec Ideal S1x4096x1024 .f32) shapeCasts_S1x4096x1024_S4096x1024 := by
  unfold_abbrev_sides
  after_results
  rfl
theorem entry1 : V m c main_v1 = truncf (F := Ideal) .bf16 (m ((c : Thread nD τ).loc main_arg1) : FVec Ideal S1024x1024 .f32) bitsLt_bf16_f32 := by
  unfold_abbrev_sides
  after_results

theorem left_at (i : Fin 4096) (n : Fin 1024) : V m c main_v0 (ix2 i n) = m ((c : Thread nD τ).loc main_arg0) (ix3 0 i n) :=
  (congrFun (entry0 m c) _).trans (Cert.DwOut.rows_at _ i n)
theorem right_at (i n : Fin 1024) : V m c main_v1 (ix2 i n) = m ((c : Thread nD τ).loc main_arg1) (ix2 i n) :=
  congrFun (entry1 m c) _

theorem idx : ∀ t : Fin cfg0.N, win0_0.index t = ![t.val, 0] ∧ win0_1.index t = ![0, 0] ∧ win0_2.index t = ![t.val, 0] :=
  (by decide +kernel : ∀ t : Fin grid0.N, _)

/-- The gradient of the projected rows, times the output projection's weights transposed. -/
def G (g : FVec Ideal S1x4096x1024 .f32) (w : FVec Ideal S1024x1024 .f32) : FVec Ideal S4096x1024 .f32 := fun y =>
  ∑ k : Fin 1024, g (ix3 0 (y 0) k) * w (ix2 (y 1) k)

theorem final : (dats m 0 c).arrAt 2 cfg0.N = G (m ((c : Thread nD τ).loc main_arg0)) (m ((c : Thread nD τ).loc main_arg1)) := by
  refine (dats m 0 c).arrAt_eq_of_covers 2 _ (by decide +kernel) fun t hf y => ?_
  have hN : t.val < 4 := lt_of_lt_of_eq t.isLt (show cfg0.N = 4 from N_0)
  blk_simp
  rw [after0_2]
  frame_out
  idx_vars y
  obtain ⟨i0, i1, i2⟩ := idx t
  have e : ((View.whole main_v2).slice (win0_2.rect t)).emb (ix2 y0 y1) = ix2 (⟨t.val * 1024 + y0.val, by omega⟩ : Fin 4096) y1 := by
    blk_ext [i2]
  rw [e]
  refine (pay_at _ _ _ _).trans ?_
  unfold G
  refine Finset.sum_congr rfl fun k _ => ?_
  congr 1
  · refine Eq.trans ?_ (left_at m c _ _)
    blk_ext [iblk, i0]
  · refine Eq.trans ?_ (right_at m c _ _)
    blk_ext [iblk, i1]

end Cert.DMerged

end
-- ==== Proof.DMerged.Claim.lean ====
/- The gradient of the merged heads: the kernel and the plain reference end with the same array. -/
module

public import proofs.«01_k».proof.Defs
public import proofs.«01_k».proof.Proof.Gen.Kernel10Ideal.Value
public import proofs.«01_k».proof.Proof.Gen.Reference10Ideal.Run
public import proofs.«01_k».proof.Proof.DMerged.Value

@[expose] public section

set_option maxRecDepth 16384

noncomputable section

namespace Cert.DMerged

open Idealize.ShloMosaic Idealize.ShloMosaic.TcCoe Idealize.ShloMosaic.Tactic Idealize.SL.Sem

attribute [local instance] Cert.Kernel10Ideal.Gen.facts Cert.Reference10Ideal.Gen.facts

section
open Cert.Reference10Ideal Cert.Reference10Ideal.Gen

theorem ref_eq (g : FVec Ideal S1x4096x1024 .f32) (w : FVec Ideal S1024x1024 .f32) :
    Host.dotGeneral (F := Ideal) dot_S4096x1024_S1024x1024_S4096x1024_1_1_0_0_n_n none (shapeCast _ g shapeCasts_S1x4096x1024_S4096x1024) w = G g w := by
  funext y
  idx_vars y
  pointwise [G]

end

theorem frame_reference : Cert.quiescent_Reference10Ideal := fun m ρ _ =>
  (θ_run Cert.Reference10Ideal.defs _ _).mono (fun r h => ⟨fun c => (h c).2, Idealize.ShloMosaic.sem_eq_zero_of_no_sems (by decide) r.2⟩)
    (Cert.Reference10Ideal.Value.run (F := Ideal) m ρ)

open Cert.Kernel10Ideal in
theorem algebraic : Cert.algebraic_Kernel10Ideal_Reference10Ideal := by
  intro m ρ m' ρ' _ hin
  refine ⟨fun c => G (m ((c.tc : Thread nD τ).loc main_arg0)) (m ((c.tc : Thread nD τ).loc main_arg1)), ?_, ?_⟩
  · exact (θ_run defs _ _).mono (fun r h c => ⟨(h c).1.trans (final m c), (h c).2⟩) (Cert.Kernel10Ideal.Value.run_blocks m ρ)
  · refine (θ_run Cert.Reference10Ideal.defs _ _).mono (fun r h c => ?_) (Cert.Reference10Ideal.Value.run m' ρ')
    obtain ⟨e, rest⟩ := h c
    obtain ⟨i0, i1⟩ := hin c
    rw [i0, i1] at e
    exact ⟨e.trans (ref_eq _ _), rest⟩

end Cert.DMerged

end
-- ==== Proof.Proj.Value.lean ====
/- The combined projection of the normalised rows: what the kernel writes, tile by tile. -/
module

public import proofs.«01_k».proof.Proof.Down.Value
public import proofs.«01_k».proof.Proof.Gen.Kernel11Ideal.Frame

@[expose] public section

set_option maxRecDepth 16384

noncomputable section

namespace Cert.Proj

open Idealize.ShloMosaic Idealize.ShloMosaic.TcCoe Idealize.ShloMosaic.Tactic Idealize.SL.Sem
open Idealize.ShloMosaic.Pipeline (Dat)
open Cert.Kernel11Ideal Cert.Kernel11Ideal.Gen

theorem pay_at (a : FVec Ideal S1024x1024 .bf16) (b : FVec Ideal S1024x2048 .bf16) (r : Fin 1024) (n : Fin 2048) :
    k0_pay1 (F := Ideal) a b (ix2 r n) = ∑ k : Fin 1024, a (ix2 r k) * b (ix2 k n) := by
  pointwise [k0_pay1]

variable (m : (ℓ : Loc nD τ sig) → Buf (Elt Ideal) ℓ) (c : Dev nD)

theorem entry0 : V m c main_v1 = truncf (F := Ideal) .bf16 (shapeCast S4096x1024 (m ((c : Thread nD τ).loc main_arg0)) shapeCasts_S1x4096x1024_S4096x1024) bitsLt_bf16_f32 := by
  unfold_abbrev_sides
  after_results
  rfl
theorem entry1 : V m c main_v2 = truncf (F := Ideal) .bf16 (m ((c : Thread nD τ).loc main_arg1) : FVec Ideal S1024x6144 .f32) bitsLt_bf16_f32 := by
  unfold_abbrev_sides
  after_results

theorem left_at (i : Fin 4096) (n : Fin 1024) : V m c main_v1 (ix2 i n) = m ((c : Thread nD τ).loc main_arg0) (ix3 0 i n) :=
  (congrFun (entry0 m c) _).trans (Cert.Down.castRight_at _ i n)
theorem right_at (i : Fin 1024) (n : Fin 6144) : V m c main_v2 (ix2 i n) = m ((c : Thread nD τ).loc main_arg1) (ix2 i n) :=
  congrFun (entry1 m c) _

theorem idx : ∀ t : Fin cfg0.N, win0_0.index t = ![t.val / 3, 0] ∧ win0_1.index t = ![0, t.val % 3] ∧ win0_2.index t = ![t.val / 3, t.val % 3] :=
  (by decide +kernel : ∀ t : Fin grid0.N, _)

/-- The rows times the combined weights. -/
def G (h : FVec Ideal S1x4096x1024 .f32) (w : FVec Ideal S1024x6144 .f32) : FVec Ideal S4096x6144 .f32 := fun y =>
  ∑ k : Fin 1024, h (ix3 0 (y 0) k) * w (ix2 k (y 1))

theorem final : (dats m 0 c).arrAt 2 cfg0.N = G (m ((c : Thread nD τ).loc main_arg0)) (m ((c : Thread nD τ).loc main_arg1)) := by
  refine (dats m 0 c).arrAt_eq_of_covers 2 _ (by decide +kernel) fun t hf y => ?_
  have hN : t.val < 12 := lt_of_lt_of_eq t.isLt (show cfg0.N = 12 from N_0)
  blk_simp
  rw [after0_2]
  frame_out
  idx_vars y
  obtain ⟨i0, i1, i2⟩ := idx t
  have e : ((View.whole main_v3).slice (win0_2.rect t)).emb (ix2 y0 y1)
      = ix2 (⟨t.val / 3 * 1024 + y0.val, by omega⟩ : Fin 4096) (⟨t.val % 3 * 2048 + y1.val, by omega⟩ : Fin 6144) := by
    blk_ext [i2]
  rw [e]
  refine (pay_at _ _ _ _).trans ?_
  unfold G
  refine Finset.sum_congr rfl fun k _ => ?_
  congr 1
  · refine Eq.trans ?_ (left_at m c _ _)
    blk_ext [iblk, i0]
  · refine Eq.trans ?_ (right_at m c _ _)
    blk_ext [iblk, i1]

end Cert.Proj

end
-- ==== Proof.Proj.Claim.lean ====
/- The combined projection: the kernel and the plain reference end with the same array. -/
module

public import proofs.«01_k».proof.Defs
public import proofs.«01_k».proof.Proof.Gen.Kernel11Ideal.Value
public import proofs.«01_k».proof.Proof.Gen.Reference11Ideal.Run
public import proofs.«01_k».proof.Proof.Proj.Value

@[expose] public section

set_option maxRecDepth 16384

noncomputable section

namespace Cert.Proj

open Idealize.ShloMosaic Idealize.ShloMosaic.TcCoe Idealize.ShloMosaic.Tactic Idealize.SL.Sem

attribute [local instance] Cert.Kernel11Ideal.Gen.facts Cert.Reference11Ideal.Gen.facts

section
open Cert.Reference11Ideal Cert.Reference11Ideal.Gen

theorem ref_eq (h : FVec Ideal S1x4096x1024 .f32) (w : FVec Ideal S1024x6144 .f32) :
    Host.dotGeneral (F := Ideal) dot_S4096x1024_S1024x6144_S4096x6144_1_0_0_1_n_n none (shapeCast _ h shapeCasts_S1x4096x1024_S4096x1024) w = G h w := by
  funext y
  idx_vars y
  pointwise [G]

end

theorem frame_reference : Cert.quiescent_Reference11Ideal := fun m ρ _ =>
  (θ_run Cert.Reference11Ideal.defs _ _).mono (fun r h => ⟨fun c => (h c).2, Idealize.ShloMosaic.sem_eq_zero_of_no_sems (by decide) r.2⟩)
    (Cert.Reference11Ideal.Value.run (F := Ideal) m ρ)

open Cert.Kernel11Ideal in
theorem algebraic : Cert.algebraic_Kernel11Ideal_Reference11Ideal := by
  intro m ρ m' ρ' _ hin
  refine ⟨fun c => G (m ((c.tc : Thread nD τ).loc main_arg0)) (m ((c.tc : Thread nD τ).loc main_arg1)), ?_, ?_⟩
  · exact (θ_run defs _ _).mono (fun r h c => ⟨(h c).1.trans (final m c), (h c).2⟩) (Cert.Kernel11Ideal.Value.run_blocks m ρ)
  · refine (θ_run Cert.Reference11Ideal.defs _ _).mono (fun r h c => ?_) (Cert.Reference11Ideal.Value.run m' ρ')
    obtain ⟨e, rest⟩ := h c
    obtain ⟨i0, i1⟩ := hin c
    rw [i0, i1] at e
    exact ⟨e.trans (ref_eq _ _), rest⟩

end Cert.Proj

end
-- ==== Proof.Rms.Row.lean ====
/- The backward pass of the root-mean-square norm on one row: the two ways of writing it agree on the extended reals. -/
module

public import proofs.«01_k».proof.Proof.Soft

@[expose] public section

set_option maxRecDepth 16384

noncomputable section

namespace Cert.Rms

open Idealize.ShloMosaic

/-- A positive real factor may be taken out of a sum of two extended reals, whatever they are. -/
theorem add_mul_pos (a b : EReal) {r : ℝ} (h : 0 ≤ r) : (a + b) * (r : EReal) = a * r + b * r :=
  EReal.right_distrib_of_nonneg_of_ne_top (EReal.coe_nonneg.2 h) (EReal.coe_ne_top r) a b

/-- A positive real factor may be taken out of a finite sum. -/
theorem sum_mul_pos {ι : Type} (s : Finset ι) (f : ι → EReal) {r : ℝ} (h : 0 ≤ r) : (∑ i ∈ s, f i) * (r : EReal) = ∑ i ∈ s, f i * r := by
  classical
  induction s using Finset.induction_on with
  | empty => simp
  | insert a s ha ih => rw [Finset.sum_insert ha, Finset.sum_insert ha, add_mul_pos _ _ h, ih]

/-- A real multiple taken twice. -/
theorem mul_twice (a : EReal) (c : ℝ) : a * (c : EReal) + a * (c : EReal) = a * ((2 * c : ℝ) : EReal) := by
  induction a using EReal.rec with
  | coe x => rw [← EReal.coe_mul, ← EReal.coe_add, ← EReal.coe_mul]; congr 1; ring
  | bot =>
    rcases lt_trichotomy c 0 with h | h | h
    · rw [EReal.bot_mul_coe_of_neg h, EReal.bot_mul_coe_of_neg (by linarith)]; rfl
    · subst h; simp
    · rw [EReal.bot_mul_coe_of_pos h, EReal.bot_mul_coe_of_pos (by linarith)]; rfl
  | top =>
    rcases lt_trichotomy c 0 with h | h | h
    · rw [EReal.top_mul_coe_of_neg h, EReal.top_mul_coe_of_neg (by linarith)]; rfl
    · subst h; simp
    · rw [EReal.top_mul_coe_of_pos h, EReal.top_mul_coe_of_pos (by linarith)]; rfl

/-- The words of the row's length, of the small constant and of minus one half. -/
abbrev len : EReal := Ideal.ofBits .f32 0x44800000#32
abbrev eps : EReal := Ideal.ofBits .f32 0x358637BD#32
abbrev half : EReal := Ideal.ofBits .f32 0xBF000000#32

theorem len_eq : len = ((1024 : ℝ) : EReal) := by
  simp [len, Ideal.ofBits, Ideal.ieee]
  rw [← EReal.coe_mul]
  norm_num
theorem half_eq : half = ((-(1 / 2) : ℝ) : EReal) := by
  simp [half, Ideal.ofBits, Ideal.ieee]
  rw [← EReal.coe_mul]
  norm_num
theorem eps_eq : ∃ e : ℝ, 0 < e ∧ eps = (e : EReal) := by
  refine ⟨_, ?_, by simp [eps, Ideal.ofBits, Ideal.ieee]; rfl⟩
  positivity

variable {J : Type} [Fintype J]

/-- A row's mean square, with the small constant added. -/
def ms (x : J → EReal) : EReal := Ideal.div (∑ k, x k * x k) len + eps

/-- On an infinite row the reciprocal root is zero, on a real row it is a positive real whose square inverts the mean square. -/
theorem root (x : J → EReal) : (ms x = ⊤ ∧ Ideal.rsqrt (ms x) = 0) ∨
    ∃ (v r : ℝ) (y : J → ℝ), 0 < r ∧ 0 < v ∧ r * r = 1 / v ∧ ms x = v ∧ Ideal.rsqrt (ms x) = r ∧ x = fun k => (y k : EReal) := by
  classical
  obtain ⟨e, he, hE⟩ := eps_eq
  by_cases hx : ∀ k, ∃ y : ℝ, x k = y
  · choose y hy using hx
    obtain rfl : x = fun k => (y k : EReal) := funext hy
    have hs : 0 ≤ ∑ k, y k * y k := Finset.sum_nonneg fun k _ => mul_self_nonneg _
    have hv : ms (fun k => (y k : EReal)) = (((∑ k, y k * y k) / 1024 + e : ℝ) : EReal) := by
      unfold ms
      rw [len_eq, hE, Cert.Soft.coe_sum_mul, Cert.Soft.div_coe_coe _ (by norm_num), ← EReal.coe_add]
    have hp : 0 < (∑ k, y k * y k) / 1024 + e := by positivity
    refine Or.inr ⟨_, (Real.sqrt ((∑ k, y k * y k) / 1024 + e))⁻¹, y, by positivity, hp, ?_, hv, ?_, rfl⟩
    · rw [← mul_inv, Real.mul_self_sqrt hp.le, one_div]
    · rw [hv, Ideal.rsqrt_coe, if_neg (not_lt.2 hp.le), if_neg hp.ne']
  · left
    obtain ⟨k, hk⟩ := not_forall.1 hx
    rw [not_exists] at hk
    have hnn : ∀ a : EReal, 0 ≤ a * a := fun a => EReal.mul_nonneg_iff.2 ((le_total 0 a).imp (fun h => ⟨h, h⟩) fun h => ⟨h, h⟩)
    have hkk : x k * x k = ⊤ := by
      generalize x k = a at hk
      induction a using EReal.rec with
      | bot => rfl
      | top => rfl
      | coe r => exact absurd rfl (hk r)
    have hs : ∑ k, x k * x k = ⊤ := top_le_iff.1 (hkk ▸ Finset.single_le_sum (f := fun k => x k * x k) (fun i _ => hnn _) (Finset.mem_univ k))
    have hm : ms x = ⊤ := by
      unfold ms
      rw [hs, len_eq, hE, Ideal.div_coe (by norm_num), EReal.top_mul_coe_of_pos (by norm_num), EReal.top_add_coe]
    exact ⟨hm, by rw [hm, Ideal.rsqrt_top]⟩

/-- The gradient of a row through the norm, the cotangent `q` already times the gain. -/
def dx (x q : J → EReal) (j : J) : EReal :=
  Ideal.rsqrt (ms x) * (q j - x j * Ideal.rsqrt (ms x) * Ideal.div (∑ k, q k * (x k * Ideal.rsqrt (ms x))) len)

/-- THE GRADIENT OF A ROW THROUGH THE NORM, the cotangent `q` already times the gain: differentiating the mean and the
    reciprocal root step by step gives the row's projection off the normalised row, times the reciprocal root. -/
theorem backward (x q : J → EReal) (j : J) :
    q j * Ideal.rsqrt (ms x) + x j * Ideal.div ((∑ k, x k * q k) * (half * Ideal.div (Ideal.rsqrt (ms x)) (ms x))) len
        + Ideal.div ((∑ k, x k * q k) * (half * Ideal.div (Ideal.rsqrt (ms x)) (ms x))) len * x j
      = dx x q j := by
  unfold dx
  rcases root x with ⟨hv, hr⟩ | ⟨v, r, y, hr0, hv0, hrr, hv, hr, hx⟩
  · rw [hr, hv, len_eq, half_eq]
    have hd : Ideal.div 0 ⊤ = 0 := by rw [Ideal.div, if_neg (by simp)]; simp
    simp [Ideal.div_coe, hd]
  · rw [hr, hv, len_eq, half_eq, Cert.Soft.div_coe_coe _ hv0.ne', Ideal.div_coe (by norm_num), Ideal.div_coe (by norm_num),
      ← EReal.coe_mul]
    have hs : ∑ k, q k * (x k * (r : EReal)) = (∑ k, x k * q k) * r := by
      rw [sum_mul_pos _ _ hr0.le]
      exact Finset.sum_congr rfl fun k _ => by rw [mul_comm (x k) (q k), mul_assoc]
    rw [hs]
    generalize ∑ k, x k * q k = T
    have e1 : x j * (T * ((-(1 / 2) * (r / v) : ℝ) : EReal) * ((1 / 1024 : ℝ) : EReal)) = x j * T * ((-(1 / 2) * (r / v) * (1 / 1024) : ℝ) : EReal) := by
      rw [EReal.coe_mul (-(1 / 2) * (r / v)), mul_assoc, mul_assoc]
    have e2 : (r : EReal) * (x j * r * (T * r * ((1 / 1024 : ℝ) : EReal))) = x j * T * ((r * r * r * (1 / 1024) : ℝ) : EReal) := by
      simp only [EReal.coe_mul]
      ac_rfl
    rw [mul_comm _ (x j), e1, add_assoc, mul_twice, sub_eq_add_neg, mul_comm (r : EReal), add_mul_pos _ _ hr0.le, EReal.neg_mul, mul_comm (x j * _ * _) (r : EReal), e2, ← mul_neg, ← EReal.coe_neg]
    have e3 : 2 * (-(1 / 2) * (r / v) * (1 / 1024)) = -(r * r * r * (1 / 1024)) := by rw [hrr]; ring
    rw [e3, mul_comm (q j)]

end Cert.Rms

end
-- ==== Proof.Rms.Ref.lean ====
/- The backward pass of the norm as the plain reference writes it, over all rows of an array. -/
module

public import proofs.«01_k».proof.Proof.Rms.Row
public import proofs.«01_k».proof.Proof.Gen.Reference12Ideal.Run

@[expose] public section

set_option maxRecDepth 16384

noncomputable section

namespace Cert.Rms

open Idealize.ShloMosaic Idealize.ShloMosaic.TcCoe Idealize.ShloMosaic.Tactic Idealize.SL.Sem
open Cert.Reference12Ideal Cert.Reference12Ideal.Gen

attribute [local instance] Cert.Reference12Ideal.Gen.facts

variable (X q H : FVec Ideal S4096x1024 .f32) (i : Fin 4096) (n : Fin 1024)

/-- The rows' mean squares, with the small constant added. -/
def rMs : FVec Ideal S4096x1 .f32 :=
  addf (Host.divf (broadcastInDim S4096x1 ![0] bcast_S4096_S4096x1_0 (Host.reduceAdd (mulf X X) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32))

theorem rMs_at : rMs X (ix2 i 0) = ms fun k : Fin 1024 => X (ix2 i k) := by
  pointwise [rMs, ms]

/-- The gradient through the mean square, spread over each row. -/
def rZ : FVec Ideal S4096x1024 .f32 :=
  broadcastInDim S4096x1024 ![0] bcast_S4096_S4096x1024_0 (Host.reduceAdd (Host.divf (mulf
      (shapeCast _ (Host.reduceAdd (mulf X q) (constant S_ .f32 0x00000000#32) reducesTo_S4096x1024_S4096_d1 h_S_) shapeCasts_S4096_S4096x1)
      (mulf (broadcastInDim S4096x1 ![] bcast_S_S4096x1 (constant S_ .f32 0xBF000000#32)) (Host.divf (Host.rsqrt (rMs X)) (rMs X))))
    (broadcastInDim S4096x1 ![] bcast_S_S4096x1 (constant S_ .f32 0x44800000#32))) (constant S_ .f32 0x00000000#32) reducesTo_S4096x1_S4096_d1 h_S_)

theorem rZ_at : rZ X q (ix2 i n) = Ideal.div ((∑ k : Fin 1024, X (ix2 i k) * q (ix2 i k))
    * (half * Ideal.div (Ideal.rsqrt (ms fun k : Fin 1024 => X (ix2 i k))) (ms fun k : Fin 1024 => X (ix2 i k)))) len := by
  pointwise [rZ]
  exact (Fin.sum_univ_one _).trans (by rw [rMs_at])

/-- The rows' gradient, the cotangent already times the gain. -/
def rDx : FVec Ideal S4096x1024 .f32 :=
  addf (addf (mulf q (broadcastInDim S4096x1024 ![0, 1] bcast_S4096x1_S4096x1024_0_1 (Host.rsqrt (rMs X)))) (mulf X (rZ X q))) (mulf (rZ X q) X)

theorem rDx_at : rDx X q (ix2 i n) = dx (fun k : Fin 1024 => X (ix2 i k)) (fun k => q (ix2 i k)) n := by
  rw [← backward]
  pointwise [rDx, rMs_at, rZ_at]

/-- The gain's gradient. -/
def rDg : FVec Ideal S1x1024 .f32 :=
  shapeCast _ (Host.reduceAdd (shapeCast _ (Host.reduceAdd (mulf (mulf X (broadcastInDim S4096x1024 ![0, 1] bcast_S4096x1_S4096x1024_0_1 (Host.rsqrt (rMs X)))) H)
    (constant S_ .f32 0x00000000#32) reducesTo_S4096x1024_S1024_d0 h_S_) shapeCasts_S1024_S1x1024) (constant S_ .f32 0x00000000#32) reducesTo_S1x1024_S1024_d0 h_S_) shapeCasts_S1024_S1x1024

theorem rDg_at : rDg X H (ix2 0 n) = ∑ i : Fin 4096, H (ix2 i n) * (X (ix2 i n) * Ideal.rsqrt (ms fun k : Fin 1024 => X (ix2 i k))) := by
  pointwise [rDg, rMs_at]
  exact (Fin.sum_univ_one _).trans (Finset.sum_congr rfl fun i _ => mul_comm (_ : EReal) _)

end Cert.Rms

end
-- ==== Proof.Rms.Runs.lean ====
/- A value that only the last point of each run changes: after some runs it is the sum of what they added. -/
module

public import proofs.«01_k».proof.Proof.Soft

@[expose] public section

namespace Cert.Rms

variable {N : ℕ} (P : ℕ) (O S : (n : ℕ) → n < N → EReal)

/-- Points are met in runs of `P`. Inside a run the value stays, the last point of the first run sets it, the last point of a later run adds to it. -/
theorem runs_sum (hP : 0 < P) (kept : ∀ (n : ℕ) (h : n < N), ¬n % P = P - 1 → O n h = O (n - 1) (Nat.lt_of_le_of_lt (Nat.sub_le _ _) h))
    (first : ∀ (n : ℕ) (h : n < N), n % P = P - 1 → n < P → O n h = S n h)
    (next : ∀ (n : ℕ) (h : n < N), n % P = P - 1 → ¬n < P → O n h = O (n - 1) (Nat.lt_of_le_of_lt (Nat.sub_le _ _) h) + S n h) :
    ∀ (s : ℕ) (h : P * s + (P - 1) < N), O (P * s + (P - 1)) h
      = ∑ v : Fin (s + 1), S (P * v.val + (P - 1)) (lt_of_le_of_lt (Nat.add_le_add_right (Nat.mul_le_mul_left P (Nat.le_of_lt_succ v.isLt)) _) h)
  | 0, h => by
    rw [Fin.sum_univ_one]
    exact first _ h (by rw [Nat.mul_zero, Nat.zero_add]; exact Nat.mod_eq_of_lt (by omega)) (by omega)
  | s + 1, h => by
    have hs : P * s + (P - 1) < N := by rw [Nat.mul_succ] at h; omega
    have stay : ∀ (j : ℕ) (hj : j ≤ P - 1) (hn : P * s + (P - 1) + j < N), O (P * s + (P - 1) + j) hn = O (P * s + (P - 1)) hs := by
      intro j
      induction j with
      | zero => intros; rfl
      | succ j ih =>
        intro hj hn
        have e : P * s + (P - 1) + (j + 1) = P * (s + 1) + j := by rw [Nat.mul_succ]; omega
        have hm : ¬(P * s + (P - 1) + (j + 1)) % P = P - 1 := by
          rw [e, Nat.mul_add_mod, Nat.mod_eq_of_lt (by omega)]
          omega
        exact (kept _ hn hm).trans (ih (by omega) (by omega))
    have hm : (P * (s + 1) + (P - 1)) % P = P - 1 := by rw [Nat.mul_add_mod, Nat.mod_eq_of_lt (by omega)]
    have hp : ¬P * (s + 1) + (P - 1) < P := by rw [Nat.mul_succ]; omega
    rw [next _ h hm hp, Fin.sum_univ_castSucc]
    have e : P * (s + 1) + (P - 1) - 1 = P * s + (P - 1) + (P - 1) := by rw [Nat.mul_succ]; omega
    have hprev : O (P * (s + 1) + (P - 1) - 1) (Nat.lt_of_le_of_lt (Nat.sub_le _ _) h) = O (P * s + (P - 1)) hs := by
      have := stay (P - 1) le_rfl (by omega)
      rw [← this]
      congr 1
    rw [hprev, runs_sum hP kept first next s hs]
    rfl

end Cert.Rms
-- ==== Proof.Dhm.Value.lean ====
/- The input gradient of the up projection, taken on through the norm: what the kernel's tiles add up to. -/
module

public import proofs.«01_k».proof.Proof.DhLo.Value
public import proofs.«01_k».proof.Proof.Act.Value
public import proofs.«01_k».proof.Proof.DwOut.Value
public import proofs.«01_k».proof.Proof.Rms.Row
public import proofs.«01_k».proof.Proof.Rms.Runs
public import proofs.«01_k».proof.Proof.Gen.Kernel12Ideal.Frame

@[expose] public section

set_option maxRecDepth 16384

noncomputable section

namespace Cert.Dhm

open Idealize.ShloMosaic Idealize.ShloMosaic.TcCoe Idealize.ShloMosaic.Tactic Idealize.SL.Sem
open Idealize.ShloMosaic.Pipeline (Dat)
open Cert.Kernel12Ideal Cert.Kernel12Ideal.Gen

theorem first : k0_pay1 (F := Ideal) = Cert.Kernel4Ideal.Gen.k0_pay1 := rfl

/-- One block's share of the product with a plane of the second factor transposed. -/
def part (a : FVec Ideal S1024x1024 .bf16) (b : FVec Ideal S1x1024x1024 .bf16) : S1024x1024.Idx → EReal := fun y =>
  ∑ k : Fin 1024, a (ix2 (y 0) k) * b (ix3 0 (y 1) k)

theorem step_at (acc : FVec Ideal S1024x1024 .f32) (a : FVec Ideal S1024x1024 .bf16) (b : FVec Ideal S1x1024x1024 .bf16) (r n : Fin 1024) :
    k0_pay2 (F := Ideal) acc a b (ix2 r n) = acc (ix2 r n) + part a b (ix2 r n) := by
  pointwise [k0_pay2, part]

/-- The reciprocal root of a row's mean square. -/
theorem root_at (x : FVec Ideal S1024x1024 .f32) (r : Fin 1024) : k0_pay5 (F := Ideal) x (ix2 r 0) = Ideal.rsqrt (Rms.ms fun k : Fin 1024 => x (ix2 r k)) := by
  pointwise [k0_pay5, k0_pay4, Rms.ms]

theorem norm_at (x : FVec Ideal S1024x1024 .f32) (r n : Fin 1024) :
    k0_pay6 (F := Ideal) x (ix2 r n) = x (ix2 r n) * Ideal.rsqrt (Rms.ms fun k : Fin 1024 => x (ix2 r k)) := by
  pointwise [k0_pay6, k0_pay4, root_at]

/-- The block written at the end of a run: the rows' gradient through the norm, plus the skip connection's. -/
theorem out_at (a x : FVec Ideal S1024x1024 .f32) (g : FVec Ideal S1x1024 .f32) (d : FVec Ideal S1024x1024 .f32) (r n : Fin 1024) :
    k0_pay8 (F := Ideal) a x g d (ix2 r n) = Rms.dx (fun k : Fin 1024 => x (ix2 r k)) (fun k => a (ix2 r k) * g (ix2 0 k)) n + d (ix2 r n) := by
  pointwise [k0_pay8, root_at, norm_at, Rms.dx]

/-- A block of rows' share of the gain's gradient. -/
def share (a x : FVec Ideal S1024x1024 .f32) (n : Fin 1024) : EReal :=
  ∑ r : Fin 1024, a (ix2 r n) * (x (ix2 r n) * Ideal.rsqrt (Rms.ms fun k : Fin 1024 => x (ix2 r k)))

theorem gain_at (a x : FVec Ideal S1024x1024 .f32) (n : Fin 1024) : k0_pay7 (F := Ideal) a x (ix2 0 n) = share a x n := by
  pointwise [k0_pay7, norm_at, share]

theorem add_at (u v : FVec Ideal S1x1024 .f32) (n : Fin 1024) : k0_pay3 u (k0_pay10 (F := Ideal) v) (ix2 0 n) = v (ix2 0 n) + u (ix2 0 n) := by
  pointwise [k0_pay3, k0_pay10]

theorem none_at (n : Fin 1024) : k0_pay9 (F := Ideal) (ix2 0 n) = 0 := by
  pointwise [k0_pay9]

variable (m : (ℓ : Loc nD τ sig) → Buf (Elt Ideal) ℓ) (c : Dev nD)

/-- What one grid point adds. -/
def term (t : Fin cfg0.N) : S1024x1024.Idx → EReal := part (iblk m c 0 t) (iblk m c 1 t)

theorem scratch_reset (t : Fin cfg0.N) (h : t.val % 4 = 0) (y : S1024x1024.Idx) :
    (outsAt0 m c t.val t.isLt).2.2 y = 0 + term m c t y := by
  idx_vars y
  rw [outsAt0_A m c t h (by omega)]
  frame_out
  exact (step_at _ _ _ _ _).trans (congrArg (· + _) ((congrFun first _).trans (Cert.Down.zero_at _ _)))

theorem scratch_step (t : Fin cfg0.N) (h : ¬t.val % 4 = 0) (y : S1024x1024.Idx) :
    (outsAt0 m c t.val t.isLt).2.2 y = (outsAt0 m c (t.val - 1) (Nat.lt_of_le_of_lt (Nat.sub_le _ _) t.isLt)).2.2 y + term m c t y := by
  idx_vars y
  by_cases h3 : t.val % 4 = 3
  · by_cases h4 : t.val < 4
    · rw [outsAt0_C m c t h h3 h4]
      frame_out
      simp only [read_unread_whole]
      exact step_at _ _ _ _ _
    · rw [outsAt0_D m c t h h3 h4]
      frame_out
      simp only [read_unread_whole]
      exact step_at _ _ _ _ _
  · rw [outsAt0_B m c t h h3]
    frame_out
    simp only [read_unread_whole]
    exact step_at _ _ _ _ _

/-- At the last step of a run the block written back is made of the scratch. -/
theorem out_eq (t : Fin cfg0.N) (h3 : t.val % 4 = 3) :
    (outsAt0 m c t.val t.isLt).1 = k0_pay8 (F := Ideal) (outsAt0 m c t.val t.isLt).2.2 (iblk m c 2 t) (iblk m c 3 t) (iblk m c 4 t) := by
  by_cases h4 : t.val < 4
  · rw [outsAt0_C m c t (by omega) h3 h4]
    frame_out
  · rw [outsAt0_D m c t (by omega) h3 h4]
    frame_out

/-- The first run leaves its rows' share of the gain's gradient. -/
theorem gain_first (t : Fin cfg0.N) (h3 : t.val % 4 = 3) (h4 : t.val < 4) (n : Fin 1024) :
    (outsAt0 m c t.val t.isLt).2.1 (ix2 0 n) = share (outsAt0 m c t.val t.isLt).2.2 (iblk m c 2 t) n := by
  rw [outsAt0_C m c t (by omega) h3 h4]
  frame_out
  exact (add_at _ _ _).trans ((congrArg₂ (· + ·) (none_at n) (gain_at _ _ n)).trans (zero_add _))

/-- A later run adds its rows' share to what was there. -/
theorem gain_next (t : Fin cfg0.N) (h3 : t.val % 4 = 3) (h4 : ¬t.val < 4) (n : Fin 1024) :
    (outsAt0 m c t.val t.isLt).2.1 (ix2 0 n) = (outsAt0 m c (t.val - 1) (Nat.lt_of_le_of_lt (Nat.sub_le _ _) t.isLt)).2.1 (ix2 0 n)
      + share (outsAt0 m c t.val t.isLt).2.2 (iblk m c 2 t) n := by
  rw [outsAt0_D m c t (by omega) h3 h4]
  frame_out
  simp only [read_unread_whole]
  exact (add_at _ _ _).trans (congrArg (_ + ·) (gain_at _ _ n))

/-- Inside a run the gain's gradient stays. -/
theorem gain_kept (t : Fin cfg0.N) (h3 : ¬t.val % 4 = 3) :
    (outsAt0 m c t.val t.isLt).2.1 = (outsAt0 m c (t.val - 1) (Nat.lt_of_le_of_lt (Nat.sub_le _ _) t.isLt)).2.1 := by
  by_cases h : t.val % 4 = 0
  · rw [outsAt0_A m c t h h3]
    rfl
  · rw [outsAt0_B m c t h h3]
    rfl

theorem entry0 : V m c main_v1 = truncf (F := Ideal) .bf16 (shapeCast S4096x4096 (m ((c : Thread nD τ).loc main_arg0)) shapeCasts_S1x4096x4096_S4096x4096) bitsLt_bf16_f32 := by
  unfold_abbrev_sides
  after_results
  rfl
theorem entry1 : V m c main_v4 = truncf (F := Ideal) .bf16 (transpose S4x1024x1024 [1, 0, 2] (shapeCast S1024x4x1024 (m ((c : Thread nD τ).loc main_arg1)) shapeCasts_S1024x4096_S1024x4x1024) transposes_S1024x4x1024_S4x1024x1024_1_0_2) bitsLt_bf16_f32 := by
  unfold_abbrev_sides
  after_results
  rfl
theorem entry2 : V m c main_v5 = shapeCast S4096x1024 (m ((c : Thread nD τ).loc main_arg2)) shapeCasts_S1x4096x1024_S4096x1024 := by
  unfold_abbrev_sides
  after_results
  rfl
theorem entry3 : V m c main_arg3 = m ((c : Thread nD τ).loc main_arg3) := by
  unfold_abbrev_sides
  after_results
theorem entry4 : V m c main_v6 = shapeCast S4096x1024 (m ((c : Thread nD τ).loc main_arg4)) shapeCasts_S1x4096x1024_S4096x1024 := by
  unfold_abbrev_sides
  after_results
  rfl

theorem left_at (i n : Fin 4096) : V m c main_v1 (ix2 i n) = m ((c : Thread nD τ).loc main_arg0) (ix3 0 i n) :=
  (congrFun (entry0 m c) _).trans (Cert.Down.castLeft_at _ i n)
theorem right_at (s : Fin 4) (r n : Fin 1024) :
    V m c main_v4 (ix3 s r n) = m ((c : Thread nD τ).loc main_arg1) (ix2 r (⟨s.val * 1024 + n.val, Cert.Act.col_lt s n⟩ : Fin 4096)) :=
  (congrFun (entry1 m c) _).trans (Cert.Act.planes_at _ s r n)
theorem x_at (i : Fin 4096) (n : Fin 1024) : V m c main_v5 (ix2 i n) = m ((c : Thread nD τ).loc main_arg2) (ix3 0 i n) :=
  (congrFun (entry2 m c) _).trans (Cert.DwOut.rows_at _ i n)
theorem g_at (n : Fin 1024) : V m c main_arg3 (ix2 0 n) = m ((c : Thread nD τ).loc main_arg3) (ix2 0 n) :=
  congrFun (entry3 m c) _
theorem d_at (i : Fin 4096) (n : Fin 1024) : V m c main_v6 (ix2 i n) = m ((c : Thread nD τ).loc main_arg4) (ix3 0 i n) :=
  (congrFun (entry4 m c) _).trans (Cert.DwOut.rows_at _ i n)

theorem idx : ∀ t : Fin cfg0.N, win0_0.index t = ![t.val / 4, t.val % 4] ∧ win0_1.index t = ![t.val % 4, 0, 0]
    ∧ win0_2.index t = ![t.val / 4, 0] ∧ win0_3.index t = ![0, 0] ∧ win0_4.index t = ![t.val / 4, 0]
    ∧ win0_5.index t = ![t.val / 4, 0] ∧ win0_6.index t = ![0, 0] :=
  (by decide +kernel : ∀ t : Fin grid0.N, _)

/-- The gradient at the norm's output: the hidden gradient times the weights transposed. -/
def H (u : FVec Ideal S1x4096x4096 .f32) (w : FVec Ideal S1024x4096 .f32) (i : Fin 4096) (n : Fin 1024) : EReal :=
  ∑ k : Fin 4096, u (ix3 0 i k) * w (ix2 n k)

/-- At the last step of a run the scratch holds its rows of that gradient. -/
theorem scratch_at (t : Fin cfg0.N) (h3 : t.val % 4 = 3) (r n : Fin 1024) (hr : t.val / 4 * 1024 + r.val < 4096) :
    (outsAt0 m c t.val t.isLt).2.2 (ix2 r n) = H (m ((c : Thread nD τ).loc main_arg0)) (m ((c : Thread nD τ).loc main_arg1)) ⟨t.val / 4 * 1024 + r.val, hr⟩ n := by
  have hN : t.val < 16 := lt_of_lt_of_eq t.isLt (show cfg0.N = 16 from N_0)
  rw [Pipeline.eq_sum_fin_of_reset_step_apply_of_flush (fun n h => (outsAt0 m c n h).2.2) 4 (fun _ => 0) (term m c)
    (scratch_reset m c) (scratch_step m c) t h3 (ix2 r n), zero_add]
  unfold term part H
  refine Fin.sum_mul_add_congr fun s k hl => ?_
  have hs : (4 * (t.val / 4) + s.val) % 4 = s.val := by omega
  have hd : (4 * (t.val / 4) + s.val) / 4 = t.val / 4 := by omega
  have i0 := (idx ⟨4 * (t.val / 4) + s.val, Pipeline.run_point_lt_of_flush t h3 s⟩).1
  have i1 := (idx ⟨4 * (t.val / 4) + s.val, Pipeline.run_point_lt_of_flush t h3 s⟩).2.1
  dsimp only at i0 i1
  rw [hs, hd] at i0
  rw [hs] at i1
  congr 1
  · refine Eq.trans ?_ (left_at m c _ _)
    blk_ext [iblk, i0]
  · refine Eq.trans ?_ (right_at m c s n k)
    blk_ext [iblk, i1]

/-- A run's block of the norm's input. -/
theorem rows_at (t : Fin cfg0.N) (r n : Fin 1024) (hr : t.val / 4 * 1024 + r.val < 4096) :
    iblk m c 2 t (ix2 r n) = m ((c : Thread nD τ).loc main_arg2) (ix3 0 ⟨t.val / 4 * 1024 + r.val, hr⟩ n) := by
  obtain ⟨-, -, i2, -⟩ := idx t
  refine Eq.trans ?_ (x_at m c _ _)
  blk_ext [iblk, i2]

/-- The gradient at the norm's input, plus the skip connection's. -/
def GX (u : FVec Ideal S1x4096x4096 .f32) (w : FVec Ideal S1024x4096 .f32) (x : FVec Ideal S1x4096x1024 .f32) (g : FVec Ideal S1x1024 .f32)
    (d : FVec Ideal S1x4096x1024 .f32) : FVec Ideal S4096x1024 .f32 := fun y =>
  Rms.dx (fun k : Fin 1024 => x (ix3 0 (y 0) k)) (fun k => H u w (y 0) k * g (ix2 0 k)) (y 1) + d (ix3 0 (y 0) (y 1))

theorem final : (dats m 0 c).arrAt 5 cfg0.N = GX (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t hf y => ?_
  have h3 : t.val % 4 = 3 := (flush0_5 t).mp hf
  have hN : t.val < 16 := lt_of_lt_of_eq t.isLt (show cfg0.N = 16 from N_0)
  blk_simp
  rw [after0_5, out_eq m c t h3]
  idx_vars y
  obtain ⟨-, -, -, i3, i4, i5, -⟩ := idx t
  have hr : ∀ r : Fin 1024, t.val / 4 * 1024 + r.val < 4096 := fun r => by omega
  have e : ((View.whole main_v7_0).slice (win0_5.rect t)).emb (ix2 y0 y1) = ix2 (⟨t.val / 4 * 1024 + y0.val, hr y0⟩ : Fin 4096) y1 := by
    blk_ext [i5]
  rw [e]
  refine (out_at _ _ _ _ _ _).trans ?_
  have hg : ∀ k : Fin 1024, iblk m c 3 t (ix2 0 k) = m ((c : Thread nD τ).loc main_arg3) (ix2 0 k) := fun k => by
    refine Eq.trans ?_ (g_at m c k)
    blk_ext [iblk, i3]
  have hd : iblk m c 4 t (ix2 y0 y1) = m ((c : Thread nD τ).loc main_arg4) (ix3 0 ⟨t.val / 4 * 1024 + y0.val, hr y0⟩ y1) := by
    refine Eq.trans ?_ (d_at m c _ _)
    blk_ext [iblk, i4]
  simp only [rows_at m c t _ _ (hr y0), hg, hd, scratch_at m c t h3 _ _ (hr y0)]
  rfl

/-- One row's share of the gain's gradient: the incoming gradient times the normalised row. -/
def one (u : FVec Ideal S1x4096x4096 .f32) (w : FVec Ideal S1024x4096 .f32) (x : FVec Ideal S1x4096x1024 .f32) (n : Fin 1024) (i : Fin 4096) : EReal :=
  H u w i n * (x (ix3 0 i n) * Ideal.rsqrt (Rms.ms fun k : Fin 1024 => x (ix3 0 i k)))

/-- The gradient of the gain, over all rows. -/
def GG (u : FVec Ideal S1x4096x4096 .f32) (w : FVec Ideal S1024x4096 .f32) (x : FVec Ideal S1x4096x1024 .f32) : FVec Ideal S1x1024 .f32 := fun y =>
  ∑ i : Fin 4096, one u w x (y 1) i

theorem row_lt (t : Fin cfg0.N) (r : Fin 1024) : t.val / 4 * 1024 + r.val < 4096 := by
  have hN : t.val < 16 := lt_of_lt_of_eq t.isLt (show cfg0.N = 16 from N_0)
  omega

/-- A run's share of the gain's gradient, over the rows of the arrays. -/
theorem share_at (t : Fin cfg0.N) (h3 : t.val % 4 = 3) (n : Fin 1024) :
    share (outsAt0 m c t.val t.isLt).2.2 (iblk m c 2 t) n = ∑ r : Fin 1024,
      one (m ((c : Thread nD τ).loc main_arg0)) (m ((c : Thread nD τ).loc main_arg1)) (m ((c : Thread nD τ).loc main_arg2)) n ⟨t.val / 4 * 1024 + r.val, row_lt t r⟩ := by
  refine Finset.sum_congr rfl fun r _ => ?_
  simp only [rows_at m c t r _ (row_lt t r), scratch_at m c t h3 r n (row_lt t r), one]

theorem final_gain : (dats m 0 c).arrAt 6 cfg0.N = GG (m ((c : Thread nD τ).loc main_arg0)) (m ((c : Thread nD τ).loc main_arg1)) (m ((c : Thread nD τ).loc main_arg2)) := by
  refine (dats m 0 c).arrAt_eq_of_covers 6 _ (by decide +kernel) fun t hf y => ?_
  have hN : t.val < 16 := lt_of_lt_of_eq t.isLt (show cfg0.N = 16 from N_0)
  have h15 : t.val = 4 * 3 + 3 := by have := (flush0_6 t).mp hf; omega
  blk_simp
  rw [after0_6]
  idx_vars y
  obtain rfl : y0 = 0 := Subsingleton.elim _ _
  obtain ⟨-, -, -, -, -, -, i6⟩ := idx t
  have e : ((View.whole main_v7_1).slice (win0_6.rect t)).emb (ix2 0 y1) = ix2 0 y1 := by
    blk_ext [i6]
  rw [e]
  have h : 4 * 3 + (4 - 1) < cfg0.N := h15 ▸ t.isLt
  have et : outsAt0 m c t.val t.isLt = outsAt0 m c (4 * 3 + (4 - 1)) h := by simp only [h15]
  rw [et]
  refine (Rms.runs_sum 4 (fun n h => (outsAt0 m c n h).2.1 (ix2 0 y1)) (fun n h => share (outsAt0 m c n h).2.2 (iblk m c 2 ⟨n, h⟩) y1) (by decide)
    (fun n h h3 => congrFun (gain_kept m c ⟨n, h⟩ h3) _) (fun n h h3 h4 => gain_first m c ⟨n, h⟩ h3 h4 y1) (fun n h h3 h4 => gain_next m c ⟨n, h⟩ h3 h4 y1) 3 h).trans ?_
  unfold GG
  refine Eq.trans (Finset.sum_congr rfl fun s _ => share_at m c ⟨4 * s.val + (4 - 1), by omega⟩ (by dsimp only; omega) y1) ?_
  refine Fin.sum_mul_add_congr (S := 4) (n := 1024) fun s r hl => ?_
  have hd : (4 * s.val + (4 - 1)) / 4 = s.val := by omega
  simp only [hd]
  rfl

end Cert.Dhm

end
-- ==== Proof.Dhm.Claim.lean ====
/- The input gradient of the up projection, taken on through the norm: the kernel and the plain reference end with the same arrays. -/
module

public import proofs.«01_k».proof.Defs
public import proofs.«01_k».proof.Proof.Gen.Kernel12Ideal.Value
public import proofs.«01_k».proof.Proof.Rms.Ref
public import proofs.«01_k».proof.Proof.Dhm.Value

@[expose] public section

set_option maxRecDepth 16384

noncomputable section

namespace Cert.Dhm

open Idealize.ShloMosaic Idealize.ShloMosaic.TcCoe Idealize.ShloMosaic.Tactic Idealize.SL.Sem

attribute [local instance] Cert.Kernel12Ideal.Gen.facts Cert.Reference12Ideal.Gen.facts

section
open Cert.Reference12Ideal Cert.Reference12Ideal.Gen

/-- The reference's gradient at the norm's output. -/
def rH (u : FVec Ideal S1x4096x4096 .f32) (w : FVec Ideal S1024x4096 .f32) : FVec Ideal S4096x1024 .f32 :=
  Host.dotGeneral dot_S4096x4096_S1024x4096_S4096x1024_1_1_0_0_n_n none (shapeCast _ u shapeCasts_S1x4096x4096_S4096x4096) w

theorem rH_at (u : FVec Ideal S1x4096x4096 .f32) (w : FVec Ideal S1024x4096 .f32) (i : Fin 4096) (n : Fin 1024) : rH u w (ix2 i n) = H u w i n := by
  pointwise [rH, H]

/-- The gain, spread over the rows. -/
def rGain (g : FVec Ideal S1x1024 .f32) : FVec Ideal S4096x1024 .f32 :=
  broadcastInDim S4096x1024 ![0, 1] bcast_S1x1024_S4096x1024_0_1 (broadcastInDim S1x1024 ![1] bcast_S1024_S1x1024_1 (shapeCast _ g shapeCasts_S1x1024_S1024))

theorem rGain_at (g : FVec Ideal S1x1024 .f32) (i : Fin 4096) (n : Fin 1024) : rGain g (ix2 i n) = g (ix2 0 n) := by
  pointwise [rGain]

theorem rows_of (x : FVec Ideal S1x4096x1024 .f32) (i : Fin 4096) (n : Fin 1024) :
    shapeCast S4096x1024 x shapeCasts_S1x4096x1024_S4096x1024 (ix2 i n) = x (ix3 0 i n) := Cert.DwOut.rows_at x i n

theorem ref_x (u : FVec Ideal S1x4096x4096 .f32) (w : FVec Ideal S1024x4096 .f32) (x : FVec Ideal S1x4096x1024 .f32) (g : FVec Ideal S1x1024 .f32)
    (d : FVec Ideal S1x4096x1024 .f32) :
    addf (Rms.rDx (shapeCast _ x shapeCasts_S1x4096x1024_S4096x1024) (mulf (rH u w) (rGain g))) (shapeCast S4096x1024 d shapeCasts_S1x4096x1024_S4096x1024) = GX u w x g d := by
  funext y
  idx_vars y
  rw [addf_apply, rows_of, Rms.rDx_at]
  simp only [rows_of, mulf_apply, rH_at, rGain_at]
  rfl

theorem ref_g (u : FVec Ideal S1x4096x4096 .f32) (w : FVec Ideal S1024x4096 .f32) (x : FVec Ideal S1x4096x1024 .f32) :
    Rms.rDg (shapeCast _ x shapeCasts_S1x4096x1024_S4096x1024) (rH u w) = GG u w x := by
  funext y
  idx_vars y
  obtain rfl : y0 = 0 := Subsingleton.elim _ _
  rw [Rms.rDg_at]
  simp only [rows_of, rH_at]
  rfl

end

theorem frame_reference : Cert.quiescent_Reference12Ideal := fun m ρ _ =>
  (θ_run Cert.Reference12Ideal.defs _ _).mono (fun r h => ⟨fun c => (h c).2.2, Idealize.ShloMosaic.sem_eq_zero_of_no_sems (by decide) r.2⟩)
    (Cert.Reference12Ideal.Value.run (F := Ideal) m ρ)

open Cert.Kernel12Ideal in
theorem algebraic : Cert.algebraic_Kernel12Ideal_Reference12Ideal := by
  intro m ρ m' ρ' _ hin
  refine ⟨fun c => GX (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)),
    fun c => GG (m ((c.tc : Thread nD τ).loc main_arg0)) (m ((c.tc : Thread nD τ).loc main_arg1)) (m ((c.tc : Thread nD τ).loc main_arg2)), ?_, ?_⟩
  · exact (θ_run defs _ _).mono (fun r h c => ⟨(h c).1.trans (final m c), (h c).2.1.trans (final_gain m c), (h c).2.2⟩) (Cert.Kernel12Ideal.Value.run_blocks m ρ)
  · refine (θ_run Cert.Reference12Ideal.defs _ _).mono (fun r h c => ?_) (Cert.Reference12Ideal.Value.run m' ρ')
    obtain ⟨e, eg, rest⟩ := h c
    obtain ⟨i0, i1, i2, i3, i4⟩ := hin c
    unfold Cert.Reference12Ideal.Value.res_main_v42 at e
    rw [i0, i1, i2, i3, i4] at e
    rw [i0, i1, i2] at eg
    exact ⟨e.trans (ref_x _ _ _ _ _), eg.trans (ref_g _ _ _), rest⟩

end Cert.Dhm

end
-- ==== Proof.DhGl.Value.lean ====
/- The input gradient through the gates' half of the combined projection, joined with the other half's and taken on through
   the first norm: what the kernel's tiles add up to. -/
module

public import proofs.«01_k».proof.Proof.Dhm.Value
public import proofs.«01_k».proof.Proof.Gen.Kernel13Ideal.Frame

@[expose] public section

set_option maxRecDepth 16384

noncomputable section

namespace Cert.DhGl

open Idealize.ShloMosaic Idealize.ShloMosaic.TcCoe Idealize.ShloMosaic.Tactic Idealize.SL.Sem
open Idealize.ShloMosaic.Pipeline (Dat)
open Cert.Kernel13Ideal Cert.Kernel13Ideal.Gen
open Cert.Dhm (share)

/-- The bodies are those of the other calls, the gradient at the norm's output being the scratch plus the other half's. -/
theorem first : k0_pay1 (F := Ideal) = Cert.Kernel4Ideal.Gen.k0_pay1 := rfl
theorem step : k0_pay2 (F := Ideal) = Cert.Kernel8Ideal.Gen.k0_pay2 := rfl
theorem out (a l x : FVec Ideal S1024x1024 .f32) (g : FVec Ideal S1x1024 .f32) (d : FVec Ideal S1024x1024 .f32) :
    k0_pay10 (F := Ideal) a l x g d = Cert.Kernel12Ideal.Gen.k0_pay8 (k0_pay5 a l) x g d := rfl
theorem gain (a l x : FVec Ideal S1024x1024 .f32) : k0_pay9 (F := Ideal) a l x = Cert.Kernel12Ideal.Gen.k0_pay7 (k0_pay5 a l) x := rfl
theorem added (u v : FVec Ideal S1x1024 .f32) : k0_pay4 (F := Ideal) u v = Cert.Kernel12Ideal.Gen.k0_pay3 u (Cert.Kernel12Ideal.Gen.k0_pay10 v) := rfl
theorem nought : k0_pay3 (F := Ideal) = Cert.Kernel12Ideal.Gen.k0_pay9 := rfl

theorem joined_at (a l : FVec Ideal S1024x1024 .f32) (r n : Fin 1024) : k0_pay5 (F := Ideal) a l (ix2 r n) = a (ix2 r n) + l (ix2 r n) := by
  pointwise [k0_pay5]

variable (m : (ℓ : Loc nD τ sig) → Buf (Elt Ideal) ℓ) (c : Dev nD)

/-- What one grid point adds. -/
def term (t : Fin cfg0.N) : S1024x1024.Idx → EReal := Cert.DhLo.part (iblk m c 0 t) (iblk m c 1 t)

theorem scratch_reset (t : Fin cfg0.N) (h : t.val % 3 = 0) (y : S1024x1024.Idx) :
    (outsAt0 m c t.val t.isLt).2.2 y = 0 + term m c t y := by
  idx_vars y
  rw [outsAt0_A m c t h (by omega)]
  frame_out
  rw [step]
  exact (Cert.DhLo.step_at _ _ _ _ _).trans (congrArg (· + _) ((congrFun first _).trans (Cert.Down.zero_at _ _)))

theorem scratch_step (t : Fin cfg0.N) (h : ¬t.val % 3 = 0) (y : S1024x1024.Idx) :
    (outsAt0 m c t.val t.isLt).2.2 y = (outsAt0 m c (t.val - 1) (Nat.lt_of_le_of_lt (Nat.sub_le _ _) t.isLt)).2.2 y + term m c t y := by
  idx_vars y
  by_cases h3 : t.val % 3 = 2
  · by_cases h4 : t.val < 3
    · rw [outsAt0_C m c t h h3 h4]
      frame_out
      simp only [read_unread_whole]
      exact Cert.DhLo.step_at _ _ _ _ _
    · rw [outsAt0_D m c t h h3 h4]
      frame_out
      simp only [read_unread_whole]
      exact Cert.DhLo.step_at _ _ _ _ _
  · rw [outsAt0_B m c t h h3]
    frame_out
    simp only [read_unread_whole]
    exact Cert.DhLo.step_at _ _ _ _ _

/-- The gradient at the norm's output on a run's rows. -/
def dhh (t : Fin cfg0.N) : FVec Ideal S1024x1024 .f32 := k0_pay5 (outsAt0 m c t.val t.isLt).2.2 (iblk m c 5 t)

/-- At the last step of a run the block written back is made of that gradient. -/
theorem out_eq (t : Fin cfg0.N) (h3 : t.val % 3 = 2) :
    (outsAt0 m c t.val t.isLt).1 = Cert.Kernel12Ideal.Gen.k0_pay8 (F := Ideal) (dhh m c t) (iblk m c 2 t) (iblk m c 3 t) (iblk m c 4 t) := by
  unfold dhh
  rw [← out]
  by_cases h4 : t.val < 3
  · rw [outsAt0_C m c t (by omega) h3 h4]
    frame_out
  · rw [outsAt0_D m c t (by omega) h3 h4]
    frame_out

/-- The gain's gradient: set by the first run, added to by a later one, kept inside a run. -/
theorem gain_first (t : Fin cfg0.N) (h3 : t.val % 3 = 2) (h4 : t.val < 3) (n : Fin 1024) :
    (outsAt0 m c t.val t.isLt).2.1 (ix2 0 n) = share (dhh m c t) (iblk m c 2 t) n := by
  unfold dhh
  rw [outsAt0_C m c t (by omega) h3 h4]
  frame_out
  rw [added, nought, gain]
  exact (Cert.Dhm.add_at _ _ _).trans ((congrArg₂ (· + ·) (Cert.Dhm.none_at n) (Cert.Dhm.gain_at _ _ n)).trans (zero_add _))

theorem gain_next (t : Fin cfg0.N) (h3 : t.val % 3 = 2) (h4 : ¬t.val < 3) (n : Fin 1024) :
    (outsAt0 m c t.val t.isLt).2.1 (ix2 0 n) = (outsAt0 m c (t.val - 1) (Nat.lt_of_le_of_lt (Nat.sub_le _ _) t.isLt)).2.1 (ix2 0 n)
      + share (dhh m c t) (iblk m c 2 t) n := by
  unfold dhh
  rw [outsAt0_D m c t (by omega) h3 h4]
  frame_out
  simp only [read_unread_whole]
  rw [added, gain]
  exact (Cert.Dhm.add_at _ _ _).trans (congrArg (_ + ·) (Cert.Dhm.gain_at _ _ n))

theorem gain_kept (t : Fin cfg0.N) (h3 : ¬t.val % 3 = 2) :
    (outsAt0 m c t.val t.isLt).2.1 = (outsAt0 m c (t.val - 1) (Nat.lt_of_le_of_lt (Nat.sub_le _ _) t.isLt)).2.1 := by
  by_cases h : t.val % 3 = 0
  · rw [outsAt0_A m c t h h3]
    rfl
  · rw [outsAt0_B m c t h h3]
    rfl

theorem entry0 : V m c main_v1 = truncf (F := Ideal) .bf16 (shapeCast S4096x3072 (m ((c : Thread nD τ).loc main_arg0)) shapeCasts_S1x4096x3072_S4096x3072) bitsLt_bf16_f32 := by
  unfold_abbrev_sides
  after_results
  rfl
theorem entry1 : V m c main_v2 = truncf (F := Ideal) .bf16 (m ((c : Thread nD τ).loc main_arg1) : FVec Ideal S1024x6144 .f32) bitsLt_bf16_f32 := by
  unfold_abbrev_sides
  after_results
theorem entry2 : V m c main_v3 = shapeCast S4096x1024 (m ((c : Thread nD τ).loc main_arg2)) shapeCasts_S1x4096x1024_S4096x1024 := by
  unfold_abbrev_sides
  after_results
  rfl
theorem entry3 : V m c main_arg3 = m ((c : Thread nD τ).loc main_arg3) := by
  unfold_abbrev_sides
  after_results
theorem entry4 : V m c main_v4 = shapeCast S4096x1024 (m ((c : Thread nD τ).loc main_arg4)) shapeCasts_S1x4096x1024_S4096x1024 := by
  unfold_abbrev_sides
  after_results
  rfl
theorem entry5 : V m c main_v5 = shapeCast S4096x1024 (m ((c : Thread nD τ).loc main_arg5)) shapeCasts_S1x4096x1024_S4096x1024 := by
  unfold_abbrev_sides
  after_results
  rfl

theorem left_at (i : Fin 4096) (n : Fin 3072) : V m c main_v1 (ix2 i n) = m ((c : Thread nD τ).loc main_arg0) (ix3 0 i n) :=
  (congrFun (entry0 m c) _).trans (Cert.Heads.castWide_at _ i n)
theorem right_at (i : Fin 1024) (n : Fin 6144) : V m c main_v2 (ix2 i n) = m ((c : Thread nD τ).loc main_arg1) (ix2 i n) :=
  congrFun (entry1 m c) _
theorem x_at (i : Fin 4096) (n : Fin 1024) : V m c main_v3 (ix2 i n) = m ((c : Thread nD τ).loc main_arg2) (ix3 0 i n) :=
  (congrFun (entry2 m c) _).trans (Cert.DwOut.rows_at _ i n)
theorem g_at (n : Fin 1024) : V m c main_arg3 (ix2 0 n) = m ((c : Thread nD τ).loc main_arg3) (ix2 0 n) :=
  congrFun (entry3 m c) _
theorem d_at (i : Fin 4096) (n : Fin 1024) : V m c main_v4 (ix2 i n) = m ((c : Thread nD τ).loc main_arg4) (ix3 0 i n) :=
  (congrFun (entry4 m c) _).trans (Cert.DwOut.rows_at _ i n)
theorem l_at (i : Fin 4096) (n : Fin 1024) : V m c main_v5 (ix2 i n) = m ((c : Thread nD τ).loc main_arg5) (ix3 0 i n) :=
  (congrFun (entry5 m c) _).trans (Cert.DwOut.rows_at _ i n)

theorem idx : ∀ t : Fin cfg0.N, win0_0.index t = ![t.val / 3, t.val % 3] ∧ win0_1.index t = ![0, t.val % 3 + 3]
    ∧ win0_2.index t = ![t.val / 3, 0] ∧ win0_3.index t = ![0, 0] ∧ win0_4.index t = ![t.val / 3, 0] ∧ win0_5.index t = ![t.val / 3, 0]
    ∧ win0_6.index t = ![t.val / 3, 0] ∧ win0_7.index t = ![0, 0] :=
  (by decide +kernel : ∀ t : Fin grid0.N, _)

/-- The gradient at the norm's output: the gates' gradient times their columns of the weights transposed, plus the other half's. -/
def H (g : FVec Ideal S1x4096x3072 .f32) (w : FVec Ideal S1024x6144 .f32) (l : FVec Ideal S1x4096x1024 .f32) (i : Fin 4096) (n : Fin 1024) : EReal :=
  (∑ k : Fin 3072, g (ix3 0 i k) * w (ix2 n (⟨3072 + k.val, by omega⟩ : Fin 6144))) + l (ix3 0 i n)

theorem row_lt (t : Fin cfg0.N) (r : Fin 1024) : t.val / 3 * 1024 + r.val < 4096 := by
  have hN : t.val < 12 := lt_of_lt_of_eq t.isLt (show cfg0.N = 12 from N_0)
  omega

theorem dhh_at (t : Fin cfg0.N) (h3 : t.val % 3 = 2) (r n : Fin 1024) :
    dhh m c t (ix2 r n) = H (m ((c : Thread nD τ).loc main_arg0)) (m ((c : Thread nD τ).loc main_arg1)) (m ((c : Thread nD τ).loc main_arg5))
      ⟨t.val / 3 * 1024 + r.val, row_lt t r⟩ n := by
  have hr := row_lt t r
  unfold dhh
  rw [joined_at, Pipeline.eq_sum_fin_of_reset_step_apply_of_flush (fun n h => (outsAt0 m c n h).2.2) 3 (fun _ => 0) (term m c)
    (scratch_reset m c) (scratch_step m c) t h3 (ix2 r n), zero_add]
  unfold H
  congr 1
  · unfold term Cert.DhLo.part
    refine Fin.sum_mul_add_congr fun s k hl => ?_
    have hs : (3 * (t.val / 3) + s.val) % 3 = s.val := by omega
    have hd : (3 * (t.val / 3) + s.val) / 3 = t.val / 3 := by omega
    have i0 := (idx ⟨3 * (t.val / 3) + s.val, Pipeline.run_point_lt_of_flush t h3 s⟩).1
    have i1 := (idx ⟨3 * (t.val / 3) + s.val, Pipeline.run_point_lt_of_flush t h3 s⟩).2.1
    dsimp only at i0 i1
    rw [hs, hd] at i0
    rw [hs] at i1
    congr 1
    · refine Eq.trans ?_ (left_at m c _ _)
      blk_ext [iblk, i0]
    · refine Eq.trans ?_ (right_at m c _ _)
      blk_ext [iblk, i1]
  · obtain ⟨-, -, -, -, -, i5, -, -⟩ := idx t
    refine Eq.trans ?_ (l_at m c _ _)
    blk_ext [iblk, i5]

/-- A run's block of the norm's input. -/
theorem rows_at (t : Fin cfg0.N) (r n : Fin 1024) :
    iblk m c 2 t (ix2 r n) = m ((c : Thread nD τ).loc main_arg2) (ix3 0 ⟨t.val / 3 * 1024 + r.val, row_lt t r⟩ n) := by
  have hr := row_lt t r
  obtain ⟨-, -, i2, -⟩ := idx t
  refine Eq.trans ?_ (x_at m c _ _)
  blk_ext [iblk, i2]

/-- The gradient at the norm's input, plus the skip connection's. -/
def GX (g : FVec Ideal S1x4096x3072 .f32) (w : FVec Ideal S1024x6144 .f32) (x : FVec Ideal S1x4096x1024 .f32) (s : FVec Ideal S1x1024 .f32)
    (d l : FVec Ideal S1x4096x1024 .f32) : FVec Ideal S4096x1024 .f32 := fun y =>
  Rms.dx (fun k : Fin 1024 => x (ix3 0 (y 0) k)) (fun k => H g w l (y 0) k * s (ix2 0 k)) (y 1) + d (ix3 0 (y 0) (y 1))

theorem final : (dats m 0 c).arrAt 6 cfg0.N = GX (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  have h3 : t.val % 3 = 2 := (flush0_6 t).mp hf
  blk_simp
  rw [after0_6, out_eq m c t h3]
  idx_vars y
  obtain ⟨-, -, -, i3, i4, -, i6, -⟩ := idx t
  have hr := row_lt t y0
  have e : ((View.whole main_v6_0).slice (win0_6.rect t)).emb (ix2 y0 y1) = ix2 (⟨t.val / 3 * 1024 + y0.val, row_lt t y0⟩ : Fin 4096) y1 := by
    blk_ext [i6]
  rw [e]
  refine (Cert.Dhm.out_at _ _ _ _ _ _).trans ?_
  have hg : ∀ k : Fin 1024, iblk m c 3 t (ix2 0 k) = m ((c : Thread nD τ).loc main_arg3) (ix2 0 k) := fun k => by
    refine Eq.trans ?_ (g_at m c k)
    blk_ext [iblk, i3]
  have hd : iblk m c 4 t (ix2 y0 y1) = m ((c : Thread nD τ).loc main_arg4) (ix3 0 ⟨t.val / 3 * 1024 + y0.val, row_lt t y0⟩ y1) := by
    refine Eq.trans ?_ (d_at m c _ _)
    blk_ext [iblk, i4]
  simp only [rows_at m c t, hg, hd, dhh_at m c t h3]
  rfl

/-- One row's share of the gain's gradient: the incoming gradient times the normalised row. -/
def one (g : FVec Ideal S1x4096x3072 .f32) (w : FVec Ideal S1024x6144 .f32) (x l : FVec Ideal S1x4096x1024 .f32) (n : Fin 1024) (i : Fin 4096) : EReal :=
  H g w l i n * (x (ix3 0 i n) * Ideal.rsqrt (Rms.ms fun k : Fin 1024 => x (ix3 0 i k)))

/-- The gradient of the gain, over all rows. -/
def GG (g : FVec Ideal S1x4096x3072 .f32) (w : FVec Ideal S1024x6144 .f32) (x l : FVec Ideal S1x4096x1024 .f32) : FVec Ideal S1x1024 .f32 := fun y =>
  ∑ i : Fin 4096, one g w x l (y 1) i

/-- A run's share of the gain's gradient, over the rows of the arrays. -/
theorem share_at (t : Fin cfg0.N) (h3 : t.val % 3 = 2) (n : Fin 1024) :
    share (dhh m c t) (iblk m c 2 t) n = ∑ r : Fin 1024, one (m ((c : Thread nD τ).loc main_arg0)) (m ((c : Thread nD τ).loc main_arg1))
      (m ((c : Thread nD τ).loc main_arg2)) (m ((c : Thread nD τ).loc main_arg5)) n ⟨t.val / 3 * 1024 + r.val, row_lt t r⟩ := by
  refine Finset.sum_congr rfl fun r _ => ?_
  simp only [rows_at m c t, dhh_at m c t h3, one]

theorem final_gain : (dats m 0 c).arrAt 7 cfg0.N = GG (m ((c : Thread nD τ).loc main_arg0)) (m ((c : Thread nD τ).loc main_arg1))
    (m ((c : Thread nD τ).loc main_arg2)) (m ((c : Thread nD τ).loc main_arg5)) := by
  refine (dats m 0 c).arrAt_eq_of_covers 7 _ (by decide +kernel) fun t hf y => ?_
  have hN : t.val < 12 := lt_of_lt_of_eq t.isLt (show cfg0.N = 12 from N_0)
  have h11 : t.val = 3 * 3 + (3 - 1) := by have := (flush0_7 t).mp hf; omega
  blk_simp
  rw [after0_7]
  idx_vars y
  obtain rfl : y0 = 0 := Subsingleton.elim _ _
  obtain ⟨-, -, -, -, -, -, -, i7⟩ := idx t
  have e : ((View.whole main_v6_1).slice (win0_7.rect t)).emb (ix2 0 y1) = ix2 0 y1 := by
    blk_ext [i7]
  rw [e]
  have h : 3 * 3 + (3 - 1) < cfg0.N := h11 ▸ t.isLt
  have et : outsAt0 m c t.val t.isLt = outsAt0 m c (3 * 3 + (3 - 1)) h := by simp only [h11]
  rw [et]
  refine (Rms.runs_sum 3 (fun n h => (outsAt0 m c n h).2.1 (ix2 0 y1)) (fun n h => share (dhh m c ⟨n, h⟩) (iblk m c 2 ⟨n, h⟩) y1) (by decide)
    (fun n h h3 => congrFun (gain_kept m c ⟨n, h⟩ h3) _) (fun n h h3 h4 => gain_first m c ⟨n, h⟩ h3 h4 y1) (fun n h h3 h4 => gain_next m c ⟨n, h⟩ h3 h4 y1) 3 h).trans ?_
  unfold GG
  refine Eq.trans (Finset.sum_congr rfl fun s _ => share_at m c ⟨3 * s.val + (3 - 1), by omega⟩ (by dsimp only; omega) y1) ?_
  refine Fin.sum_mul_add_congr (S := 4) (n := 1024) fun s r hl => ?_
  have hd : (3 * s.val + (3 - 1)) / 3 = s.val := by omega
  simp only [hd]
  rfl

end Cert.DhGl

end
-- ==== Proof.DhGl.Claim.lean ====
/- The input gradient through the gates' half of the combined projection: the kernel and the plain reference end with the same arrays. -/
module

public import proofs.«01_k».proof.Defs
public import proofs.«01_k».proof.Proof.Gen.Kernel13Ideal.Value
public import proofs.«01_k».proof.Proof.Gen.Reference13Ideal.Run
public import proofs.«01_k».proof.Proof.Dhm.Claim
public import proofs.«01_k».proof.Proof.DhGl.Value

@[expose] public section

set_option maxRecDepth 16384

noncomputable section

namespace Cert.DhGl

open Idealize.ShloMosaic Idealize.ShloMosaic.TcCoe Idealize.ShloMosaic.Tactic Idealize.SL.Sem

attribute [local instance] Cert.Kernel13Ideal.Gen.facts Cert.Reference13Ideal.Gen.facts

section
open Cert.Reference13Ideal Cert.Reference13Ideal.Gen
open Cert.Dhm (rGain rGain_at rows_of)

/-- The reference cuts the second half of the columns out of the weights and multiplies once, then adds the other half's gradient. -/
def rH (g : FVec Ideal S1x4096x3072 .f32) (w : FVec Ideal S1024x6144 .f32) (l : FVec Ideal S1x4096x1024 .f32) : FVec Ideal S4096x1024 .f32 :=
  addf (Host.dotGeneral dot_S4096x3072_S1024x3072_S4096x1024_1_1_0_0_n_n none (shapeCast _ g shapeCasts_S1x4096x3072_S4096x3072)
    (extractStridedSlice S1024x3072 ![0, 3072] w slices_S1024x6144_S1024x3072_0_3072)) (shapeCast _ l shapeCasts_S1x4096x1024_S4096x1024)

theorem rH_at (g : FVec Ideal S1x4096x3072 .f32) (w : FVec Ideal S1024x6144 .f32) (l : FVec Ideal S1x4096x1024 .f32) (i : Fin 4096) (n : Fin 1024) :
    rH g w l (ix2 i n) = H g w l i n := by
  pointwise [rH, H]

theorem ref_x (g : FVec Ideal S1x4096x3072 .f32) (w : FVec Ideal S1024x6144 .f32) (x : FVec Ideal S1x4096x1024 .f32) (s : FVec Ideal S1x1024 .f32)
    (d l : FVec Ideal S1x4096x1024 .f32) :
    addf (Rms.rDx (shapeCast _ x shapeCasts_S1x4096x1024_S4096x1024) (mulf (rH g w l) (rGain s))) (shapeCast S4096x1024 d shapeCasts_S1x4096x1024_S4096x1024)
      = GX g w x s d l := by
  funext y
  idx_vars y
  rw [addf_apply, rows_of, Rms.rDx_at]
  simp only [rows_of, mulf_apply, rH_at, rGain_at]
  rfl

theorem ref_g (g : FVec Ideal S1x4096x3072 .f32) (w : FVec Ideal S1024x6144 .f32) (x l : FVec Ideal S1x4096x1024 .f32) :
    Rms.rDg (shapeCast _ x shapeCasts_S1x4096x1024_S4096x1024) (rH g w l) = GG g w x l := by
  funext y
  idx_vars y
  obtain rfl : y0 = 0 := Subsingleton.elim _ _
  rw [Rms.rDg_at]
  simp only [rows_of, rH_at]
  rfl

end

theorem frame_reference : Cert.quiescent_Reference13Ideal := fun m ρ _ =>
  (θ_run Cert.Reference13Ideal.defs _ _).mono (fun r h => ⟨fun c => (h c).2.2, Idealize.ShloMosaic.sem_eq_zero_of_no_sems (by decide) r.2⟩)
    (Cert.Reference13Ideal.Value.run (F := Ideal) m ρ)

open Cert.Kernel13Ideal in
theorem algebraic : Cert.algebraic_Kernel13Ideal_Reference13Ideal := by
  intro m ρ m' ρ' _ hin
  refine ⟨fun c => GX (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)),
    fun c => GG (m ((c.tc : Thread nD τ).loc main_arg0)) (m ((c.tc : Thread nD τ).loc main_arg1)) (m ((c.tc : Thread nD τ).loc main_arg2))
      (m ((c.tc : Thread nD τ).loc main_arg5)), ?_, ?_⟩
  · exact (θ_run defs _ _).mono (fun r h c => ⟨(h c).1.trans (final m c), (h c).2.1.trans (final_gain m c), (h c).2.2⟩) (Cert.Kernel13Ideal.Value.run_blocks m ρ)
  · refine (θ_run Cert.Reference13Ideal.defs _ _).mono (fun r h c => ?_) (Cert.Reference13Ideal.Value.run m' ρ')
    obtain ⟨e, eg, rest⟩ := h c
    obtain ⟨i0, i1, i2, i3, i4, i5⟩ := hin c
    unfold Cert.Reference13Ideal.Value.res_main_v46 at e
    rw [i0, i1, i2, i3, i4, i5] at e
    rw [i0, i1, i2, i5] at eg
    exact ⟨e.trans (ref_x _ _ _ _ _ _), eg.trans (ref_g _ _ _ _), rest⟩

end Cert.DhGl

end
-- ==== Proof.OutProj.Value.lean ====
/- The output projection added to the residual: what the kernel writes, tile by tile. -/
module

public import proofs.«01_k».proof.Proof.DwOut.Value
public import proofs.«01_k».proof.Proof.Gen.Kernel15Ideal.Frame

@[expose] public section

set_option maxRecDepth 16384

noncomputable section

namespace Cert.OutProj

open Idealize.ShloMosaic Idealize.ShloMosaic.TcCoe Idealize.ShloMosaic.Tactic Idealize.SL.Sem
open Idealize.ShloMosaic.Pipeline (Dat)
open Cert.Kernel15Ideal Cert.Kernel15Ideal.Gen

theorem pay_at (a b : FVec Ideal S1024x1024 .bf16) (x : FVec Ideal S1024x1024 .f32) (r n : Fin 1024) :
    k0_pay1 (F := Ideal) a b x (ix2 r n) = x (ix2 r n) + ∑ k : Fin 1024, a (ix2 r k) * b (ix2 k n) := by
  pointwise [k0_pay1]

variable (m : (ℓ : Loc nD τ sig) → Buf (Elt Ideal) ℓ) (c : Dev nD)

theorem entry0 : V m c main_v1 = truncf (F := Ideal) .bf16 (shapeCast S4096x1024 (m ((c : Thread nD τ).loc main_arg0)) shapeCasts_S1x4096x1024_S4096x1024) bitsLt_bf16_f32 := by
  unfold_abbrev_sides
  after_results
  rfl
theorem entry1 : V m c main_v2 = truncf (F := Ideal) .bf16 (m ((c : Thread nD τ).loc main_arg1) : FVec Ideal S1024x1024 .f32) bitsLt_bf16_f32 := by
  unfold_abbrev_sides
  after_results
theorem entry2 : V m c main_v3 = shapeCast S4096x1024 (m ((c : Thread nD τ).loc main_arg2) : FVec Ideal S1x4096x1024 .f32) shapeCasts_S1x4096x1024_S4096x1024 := by
  unfold_abbrev_sides
  after_results
  rfl

theorem left_at (i : Fin 4096) (n : Fin 1024) : V m c main_v1 (ix2 i n) = m ((c : Thread nD τ).loc main_arg0) (ix3 0 i n) :=
  (congrFun (entry0 m c) _).trans (Cert.Down.castRight_at _ i n)
theorem right_at (i n : Fin 1024) : V m c main_v2 (ix2 i n) = m ((c : Thread nD τ).loc main_arg1) (ix2 i n) :=
  congrFun (entry1 m c) _
theorem residual_at (i : Fin 4096) (n : Fin 1024) : V m c main_v3 (ix2 i n) = m ((c : Thread nD τ).loc main_arg2) (ix3 0 i n) :=
  (congrFun (entry2 m c) _).trans (Cert.DwOut.rows_at _ i n)

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The residual plus the merged heads times the output projection's weights. -/
def G (a : FVec Ideal S1x4096x1024 .f32) (w : FVec Ideal S1024x1024 .f32) (x : FVec Ideal S1x4096x1024 .f32) : FVec Ideal S4096x1024 .f32 := fun y =>
  x (ix3 0 (y 0) (y 1)) + ∑ k : Fin 1024, a (ix3 0 (y 0) k) * w (ix2 k (y 1))

theorem final : (dats m 0 c).arrAt 3 cfg0.N = G (m ((c : Thread nD τ).loc main_arg0)) (m ((c : Thread nD τ).loc main_arg1)) (m ((c : Thread nD τ).loc main_arg2)) := by
  refine (dats m 0 c).arrAt_eq_of_covers 3 _ (by decide +kernel) fun t hf y => ?_
  have hN : t.val < 4 := lt_of_lt_of_eq t.isLt (show cfg0.N = 4 from N_0)
  blk_simp
  rw [after0_3]
  frame_out
  idx_vars y
  obtain ⟨i0, i1, i2, i3⟩ := idx t
  have e : ((View.whole main_v4).slice (win0_3.rect t)).emb (ix2 y0 y1) = ix2 (⟨t.val * 1024 + y0.val, by omega⟩ : Fin 4096) y1 := by
    blk_ext [i3]
  rw [e]
  refine (pay_at _ _ _ _ _).trans ?_
  unfold G
  congr 1
  · refine Eq.trans ?_ (residual_at m c _ _)
    blk_ext [iblk, i2]
  · refine Finset.sum_congr rfl fun k _ => ?_
    congr 1
    · refine Eq.trans ?_ (left_at m c _ _)
      blk_ext [iblk, i0]
    · refine Eq.trans ?_ (right_at m c _ _)
      blk_ext [iblk, i1]

end Cert.OutProj

end
-- ==== Proof.OutProj.Claim.lean ====
/- The output projection with its residual: the kernel and the plain reference end with the same array. -/
module

public import proofs.«01_k».proof.Defs
public import proofs.«01_k».proof.Proof.Gen.Kernel15Ideal.Value
public import proofs.«01_k».proof.Proof.Gen.Reference15Ideal.Run
public import proofs.«01_k».proof.Proof.OutProj.Value

@[expose] public section

set_option maxRecDepth 16384

noncomputable section

namespace Cert.OutProj

open Idealize.ShloMosaic Idealize.ShloMosaic.TcCoe Idealize.ShloMosaic.Tactic Idealize.SL.Sem

attribute [local instance] Cert.Kernel15Ideal.Gen.facts Cert.Reference15Ideal.Gen.facts

section
open Cert.Reference15Ideal Cert.Reference15Ideal.Gen

theorem ref_eq (a : FVec Ideal S1x4096x1024 .f32) (w : FVec Ideal S1024x1024 .f32) (x : FVec Ideal S1x4096x1024 .f32) :
    addf (shapeCast S4096x1024 x shapeCasts_S1x4096x1024_S4096x1024) (Host.dotGeneral (F := Ideal) dot_S4096x1024_S1024x1024_S4096x1024_1_0_0_1_n_n none (shapeCast _ a shapeCasts_S1x4096x1024_S4096x1024) w) = G a w x := by
  funext y
  idx_vars y
  pointwise [G]

end

theorem frame_reference : Cert.quiescent_Reference15Ideal := fun m ρ _ =>
  (θ_run Cert.Reference15Ideal.defs _ _).mono (fun r h => ⟨fun c => (h c).2, Idealize.ShloMosaic.sem_eq_zero_of_no_sems (by decide) r.2⟩)
    (Cert.Reference15Ideal.Value.run (F := Ideal) m ρ)

open Cert.Kernel15Ideal in
theorem algebraic : Cert.algebraic_Kernel15Ideal_Reference15Ideal := by
  intro m ρ m' ρ' _ hin
  refine ⟨fun c => G (m ((c.tc : Thread nD τ).loc main_arg0)) (m ((c.tc : Thread nD τ).loc main_arg1)) (m ((c.tc : Thread nD τ).loc main_arg2)), ?_, ?_⟩
  · exact (θ_run defs _ _).mono (fun r h c => ⟨(h c).1.trans (final m c), (h c).2⟩) (Cert.Kernel15Ideal.Value.run_blocks m ρ)
  · refine (θ_run Cert.Reference15Ideal.defs _ _).mono (fun r h c => ?_) (Cert.Reference15Ideal.Value.run m' ρ')
    obtain ⟨e, rest⟩ := h c
    obtain ⟨i0, i1, i2⟩ := hin c
    rw [i0, i1, i2] at e
    exact ⟨e.trans (ref_eq _ _ _), rest⟩

end Cert.OutProj

end
-- ==== Proof.Loss.Value.lean ====
/- The down projection with the loss: what the kernel's tiles add up to. -/
module

public import proofs.«01_k».proof.Proof.Rms.Runs
public import proofs.«01_k».proof.Proof.Down.Value
public import proofs.«01_k».proof.Proof.DwOut.Value
public import proofs.«01_k».proof.Proof.Gen.Kernel14Ideal.Frame

@[expose] public section

set_option maxRecDepth 16384

noncomputable section

namespace Cert.Loss

open Idealize.ShloMosaic Idealize.ShloMosaic.TcCoe Idealize.ShloMosaic.Tactic Idealize.SL.Sem
open Idealize.ShloMosaic.Pipeline (Dat)
open Cert.Kernel14Ideal Cert.Kernel14Ideal.Gen

theorem first : k0_pay1 (F := Ideal) = Cert.Kernel4Ideal.Gen.k0_pay1 := rfl

/-- One tile's share of the product. -/
def part (a b : FVec Ideal S1024x1024 .bf16) (y : S1024x1024.Idx) : EReal := ∑ k : Fin 1024, a (ix2 (y 0) k) * b (ix2 k (y 1))

theorem step_at (a : FVec Ideal S1024x1024 .f32) (u w : FVec Ideal S1024x1024 .bf16) (r n : Fin 1024) :
    k0_pay2 (F := Ideal) a u w (ix2 r n) = a (ix2 r n) + part u w (ix2 r n) := by
  pointwise [k0_pay2, part]

/-- The words of one over the row's length and of the row's length. -/
abbrev inv : EReal := Ideal.ofBits .f32 0x3A800000#32

/-- The error of one entry: the residual plus the product, less the target. -/
def err (a x y : FVec Ideal S1024x1024 .f32) (r n : Fin 1024) : EReal := x (ix2 r n) + a (ix2 r n) - y (ix2 r n)

theorem err_at (a x y : FVec Ideal S1024x1024 .f32) (r n : Fin 1024) : k0_pay3 (F := Ideal) a x y (ix2 r n) = err a x y r n := by
  pointwise [k0_pay3, err]

theorem grad_at (a x y : FVec Ideal S1024x1024 .f32) (r n : Fin 1024) : k0_pay4 (F := Ideal) a x y (ix2 r n) = err a x y r n * inv := by
  pointwise [k0_pay4, err_at]

theorem cast_at (a x y : FVec Ideal S1024x1024 .f32) (r n : Fin 1024) : k0_pay5 (F := Ideal) a x y (ix2 r n) = err a x y r n * inv := by
  pointwise [k0_pay5, grad_at]

theorem none_at (y : S8x128.Idx) : k0_pay6 (F := Ideal) y = 0 := by
  idx_vars y
  pointwise [k0_pay6]

/-- A run's share of the squared errors. -/
def share (a x y : FVec Ideal S1024x1024 .f32) : EReal := ∑ r : Fin 1024, ∑ n : Fin 1024, err a x y r n * err a x y r n

theorem sum_at (a x y : FVec Ideal S1024x1024 .f32) (s : FVec Ideal S8x128 .f32) (p : Fin 8) (q : Fin 128) :
    k0_pay7 (F := Ideal) a x y s (ix2 p q) = s (ix2 p q) + share a x y := by
  pointwise [k0_pay7, err_at, share]

variable (m : (ℓ : Loc nD τ sig) → Buf (Elt Ideal) ℓ) (c : Dev nD)

/-- What one grid point adds. -/
def term (t : Fin cfg0.N) : S1024x1024.Idx → EReal := part (iblk m c 0 t) (iblk m c 1 t)

theorem scratch_reset (t : Fin cfg0.N) (h : t.val % 4 = 0) (y : S1024x1024.Idx) :
    (outsAt0 m c t.val t.isLt).2.2.2 y = 0 + term m c t y := by
  idx_vars y
  rw [outsAt0_A m c t h (by omega)]
  frame_out
  exact (step_at _ _ _ _ _).trans (congrArg (· + _) ((congrFun first _).trans (Cert.Down.zero_at _ _)))

theorem scratch_step (t : Fin cfg0.N) (h : ¬t.val % 4 = 0) (y : S1024x1024.Idx) :
    (outsAt0 m c t.val t.isLt).2.2.2 y = (outsAt0 m c (t.val - 1) (Nat.lt_of_le_of_lt (Nat.sub_le _ _) t.isLt)).2.2.2 y + term m c t y := by
  idx_vars y
  by_cases h3 : t.val % 4 = 3
  · by_cases h4 : t.val < 4
    · rw [outsAt0_C m c t h h3 h4]
      frame_out
      simp only [read_unread_whole]
      exact step_at _ _ _ _ _
    · rw [outsAt0_D m c t h h3 h4]
      frame_out
      simp only [read_unread_whole]
      exact step_at _ _ _ _ _
  · rw [outsAt0_B m c t h h3]
    frame_out
    simp only [read_unread_whole]
    exact step_at _ _ _ _ _

/-- At the last step of a run the blocks written back are made of the whole product. -/
theorem outs_eq (t : Fin cfg0.N) (h3 : t.val % 4 = 3) :
    (outsAt0 m c t.val t.isLt).1 = k0_pay4 (F := Ideal) (outsAt0 m c t.val t.isLt).2.2.2 (iblk m c 2 t) (iblk m c 3 t)
      ∧ (outsAt0 m c t.val t.isLt).2.2.1 = k0_pay5 (F := Ideal) (outsAt0 m c t.val t.isLt).2.2.2 (iblk m c 2 t) (iblk m c 3 t) := by
  by_cases h4 : t.val < 4
  · rw [outsAt0_C m c t (by omega) h3 h4]
    constructor <;> frame_out
  · rw [outsAt0_D m c t (by omega) h3 h4]
    constructor <;> frame_out

/-- The summed squares: set by the first run, added to by a later one, kept inside a run. -/
theorem sum_first (t : Fin cfg0.N) (h3 : t.val % 4 = 3) (h4 : t.val < 4) (p : Fin 8) (q : Fin 128) :
    (outsAt0 m c t.val t.isLt).2.1 (ix2 p q) = share (outsAt0 m c t.val t.isLt).2.2.2 (iblk m c 2 t) (iblk m c 3 t) := by
  rw [outsAt0_C m c t (by omega) h3 h4]
  frame_out
  exact (sum_at _ _ _ _ _ _).trans ((congrArg (· + _) (none_at _)).trans (zero_add _))

theorem sum_next (t : Fin cfg0.N) (h3 : t.val % 4 = 3) (h4 : ¬t.val < 4) (p : Fin 8) (q : Fin 128) :
    (outsAt0 m c t.val t.isLt).2.1 (ix2 p q) = (outsAt0 m c (t.val - 1) (Nat.lt_of_le_of_lt (Nat.sub_le _ _) t.isLt)).2.1 (ix2 p q)
      + share (outsAt0 m c t.val t.isLt).2.2.2 (iblk m c 2 t) (iblk m c 3 t) := by
  rw [outsAt0_D m c t (by omega) h3 h4]
  frame_out
  simp only [read_unread_whole]
  exact sum_at _ _ _ _ _ _

theorem sum_kept (t : Fin cfg0.N) (h3 : ¬t.val % 4 = 3) :
    (outsAt0 m c t.val t.isLt).2.1 = (outsAt0 m c (t.val - 1) (Nat.lt_of_le_of_lt (Nat.sub_le _ _) t.isLt)).2.1 := by
  by_cases h : t.val % 4 = 0
  · rw [outsAt0_A m c t h h3]
    rfl
  · rw [outsAt0_B m c t h h3]
    rfl

theorem at_entry (b : Ref sig .tc) : V m c b = StableHlo.after hostOps0 (fun b => m (c, b)) (Proc.devRef .tc b) := rfl
theorem entry0 : V m c main_v1 = truncf (F := Ideal) .bf16 (shapeCast S4096x4096 (m ((c : Thread nD τ).loc main_arg0)) shapeCasts_S1x4096x4096_S4096x4096) bitsLt_bf16_f32 := by
  rw [at_entry]
  after_results
  rfl
theorem entry1 : V m c main_v2 = truncf (F := Ideal) .bf16 (m ((c : Thread nD τ).loc main_arg1) : FVec Ideal S4096x1024 .f32) bitsLt_bf16_f32 := by
  rw [at_entry]
  after_results
theorem entry2 : V m c main_v3 = shapeCast S4096x1024 (m ((c : Thread nD τ).loc main_arg2)) shapeCasts_S1x4096x1024_S4096x1024 := by
  rw [at_entry]
  after_results
  rfl
theorem entry3 : V m c main_v4 = shapeCast S4096x1024 (m ((c : Thread nD τ).loc main_arg3)) shapeCasts_S1x4096x1024_S4096x1024 := by
  rw [at_entry]
  after_results
  rfl

theorem left_at (i n : Fin 4096) : V m c main_v1 (ix2 i n) = m ((c : Thread nD τ).loc main_arg0) (ix3 0 i n) :=
  (congrFun (entry0 m c) _).trans (Cert.Down.castLeft_at _ i n)
theorem right_at (i : Fin 4096) (n : Fin 1024) : V m c main_v2 (ix2 i n) = m ((c : Thread nD τ).loc main_arg1) (ix2 i n) :=
  congrFun (entry1 m c) _
theorem x_at (i : Fin 4096) (n : Fin 1024) : V m c main_v3 (ix2 i n) = m ((c : Thread nD τ).loc main_arg2) (ix3 0 i n) :=
  (congrFun (entry2 m c) _).trans (Cert.DwOut.rows_at _ i n)
theorem t_at (i : Fin 4096) (n : Fin 1024) : V m c main_v4 (ix2 i n) = m ((c : Thread nD τ).loc main_arg3) (ix3 0 i n) :=
  (congrFun (entry3 m c) _).trans (Cert.DwOut.rows_at _ i n)

theorem idx : ∀ t : Fin cfg0.N, win0_0.index t = ![t.val / 4, t.val % 4] ∧ win0_1.index t = ![t.val % 4, 0]
    ∧ win0_2.index t = ![t.val / 4, 0] ∧ win0_3.index t = ![t.val / 4, 0] ∧ win0_4.index t = ![t.val / 4, 0] ∧ win0_5.index t = ![0, 0]
    ∧ win0_6.index t = ![t.val / 4, 0] :=
  (by decide +kernel : ∀ t : Fin grid0.N, _)

/-- One entry of the product, and its error. -/
def P (u : FVec Ideal S1x4096x4096 .f32) (w : FVec Ideal S4096x1024 .f32) (i : Fin 4096) (n : Fin 1024) : EReal :=
  ∑ k : Fin 4096, u (ix3 0 i k) * w (ix2 k n)
def E (u : FVec Ideal S1x4096x4096 .f32) (w : FVec Ideal S4096x1024 .f32) (x y : FVec Ideal S1x4096x1024 .f32) (i : Fin 4096) (n : Fin 1024) : EReal :=
  x (ix3 0 i n) + P u w i n - y (ix3 0 i n)

theorem row_lt (t : Fin cfg0.N) (r : Fin 1024) : t.val / 4 * 1024 + r.val < 4096 := by
  have hN : t.val < 16 := lt_of_lt_of_eq t.isLt (show cfg0.N = 16 from N_0)
  omega

theorem prod_at (t : Fin cfg0.N) (h3 : t.val % 4 = 3) (r n : Fin 1024) :
    (outsAt0 m c t.val t.isLt).2.2.2 (ix2 r n) = P (m ((c : Thread nD τ).loc main_arg0)) (m ((c : Thread nD τ).loc main_arg1))
      ⟨t.val / 4 * 1024 + r.val, row_lt t r⟩ n := by
  have hr := row_lt t r
  rw [Pipeline.eq_sum_fin_of_reset_step_apply_of_flush (fun n h => (outsAt0 m c n h).2.2.2) 4 (fun _ => 0) (term m c)
    (scratch_reset m c) (scratch_step m c) t h3 (ix2 r n), zero_add]
  unfold term part P
  refine Fin.sum_mul_add_congr fun s k hl => ?_
  have hs : (4 * (t.val / 4) + s.val) % 4 = s.val := by omega
  have hd : (4 * (t.val / 4) + s.val) / 4 = t.val / 4 := by omega
  have i0 := (idx ⟨4 * (t.val / 4) + s.val, Pipeline.run_point_lt_of_flush t h3 s⟩).1
  have i1 := (idx ⟨4 * (t.val / 4) + s.val, Pipeline.run_point_lt_of_flush t h3 s⟩).2.1
  dsimp only at i0 i1
  rw [hs, hd] at i0
  rw [hs] at i1
  congr 1
  · refine Eq.trans ?_ (left_at m c _ _)
    blk_ext [iblk, i0]
  · refine Eq.trans ?_ (right_at m c _ _)
    blk_ext [iblk, i1]

theorem E_at (t : Fin cfg0.N) (h3 : t.val % 4 = 3) (r n : Fin 1024) :
    err (outsAt0 m c t.val t.isLt).2.2.2 (iblk m c 2 t) (iblk m c 3 t) r n
      = E (m ((c : Thread nD τ).loc main_arg0)) (m ((c : Thread nD τ).loc main_arg1)) (m ((c : Thread nD τ).loc main_arg2))
        (m ((c : Thread nD τ).loc main_arg3)) ⟨t.val / 4 * 1024 + r.val, row_lt t r⟩ n := by
  have hr := row_lt t r
  obtain ⟨-, -, i2, i3, -⟩ := idx t
  have hx : iblk m c 2 t (ix2 r n) = m ((c : Thread nD τ).loc main_arg2) (ix3 0 ⟨t.val / 4 * 1024 + r.val, row_lt t r⟩ n) := by
    refine Eq.trans ?_ (x_at m c _ _)
    blk_ext [iblk, i2]
  have hy : iblk m c 3 t (ix2 r n) = m ((c : Thread nD τ).loc main_arg3) (ix3 0 ⟨t.val / 4 * 1024 + r.val, row_lt t r⟩ n) := by
    refine Eq.trans ?_ (t_at m c _ _)
    blk_ext [iblk, i3]
  unfold err E
  rw [hx, hy, prod_at m c t h3]

/-- The loss's gradient, in either format. -/
def G {φ : FTy} (u : FVec Ideal S1x4096x4096 .f32) (w : FVec Ideal S4096x1024 .f32) (x y : FVec Ideal S1x4096x1024 .f32) : FVec Ideal S4096x1024 φ := fun z =>
  E u w x y (z 0) (z 1) * inv

theorem final : (dats m 0 c).arrAt 4 cfg0.N = G (φ := .f32) (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  have h3 : t.val % 4 = 3 := (flush0_4 t).mp hf
  blk_simp
  rw [after0_4, (outs_eq m c t h3).1]
  idx_vars y
  obtain ⟨-, -, -, -, i4, -, -⟩ := idx t
  have hr := row_lt t y0
  have e : ((View.whole main_v5_0).slice (win0_4.rect t)).emb (ix2 y0 y1) = ix2 (⟨t.val / 4 * 1024 + y0.val, row_lt t y0⟩ : Fin 4096) y1 := by
    blk_ext [i4]
  rw [e]
  exact (grad_at _ _ _ _ _).trans (congrArg (· * inv) (E_at m c t h3 y0 y1))

theorem final_cast : (dats m 0 c).arrAt 6 cfg0.N = G (φ := .bf16) (m ((c : Thread nD τ).loc main_arg0)) (m ((c : Thread nD τ).loc main_arg1))
    (m ((c : Thread nD τ).loc main_arg2)) (m ((c : Thread nD τ).loc main_arg3)) := by
  refine (dats m 0 c).arrAt_eq_of_covers 6 _ (by decide +kernel) fun t hf y => ?_
  have h3 : t.val % 4 = 3 := (flush0_6 t).mp hf
  blk_simp
  rw [after0_6, (outs_eq m c t h3).2]
  idx_vars y
  obtain ⟨-, -, -, -, -, -, i6⟩ := idx t
  have hr := row_lt t y0
  have e : ((View.whole main_v5_2).slice (win0_6.rect t)).emb (ix2 y0 y1) = ix2 (⟨t.val / 4 * 1024 + y0.val, row_lt t y0⟩ : Fin 4096) y1 := by
    blk_ext [i6]
  rw [e]
  exact (cast_at _ _ _ _ _).trans (congrArg (· * inv) (E_at m c t h3 y0 y1))

/-- One row's share of the loss: its summed squares. -/
def one (u : FVec Ideal S1x4096x4096 .f32) (w : FVec Ideal S4096x1024 .f32) (x y : FVec Ideal S1x4096x1024 .f32) (i : Fin 4096) : EReal :=
  ∑ n : Fin 1024, E u w x y i n * E u w x y i n

/-- The squared errors of all rows, in every entry. -/
def Sq (u : FVec Ideal S1x4096x4096 .f32) (w : FVec Ideal S4096x1024 .f32) (x y : FVec Ideal S1x4096x1024 .f32) : FVec Ideal S8x128 .f32 := fun _ =>
  ∑ i : Fin 4096, one u w x y i

theorem share_at (t : Fin cfg0.N) (h3 : t.val % 4 = 3) :
    share (outsAt0 m c t.val t.isLt).2.2.2 (iblk m c 2 t) (iblk m c 3 t)
      = ∑ r : Fin 1024, one (m ((c : Thread nD τ).loc main_arg0)) (m ((c : Thread nD τ).loc main_arg1)) (m ((c : Thread nD τ).loc main_arg2))
        (m ((c : Thread nD τ).loc main_arg3)) ⟨t.val / 4 * 1024 + r.val, row_lt t r⟩ := by
  refine Finset.sum_congr rfl fun r _ => ?_
  unfold one
  simp only [E_at m c t h3]

theorem final_sum : (dats m 0 c).arrAt 5 cfg0.N = Sq (m ((c : Thread nD τ).loc main_arg0)) (m ((c : Thread nD τ).loc main_arg1))
    (m ((c : Thread nD τ).loc main_arg2)) (m ((c : Thread nD τ).loc main_arg3)) := by
  refine (dats m 0 c).arrAt_eq_of_covers 5 _ (by decide +kernel) fun t hf y => ?_
  have hN : t.val < 16 := lt_of_lt_of_eq t.isLt (show cfg0.N = 16 from N_0)
  have h15 : t.val = 4 * 3 + (4 - 1) := by have := (flush0_5 t).mp hf; omega
  blk_simp
  rw [after0_5]
  idx_vars y
  obtain ⟨-, -, -, -, -, i5, -⟩ := idx t
  have e : ((View.whole main_v5_1).slice (win0_5.rect t)).emb (ix2 y0 y1) = ix2 y0 y1 := by
    blk_ext [i5]
  rw [e]
  have h : 4 * 3 + (4 - 1) < cfg0.N := h15 ▸ t.isLt
  have et : outsAt0 m c t.val t.isLt = outsAt0 m c (4 * 3 + (4 - 1)) h := by simp only [h15]
  rw [et]
  refine (Rms.runs_sum 4 (fun n h => (outsAt0 m c n h).2.1 (ix2 y0 y1)) (fun n h => share (outsAt0 m c n h).2.2.2 (iblk m c 2 ⟨n, h⟩) (iblk m c 3 ⟨n, h⟩)) (by decide)
    (fun n h h3 => congrFun (sum_kept m c ⟨n, h⟩ h3) _) (fun n h h3 h4 => sum_first m c ⟨n, h⟩ h3 h4 y0 y1) (fun n h h3 h4 => sum_next m c ⟨n, h⟩ h3 h4 y0 y1) 3 h).trans ?_
  unfold Sq
  refine Eq.trans (Finset.sum_congr rfl fun s _ => share_at m c ⟨4 * s.val + (4 - 1), by omega⟩ (by dsimp only; omega)) ?_
  refine Fin.sum_mul_add_congr (S := 4) (n := 1024) fun s r hl => ?_
  have hd : (4 * s.val + (4 - 1)) / 4 = s.val := by omega
  simp only [hd]

end Cert.Loss

end
-- ==== Proof.Loss.Claim.lean ====
/- The down projection with the loss: the kernel and the plain reference end with the same loss and gradients. -/
module

public import proofs.«01_k».proof.Defs
public import proofs.«01_k».proof.Proof.Gen.Reference14Ideal.Run
public import proofs.«01_k».proof.Proof.Rms.Row
public import proofs.«01_k».proof.Proof.Loss.Value

@[expose] public section

set_option maxRecDepth 16384

noncomputable section

namespace Cert.Loss

open Idealize.ShloMosaic Idealize.ShloMosaic.TcCoe Idealize.ShloMosaic.Tactic Idealize.SL.Sem

attribute [local instance] Cert.Kernel14Ideal.Gen.facts Cert.Reference14Ideal.Gen.facts

/-- The words of the loss's factors. -/
abbrev mean : EReal := Ideal.ofBits .f32 0x3A000000#32
abbrev half : EReal := Ideal.ofBits .f32 0x3F000000#32
abbrev unit : EReal := Ideal.ofBits .f32 0x3F800000#32
abbrev two : EReal := Ideal.ofBits .f32 0x40000000#32

theorem inv_eq : inv = ((1 / 1024 : ℝ) : EReal) := by
  simp [inv, Ideal.ofBits, Ideal.ieee]
  rw [← EReal.coe_mul]
  norm_num
theorem mean_eq : mean = ((1 / 2048 : ℝ) : EReal) := by
  simp [mean, Ideal.ofBits, Ideal.ieee]
  rw [← EReal.coe_mul]
  norm_num
theorem half_eq : half = ((1 / 2 : ℝ) : EReal) := by
  simp [half, Ideal.ofBits, Ideal.ieee]
  rw [← EReal.coe_mul]
  norm_num
theorem unit_eq : unit = ((1 : ℝ) : EReal) := by
  simp [unit, Ideal.ofBits, Ideal.ieee]
  try rw [← EReal.coe_mul]
  try norm_num
theorem two_eq : two = ((2 : ℝ) : EReal) := by
  simp [two, Ideal.ofBits, Ideal.ieee]
  try rw [← EReal.coe_mul]
  try norm_num

open Cert.Reference14Ideal in
/-- The loss: half the mean square error of a row, summed over the rows. -/
def L (u : FVec Ideal S1x4096x4096 .f32) (w : FVec Ideal S4096x1024 .f32) (x y : FVec Ideal S1x4096x1024 .f32) : FVec Ideal S_ .f32 := fun _ =>
  (∑ i : Fin 4096, one u w x y i) * mean

section
open Cert.Reference14Ideal Cert.Reference14Ideal.Gen

variable (u : FVec Ideal S1x4096x4096 .f32) (w : FVec Ideal S4096x1024 .f32) (x y : FVec Ideal S1x4096x1024 .f32)

/-- The reference's error. -/
def rE : FVec Ideal S4096x1024 .f32 :=
  subf (addf (shapeCast _ x shapeCasts_S1x4096x1024_S4096x1024)
    (Host.dotGeneral dot_S4096x4096_S4096x1024_S4096x1024_1_0_0_1_n_n none (shapeCast _ u shapeCasts_S1x4096x4096_S4096x4096) w))
    (shapeCast _ y shapeCasts_S1x4096x1024_S4096x1024)

theorem rE_at (i : Fin 4096) (n : Fin 1024) : rE u w x y (ix2 i n) = E u w x y i n := by
  pointwise [rE, E, P]

theorem ref_loss : mulf (constant S_ .f32 0x3F000000#32) (Host.reduceAdd (Host.divf (Host.reduceAdd (mulf (rE u w x y) (rE u w x y)) (constant S_ .f32 0x00000000#32)
      reducesTo_S4096x1024_S4096_d1 h_S_) (broadcastInDim S4096 ![] bcast_S_S4096 (constant S_ .f32 0x44800000#32))) (constant S_ .f32 0x00000000#32) reducesTo_S4096_S_d0 h_S_)
    = L u w x y := by
  funext z
  have e : ∀ i, Ideal.div (one u w x y i) Rms.len = one u w x y i * ((1 / 1024 : ℝ) : EReal) := fun i => by
    rw [Rms.len_eq, Ideal.div_coe (by norm_num)]
  have h : half * ∑ i : Fin 4096, Ideal.div (one u w x y i) Rms.len = L u w x y z := by
    unfold L
    simp only [e]
    rw [← Rms.sum_mul_pos _ _ (by norm_num), half_eq, mean_eq, mul_comm, mul_assoc, ← EReal.coe_mul]
    congr 2
    norm_num
  refine Eq.trans ?_ h
  pointwise [rE_at, one]

theorem ref_grad : mulf (broadcastInDim S4096x1024 ![0] bcast_S4096_S4096x1024_0 (Host.divf (broadcastInDim S4096 ![] bcast_S_S4096
      (mulf (constant S_ .f32 0x3F000000#32) (constant S_ .f32 0x3F800000#32))) (broadcastInDim S4096 ![] bcast_S_S4096 (constant S_ .f32 0x44800000#32))))
      (mulf (broadcastInDim S4096x1024 ![] bcast_S_S4096x1024 (constant S_ .f32 0x40000000#32)) (rE u w x y))
    = G (φ := .f32) u w x y := by
  funext z
  idx_vars z
  have h : Ideal.div (half * unit) Rms.len * (two * E u w x y z0 z1) = E u w x y z0 z1 * inv := by
    rw [half_eq, unit_eq, two_eq, Rms.len_eq, inv_eq, ← EReal.coe_mul, Soft.div_coe_coe _ (by norm_num), ← mul_assoc, ← EReal.coe_mul, mul_comm]
    congr 2
    norm_num
  refine Eq.trans ?_ h
  pointwise [rE_at]

end

theorem frame_reference : Cert.quiescent_Reference14Ideal := fun m ρ _ =>
  (θ_run Cert.Reference14Ideal.defs _ _).mono (fun r h => ⟨fun c => (h c).2.2.2, Idealize.ShloMosaic.sem_eq_zero_of_no_sems (by decide) r.2⟩)
    (Cert.Reference14Ideal.Value.run (F := Ideal) m ρ)

open Cert.Kernel14Ideal Cert.Kernel14Ideal.Gen

/-- The lines after the region take one entry of the summed squares and scale it. -/
theorem tail_at (m : (ℓ : Loc nD τ sig) → Buf (Elt Ideal) ℓ) (c : Dev nD) :
    Pipeline.afterTail₀ cfgs (dats m) 0 (V0 m) [hostOps1] c main_v8 = L (m ((c.tc : Thread nD τ).loc main_arg0)) (m ((c.tc : Thread nD τ).loc main_arg1))
      (m ((c.tc : Thread nD τ).loc main_arg2)) (m ((c.tc : Thread nD τ).loc main_arg3)) := by
  have hs : Pipeline.withArrays spec0 c (V0 m c) (fun w => (dats m 0 c).arrAt w cfg0.N) (Proc.devRef .tc main_v5_1) = (dats m 0 c).arrAt 5 cfg0.N :=
    Pipeline.withArrays_arr spec0 (by decide) c (V0 m c) _ 5
  have ht : Pipeline.afterTail₀ cfgs (dats m) 0 (V0 m) [hostOps1] c main_v8
      = mulf (F := Ideal) (shapeCast S_ (extractStridedSlice S1x1 ![0, 0] (Pipeline.withArrays spec0 c (V0 m c) (fun w => (dats m 0 c).arrAt w cfg0.N)
          (Proc.devRef .tc main_v5_1) : FVec Ideal S8x128 .f32) slices_S8x128_S1x1_0_0) shapeCasts_S1x1_S_) (constant S_ .f32 0x3A000000#32) := by
    show StableHlo.after hostOps1 (Pipeline.withArrays spec0 c (V0 m c) fun w => (dats m 0 c).arrAt w cfg0.N) (Proc.devRef .tc main_v8) = _
    after_results
    rfl
  rw [ht, hs, final_sum]
  rfl

theorem algebraic : Cert.algebraic_Kernel14Ideal_Reference14Ideal := by
  intro m ρ m' ρ' _ hin
  refine ⟨fun c => L (m ((c.tc : Thread nD τ).loc main_arg0)) (m ((c.tc : Thread nD τ).loc main_arg1)) (m ((c.tc : Thread nD τ).loc main_arg2)) (m ((c.tc : Thread nD τ).loc main_arg3)),
    fun c => G (φ := .f32) (m ((c.tc : Thread nD τ).loc main_arg0)) (m ((c.tc : Thread nD τ).loc main_arg1)) (m ((c.tc : Thread nD τ).loc main_arg2)) (m ((c.tc : Thread nD τ).loc main_arg3)),
    fun c => G (φ := .bf16) (m ((c.tc : Thread nD τ).loc main_arg0)) (m ((c.tc : Thread nD τ).loc main_arg1)) (m ((c.tc : Thread nD τ).loc main_arg2)) (m ((c.tc : Thread nD τ).loc main_arg3)),
    ?_, ?_⟩
  · refine (θ_run defs _ _).mono (fun r h c => ?_) (run_main m ρ)
    exact ⟨((h c).2 main_v8 (Pipeline.mem_restRefs_of main_v8 (by decide) (by decide))).trans (tail_at m c),
      ((h c).1 4).trans (final m c), ((h c).1 6).trans (final_cast m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩
  · refine (θ_run Cert.Reference14Ideal.defs _ _).mono (fun r h c => ?_) (Cert.Reference14Ideal.Value.run m' ρ')
    obtain ⟨e, eg, ec, rest⟩ := h c
    obtain ⟨i0, i1, i2, i3⟩ := hin c
    rw [i0, i1, i2, i3] at e eg ec
    exact ⟨e.trans (ref_loss _ _ _ _), eg.trans (ref_grad _ _ _ _), (ec.trans (congrArg (fun g => truncf (F := Ideal) .bf16 g _) (ref_grad _ _ _ _))).trans rfl, rest⟩

end Cert.Loss

end
-- ==== Proof.Gate.Value.lean ====
/- The gated merge of the three branches: what the kernel writes, tile by tile. -/
module

public import proofs.«01_k».proof.Proof.Act.Value
public import proofs.«01_k».proof.Proof.Gen.Kernel16Ideal.Frame
public import Idealize.ShloMosaic.Lib.Pipeline.ValueKit.Tiles

@[expose] public section

set_option maxRecDepth 16384

noncomputable section

namespace Cert.Gate

open Idealize.ShloMosaic Idealize.ShloMosaic.TcCoe Idealize.ShloMosaic.Tactic Idealize.SL.Sem
open Idealize.ShloMosaic.Pipeline (Dat)
open Cert.Kernel16Ideal Cert.Kernel16Ideal.Gen

/-- A column of one branch's gates. -/
def col (s : Fin 3) (j : Fin 1024) : Fin 3072 := ⟨s.val * 1024 + j.val, by omega⟩

/-- The block of columns a column lies in, and its place there. -/
def quarter (j : Fin 1024) : Fin 4 := ⟨j.val / 256, by omega⟩
def lane (j : Fin 1024) : Fin 256 := ⟨j.val % 256, by omega⟩

/-- One branch's share of one entry of a tile. -/
def branch (g : FVec Ideal S512x3072 .f32) (b : FVec Ideal S1x3072 .f32) (o : FVec Ideal S512x512 .bf16) (w : FVec Ideal S4x512x256 .bf16)
    (s : Fin 3) (r : Fin 512) (j : Fin 1024) : EReal :=
  Ideal.logistic (g (ix2 r (col s j)) + b (ix2 0 (col s j))) * ∑ k : Fin 512, o (ix2 r k) * w (ix3 (quarter j) k (lane j))

theorem branch_eq (g : FVec Ideal S512x3072 .f32) (b : FVec Ideal S1x3072 .f32) (o : FVec Ideal S512x512 .bf16) (w : FVec Ideal S4x512x256 .bf16)
    {s : Fin 3} {r r' : Fin 512} {j : Fin 1024} {c : Fin 3072} {n : Fin 4} {q : Fin 256} (hr : r.val = r'.val) (hc : c.val = s.val * 1024 + j.val)
    (hj : j.val = n.val * 256 + q.val) :
    Ideal.logistic (g (ix2 r' c) + b (ix2 0 c)) * ∑ k : Fin 512, o (ix2 r' k) * w (ix3 n k q) = branch g b o w s r j := by
  have e : c = col s j := Fin.ext hc
  have en : n = quarter j := Fin.ext (by unfold quarter; dsimp only; omega)
  have eq : q = lane j := Fin.ext (by unfold lane; dsimp only; omega)
  obtain rfl : r = r' := Fin.ext hr
  unfold branch
  rw [e, en, eq]

theorem out_at (g : FVec Ideal S512x3072 .f32) (b : FVec Ideal S1x3072 .f32) (o0 o1 o2 : FVec Ideal S512x512 .bf16) (w0 w1 w2 : FVec Ideal S4x512x256 .bf16)
    (r : Fin 512) (j : Fin 1024) :
    out0_8 (F := Ideal) g b o0 o1 o2 w0 w1 w2 (ix2 r j) = branch g b o0 w0 0 r j + branch g b o1 w1 1 r j + branch g b o2 w2 2 r j := by
  canon_tiles x h using Gen.cover0_8 ..
  all_goals idx_vars x
  all_goals open_payloads
  all_goals pointwise
  all_goals refine congrArg₂ (· + ·) (congrArg₂ (· + ·) (branch_eq _ _ _ _ h0 ?_ ?_) (branch_eq _ _ _ _ h0 ?_ ?_)) (branch_eq _ _ _ _ h0 ?_ ?_)
  all_goals simp only [Fin.isValue, Fin.val_zero, Fin.val_one, Fin.val_two, Fin.reduceFinMk, Fin.coe_ofNat_eq_mod]
  all_goals omega

variable (m : (ℓ : Loc nD τ sig) → Buf (Elt Ideal) ℓ) (c : Dev nD)

/-- The rows of a branch, and its weights by blocks of columns, as the host hands them over. -/
abbrev rows (o : FVec Ideal S1x4096x512 .f32) : FVec Ideal S4096x512 .bf16 :=
  truncf (F := Ideal) .bf16 (shapeCast S4096x512 o shapeCasts_S1x4096x512_S4096x512) bitsLt_bf16_f32
abbrev blocks (w : FVec Ideal S512x1024 .f32) : FVec Ideal S4x512x256 .bf16 :=
  truncf (F := Ideal) .bf16 (transpose S4x512x256 [1, 0, 2] (shapeCast S512x4x256 w shapeCasts_S512x1024_S512x4x256) transposes_S512x4x256_S4x512x256_1_0_2) bitsLt_bf16_f32

theorem rows_at (o : FVec Ideal S1x4096x512 .f32) (i : Fin 4096) (k : Fin 512) : rows o (ix2 i k) = o (ix3 0 i k) := by
  pointwise
theorem blocks_at (w : FVec Ideal S512x1024 .f32) (n : Fin 4) (k : Fin 512) (q : Fin 256) : blocks w (ix3 n k q) = w (ix2 k (⟨n.val * 256 + q.val, by omega⟩ : Fin 1024)) := by
  pointwise
theorem wide_at (p : FVec Ideal S1x4096x6144 .f32) (i : Fin 4096) (n : Fin 6144) :
    shapeCast S4096x6144 p shapeCasts_S1x4096x6144_S4096x6144 (ix2 i n) = p (ix3 0 i n) := by
  pointwise

theorem entry0 : V m c main_v0 = shapeCast S4096x6144 (m ((c : Thread nD τ).loc main_arg0) : FVec Ideal S1x4096x6144 .f32) shapeCasts_S1x4096x6144_S4096x6144 := by
  unfold_abbrev_sides
  after_results
  rfl
theorem entry2 : V m c main_v2 = rows (m ((c : Thread nD τ).loc main_arg2)) := by
  unfold_abbrev_sides
  after_results
  rfl
theorem entry3 : V m c main_v4 = rows (m ((c : Thread nD τ).loc main_arg3)) := by
  unfold_abbrev_sides
  after_results
  rfl
theorem entry4 : V m c main_v6 = rows (m ((c : Thread nD τ).loc main_arg4)) := by
  unfold_abbrev_sides
  after_results
  rfl
theorem entry5 : V m c main_v9 = blocks (m ((c : Thread nD τ).loc main_arg5)) := by
  unfold_abbrev_sides
  after_results
  rfl
theorem entry6 : V m c main_v12 = blocks (m ((c : Thread nD τ).loc main_arg6)) := by
  unfold_abbrev_sides
  after_results
  rfl
theorem entry7 : V m c main_v15 = blocks (m ((c : Thread nD τ).loc main_arg7)) := by
  unfold_abbrev_sides
  after_results
  rfl

theorem idx : ∀ t : Fin cfg0.N, win0_0.index t = ![t.val, 1] ∧ win0_1.index t = ![0, 0] ∧ win0_2.index t = ![t.val, 0] ∧ win0_3.index t = ![t.val, 0]
    ∧ win0_4.index t = ![t.val, 0] ∧ win0_5.index t = ![0, 0, 0] ∧ win0_6.index t = ![0, 0, 0] ∧ win0_7.index t = ![0, 0, 0] ∧ win0_8.index t = ![t.val, 0] :=
  (by decide +kernel : ∀ t : Fin grid0.N, _)

/-- A gate: the combined projection's second half plus the bias, through the logistic function. -/
def gate (p : FVec Ideal S1x4096x6144 .f32) (b : FVec Ideal S1x3072 .f32) (i : Fin 4096) (n : Fin 3072) : EReal :=
  Ideal.logistic (p (ix3 0 i ⟨3072 + n.val, by omega⟩) + b (ix2 0 n))
/-- A branch's rows times its output weights. -/
def Y (o : FVec Ideal S1x4096x512 .f32) (w : FVec Ideal S512x1024 .f32) (i : Fin 4096) (j : Fin 1024) : EReal :=
  ∑ k : Fin 512, o (ix3 0 i k) * w (ix2 k j)

/-- The merged rows: each branch's projection times its gate, added up. -/
def G (p : FVec Ideal S1x4096x6144 .f32) (b : FVec Ideal S1x3072 .f32) (o0 o1 o2 : FVec Ideal S1x4096x512 .f32) (w0 w1 w2 : FVec Ideal S512x1024 .f32) :
    FVec Ideal S4096x1024 .bf16 := fun z =>
  gate p b (z 0) (col 0 (z 1)) * Y o0 w0 (z 0) (z 1) + gate p b (z 0) (col 1 (z 1)) * Y o1 w1 (z 0) (z 1) + gate p b (z 0) (col 2 (z 1)) * Y o2 w2 (z 0) (z 1)

theorem row_lt (t : Fin cfg0.N) (r : Fin 512) : t.val * 512 + r.val < 4096 := by
  have hN : t.val < 8 := lt_of_lt_of_eq t.isLt (show cfg0.N = 8 from N_0)
  omega

/-- A tile's share of one branch, from blocks that are known entry by entry. -/
theorem branch_at {p : FVec Ideal S1x4096x6144 .f32} {b : FVec Ideal S1x3072 .f32} {o : FVec Ideal S1x4096x512 .f32} {w : FVec Ideal S512x1024 .f32}
    {g' : FVec Ideal S512x3072 .f32} {b' : FVec Ideal S1x3072 .f32} {o' : FVec Ideal S512x512 .bf16} {w' : FVec Ideal S4x512x256 .bf16} (r : Fin 512) (i : Fin 4096)
    (hg : ∀ n : Fin 3072, g' (ix2 r n) = p (ix3 0 i ⟨3072 + n.val, by omega⟩)) (hb : ∀ n, b' (ix2 0 n) = b (ix2 0 n)) (ho : ∀ k, o' (ix2 r k) = o (ix3 0 i k))
    (hw : ∀ (n : Fin 4) k (q : Fin 256), w' (ix3 n k q) = w (ix2 k ⟨n.val * 256 + q.val, by omega⟩)) (s : Fin 3) (j : Fin 1024) :
    branch g' b' o' w' s r j = gate p b i (col s j) * Y o w i j := by
  unfold branch gate Y quarter lane
  rw [hg, hb]
  congr 1
  refine Finset.sum_congr rfl fun k _ => ?_
  rw [ho, hw]
  congr 3
  exact Fin.ext (by dsimp only; omega)

theorem gates_at (t : Fin cfg0.N) (r : Fin 512) (n : Fin 3072) : iblk m c 0 t (ix2 r n)
    = m ((c : Thread nD τ).loc main_arg0) (ix3 0 (⟨t.val * 512 + r.val, row_lt t r⟩ : Fin 4096) (⟨3072 + n.val, by omega⟩ : Fin 6144)) := by
  have i0 := (idx t).1
  refine Eq.trans ?_ ((congrFun (entry0 m c) _).trans (wide_at _ _ _))
  blk_ext [iblk, i0]
theorem bias_at (t : Fin cfg0.N) (n : Fin 3072) : iblk m c 1 t (ix2 0 n) = m ((c : Thread nD τ).loc main_arg1) (ix2 0 n) := by
  have i1 := (idx t).2.1
  rw [← V_main_arg1 m c]
  blk_ext [iblk, i1]

/-- The branches' rows and weights at a grid point. -/
theorem branches_at (t : Fin cfg0.N) (r : Fin 512) :
    (∀ k : Fin 512, iblk m c 2 t (ix2 r k) = m ((c : Thread nD τ).loc main_arg2) (ix3 0 (⟨t.val * 512 + r.val, row_lt t r⟩ : Fin 4096) k))
      ∧ (∀ k : Fin 512, iblk m c 3 t (ix2 r k) = m ((c : Thread nD τ).loc main_arg3) (ix3 0 (⟨t.val * 512 + r.val, row_lt t r⟩ : Fin 4096) k))
      ∧ ∀ k : Fin 512, iblk m c 4 t (ix2 r k) = m ((c : Thread nD τ).loc main_arg4) (ix3 0 (⟨t.val * 512 + r.val, row_lt t r⟩ : Fin 4096) k) := by
  obtain ⟨-, -, i2, i3, i4, -⟩ := idx t
  refine ⟨fun k => ?_, fun k => ?_, fun k => ?_⟩
  · refine Eq.trans ?_ ((congrFun (entry2 m c) _).trans (rows_at _ _ _))
    blk_ext [iblk, i2]
  · refine Eq.trans ?_ ((congrFun (entry3 m c) _).trans (rows_at _ _ _))
    blk_ext [iblk, i3]
  · refine Eq.trans ?_ ((congrFun (entry4 m c) _).trans (rows_at _ _ _))
    blk_ext [iblk, i4]
theorem weights_at (t : Fin cfg0.N) :
    (∀ (n : Fin 4) (k : Fin 512) (q : Fin 256), iblk m c 5 t (ix3 n k q) = m ((c : Thread nD τ).loc main_arg5) (ix2 k (⟨n.val * 256 + q.val, by omega⟩ : Fin 1024)))
      ∧ (∀ (n : Fin 4) (k : Fin 512) (q : Fin 256), iblk m c 6 t (ix3 n k q) = m ((c : Thread nD τ).loc main_arg6) (ix2 k (⟨n.val * 256 + q.val, by omega⟩ : Fin 1024)))
      ∧ ∀ (n : Fin 4) (k : Fin 512) (q : Fin 256), iblk m c 7 t (ix3 n k q) = m ((c : Thread nD τ).loc main_arg7) (ix2 k (⟨n.val * 256 + q.val, by omega⟩ : Fin 1024)) := by
  obtain ⟨-, -, -, -, -, i5, i6, i7, -⟩ := idx t
  refine ⟨fun n k q => ?_, fun n k q => ?_, fun n k q => ?_⟩
  · refine Eq.trans ?_ ((congrFun (entry5 m c) _).trans (blocks_at _ _ _ _))
    blk_ext [iblk, i5]
  · refine Eq.trans ?_ ((congrFun (entry6 m c) _).trans (blocks_at _ _ _ _))
    blk_ext [iblk, i6]
  · refine Eq.trans ?_ ((congrFun (entry7 m c) _).trans (blocks_at _ _ _ _))
    blk_ext [iblk, i7]

theorem final : (dats m 0 c).arrAt 8 cfg0.N = G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) := by
  refine (dats m 0 c).arrAt_eq_of_covers 8 _ (by decide +kernel) fun t hf y => ?_
  blk_simp
  rw [after0_8]
  idx_vars y
  have i8 := (idx t).2.2.2.2.2.2.2.2
  have hr := row_lt t y0
  have e : ((View.whole main_v16).slice (win0_8.rect t)).emb (ix2 y0 y1) = ix2 (⟨t.val * 512 + y0.val, row_lt t y0⟩ : Fin 4096) y1 := by
    blk_ext [i8]
  rw [e]
  refine (out_at _ _ _ _ _ _ _ _ _ _).trans ?_
  obtain ⟨o0, o1, o2⟩ := branches_at m c t y0
  obtain ⟨w0, w1, w2⟩ := weights_at m c t
  have hg := gates_at m c t y0
  have hb := bias_at m c t
  exact congrArg₂ (· + ·) (congrArg₂ (· + ·) (branch_at y0 _ hg hb o0 w0 0 y1) (branch_at y0 _ hg hb o1 w1 1 y1)) (branch_at y0 _ hg hb o2 w2 2 y1)

end Cert.Gate

end
-- ==== Proof.Gate.Claim.lean ====
/- The gated merge of the three branches: the kernel and the plain reference end with the same array. -/
module

public import proofs.«01_k».proof.Defs
public import proofs.«01_k».proof.Proof.Gen.Kernel16Ideal.Value
public import proofs.«01_k».proof.Proof.Gen.Reference16Ideal.Run
public import proofs.«01_k».proof.Proof.Gate.Value

@[expose] public section

set_option maxRecDepth 16384

noncomputable section

namespace Cert.Gate

open Idealize.ShloMosaic Idealize.ShloMosaic.TcCoe Idealize.ShloMosaic.Tactic Idealize.SL.Sem

attribute [local instance] Cert.Kernel16Ideal.Gen.facts Cert.Reference16Ideal.Gen.facts

section
open Cert.Reference16Ideal Cert.Reference16Ideal.Gen

variable (p : FVec Ideal S1x4096x6144 .f32) (b : FVec Ideal S1x3072 .f32)

/-- The reference's gates, and a branch's projection. -/
def rGate : FVec Ideal S4096x3072 .f32 :=
  Host.divf (broadcastInDim S4096x3072 ![] bcast_S_S4096x3072 (constant S_ .f32 0x3F800000#32)) (addf (broadcastInDim S4096x3072 ![] bcast_S_S4096x3072 (constant S_ .f32 0x3F800000#32))
    (Host.exp (Host.negf (addf (extractStridedSlice S4096x3072 ![0, 3072] (shapeCast S4096x6144 p shapeCasts_S1x4096x6144_S4096x6144) slices_S4096x6144_S4096x3072_0_3072)
      (broadcastInDim S4096x3072 ![0, 1] bcast_S1x3072_S4096x3072_0_1 (broadcastInDim S1x3072 ![1] bcast_S3072_S1x3072_1 (shapeCast S3072 b shapeCasts_S1x3072_S3072)))))))
def rY (o : FVec Ideal S1x4096x512 .f32) (w : FVec Ideal S512x1024 .f32) : FVec Ideal S4096x1024 .f32 :=
  Host.dotGeneral dot_S4096x512_S512x1024_S4096x1024_1_0_0_1_n_n none (shapeCast S4096x512 o shapeCasts_S1x4096x512_S4096x512) w

theorem unit_eq : Ideal.ofBits .f32 0x3F800000#32 = 1 := by
  simp [Ideal.ofBits, Ideal.ieee]
  try rw [← EReal.coe_mul]
  try norm_num

theorem rGate_at (i : Fin 4096) (n : Fin 3072) : rGate p b (ix2 i n) = gate p b i n := by
  have h : Ideal.div (Ideal.ofBits .f32 0x3F800000#32) (Ideal.ofBits .f32 0x3F800000#32 + Ideal.exp (-(p (ix3 0 i ⟨3072 + n.val, by omega⟩) + b (ix2 0 n)))) = gate p b i n := by
    rw [unit_eq]; rfl
  refine Eq.trans ?_ h
  pointwise [rGate]

theorem rY_at (o : FVec Ideal S1x4096x512 .f32) (w : FVec Ideal S512x1024 .f32) (i : Fin 4096) (j : Fin 1024) : rY o w (ix2 i j) = Y o w i j := by
  pointwise [rY, Y]

theorem cut0 (g : FVec Ideal S4096x3072 .f32) (i : Fin 4096) (j : Fin 1024) :
    shapeCast S4096x1024 (extractStridedSlice S4096x1x1024 ![0, 0, 0] (shapeCast S4096x3x1024 g shapeCasts_S4096x3072_S4096x3x1024) slices_S4096x3x1024_S4096x1x1024_0_0_0)
      shapeCasts_S4096x1x1024_S4096x1024 (ix2 i j) = g (ix2 i (col 0 j)) := by
  pointwise [col]
theorem cut1 (g : FVec Ideal S4096x3072 .f32) (i : Fin 4096) (j : Fin 1024) :
    shapeCast S4096x1024 (extractStridedSlice S4096x1x1024 ![0, 1, 0] (shapeCast S4096x3x1024 g shapeCasts_S4096x3072_S4096x3x1024) slices_S4096x3x1024_S4096x1x1024_0_1_0)
      shapeCasts_S4096x1x1024_S4096x1024 (ix2 i j) = g (ix2 i (col 1 j)) := by
  pointwise [col]
theorem cut2 (g : FVec Ideal S4096x3072 .f32) (i : Fin 4096) (j : Fin 1024) :
    shapeCast S4096x1024 (extractStridedSlice S4096x1x1024 ![0, 2, 0] (shapeCast S4096x3x1024 g shapeCasts_S4096x3072_S4096x3x1024) slices_S4096x3x1024_S4096x1x1024_0_2_0)
      shapeCasts_S4096x1x1024_S4096x1024 (ix2 i j) = g (ix2 i (col 2 j)) := by
  pointwise [col]

theorem ref_eq (o0 o1 o2 : FVec Ideal S1x4096x512 .f32) (w0 w1 w2 : FVec Ideal S512x1024 .f32) :
    truncf .bf16 (addf (addf
      (mulf (shapeCast S4096x1024 (extractStridedSlice S4096x1x1024 ![0, 0, 0] (shapeCast S4096x3x1024 (rGate p b) shapeCasts_S4096x3072_S4096x3x1024)
        slices_S4096x3x1024_S4096x1x1024_0_0_0) shapeCasts_S4096x1x1024_S4096x1024) (rY o0 w0))
      (mulf (shapeCast S4096x1024 (extractStridedSlice S4096x1x1024 ![0, 1, 0] (shapeCast S4096x3x1024 (rGate p b) shapeCasts_S4096x3072_S4096x3x1024)
        slices_S4096x3x1024_S4096x1x1024_0_1_0) shapeCasts_S4096x1x1024_S4096x1024) (rY o1 w1)))
      (mulf (shapeCast S4096x1024 (extractStridedSlice S4096x1x1024 ![0, 2, 0] (shapeCast S4096x3x1024 (rGate p b) shapeCasts_S4096x3072_S4096x3x1024)
        slices_S4096x3x1024_S4096x1x1024_0_2_0) shapeCasts_S4096x1x1024_S4096x1024) (rY o2 w2))) bitsLt_bf16_f32
      = G p b o0 o1 o2 w0 w1 w2 := by
  funext z
  idx_vars z
  rw [truncf_apply, addf_apply, addf_apply, mulf_apply, mulf_apply, mulf_apply, cut0, cut1, cut2]
  simp only [rGate_at, rY_at]
  rfl

end

theorem frame_reference : Cert.quiescent_Reference16Ideal := fun m ρ _ =>
  (θ_run Cert.Reference16Ideal.defs _ _).mono (fun r h => ⟨fun c => (h c).2, Idealize.ShloMosaic.sem_eq_zero_of_no_sems (by decide) r.2⟩)
    (Cert.Reference16Ideal.Value.run (F := Ideal) m ρ)

open Cert.Kernel16Ideal in
theorem algebraic : Cert.algebraic_Kernel16Ideal_Reference16Ideal := by
  intro m ρ m' ρ' _ hin
  refine ⟨fun c => G (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)), ?_, ?_⟩
  · exact (θ_run defs _ _).mono (fun r h c => ⟨(h c).1.trans (final m c), (h c).2⟩) (Cert.Kernel16Ideal.Value.run_blocks m ρ)
  · refine (θ_run Cert.Reference16Ideal.defs _ _).mono (fun r h c => ?_) (Cert.Reference16Ideal.Value.run m' ρ')
    obtain ⟨e, rest⟩ := h c
    obtain ⟨i0, i1, i2, i3, i4, i5, i6, i7⟩ := hin c
    rw [i0, i1, i2, i3, i4, i5, i6, i7] at e
    exact ⟨e.trans (ref_eq _ _ _ _ _ _ _ _), rest⟩

end Cert.Gate

end
-- ==== Proof.GateBack.Ref.lean ====
/- The gradient of the gated merge: the sums it is made of, and the plain reference's arrays. -/
module

public import proofs.«01_k».proof.Proof.Gate.Claim
public import proofs.«01_k».proof.Proof.Gen.Reference17Ideal.Run

@[expose] public section

set_option maxRecDepth 16384

noncomputable section

namespace Cert.GateBack

open Idealize.ShloMosaic Idealize.ShloMosaic.TcCoe Idealize.ShloMosaic.Tactic Idealize.SL.Sem
open Cert.Gate (gate Y col)
open Cert.Reference17Ideal Cert.Reference17Ideal.Gen

attribute [local instance] Cert.Reference16Ideal.Gen.facts Cert.Reference17Ideal.Gen.facts

variable (p : FVec Ideal S1x4096x6144 .f32) (b : FVec Ideal S1x3072 .f32) (d : FVec Ideal S1x4096x1024 .f32)

/-- The gradient of a branch's projection: the cotangent times the gate. -/
def dY (s : Fin 3) (i : Fin 4096) (j : Fin 1024) : EReal := d (ix3 0 i j) * gate p b i (col s j)

/-- The column of a weight in block `n` at place `q`. -/
def place (n : Fin 4) (q : Fin 256) : Fin 1024 := ⟨n.val * 256 + q.val, by omega⟩

/-- The gradients of a branch's rows and of its weights. -/
def dO (w : FVec Ideal S512x1024 .f32) (s : Fin 3) : FVec Ideal S4096x512 .bf16 := fun z =>
  ∑ j : Fin 1024, dY p b d s (z 0) j * w (ix2 (z 1) j)
def dW (o : FVec Ideal S1x4096x512 .f32) (s : Fin 3) : FVec Ideal S4x512x256 .f32 := fun z =>
  ∑ i : Fin 4096, o (ix3 0 i (z 1)) * dY p b d s i (place (z 0) (z 2))

/-- The gradient of one gate before its activation. -/
def dGate (o : FVec Ideal S1x4096x512 .f32) (w : FVec Ideal S512x1024 .f32) (s : Fin 3) (i : Fin 4096) (j : Fin 1024) : EReal :=
  d (ix3 0 i j) * Y o w i j * gate p b i (col s j) * (1 - gate p b i (col s j))

/-- The branch a column of the gates belongs to, and its place there. -/
def owner (n : Fin 3072) : Fin 3 := ⟨n.val / 1024, by omega⟩
def within (n : Fin 3072) : Fin 1024 := ⟨n.val % 1024, by omega⟩

variable (o : Fin 3 → FVec Ideal S1x4096x512 .f32) (w : Fin 3 → FVec Ideal S512x1024 .f32)

/-- The gradients of all gates, and of the bias. -/
def entry (i : Fin 4096) (n : Fin 3072) : EReal := dGate p b d (o (owner n)) (w (owner n)) (owner n) i (within n)
def dG : FVec Ideal S4096x3072 .bf16 := fun z => entry p b d o w (z 0) (z 1)
def dB : FVec Ideal S1x3072 .f32 := fun z => ∑ i : Fin 4096, entry p b d o w i (z 1)

/-- The cotangent's rows. -/
abbrev flat : FVec Ideal S4096x1024 .f32 := shapeCast S4096x1024 d shapeCasts_S1x4096x1024_S4096x1024

theorem ref_dO (g : FVec Ideal S4096x1024 .f32) (s : Fin 3) (hg : ∀ i j, g (ix2 i j) = gate p b i (col s j)) (v : FVec Ideal S512x1024 .f32) :
    truncf .bf16 (Host.dotGeneral dot_S4096x1024_S512x1024_S4096x512_1_1_0_0_n_n none (mulf g (flat d)) v) bitsLt_bf16_f32 = dO p b d v s := by
  funext z
  idx_vars z
  trans ∑ j : Fin 1024, (g (ix2 z0 j) * d (ix3 0 z0 j)) * v (ix2 z1 j)
  · pointwise
  · exact Finset.sum_congr rfl fun j _ => by rw [hg, mul_comm (gate _ _ _ _)]; rfl

theorem ref_dW (g : FVec Ideal S4096x1024 .f32) (s : Fin 3) (hg : ∀ i j, g (ix2 i j) = gate p b i (col s j)) (v : FVec Ideal S1x4096x512 .f32) :
    transpose S4x512x256 [1, 0, 2] (shapeCast S512x4x256 (transpose S512x1024 [1, 0] (Host.dotGeneral dot_S4096x1024_S4096x512_S1024x512_0_0_1_1_n_n none (mulf g (flat d))
      (shapeCast S4096x512 v shapeCasts_S1x4096x512_S4096x512)) transposes_S1024x512_S512x1024_1_0) shapeCasts_S512x1024_S512x4x256) transposes_S512x4x256_S4x512x256_1_0_2
      = dW p b d v s := by
  funext z
  idx_vars z
  trans ∑ i : Fin 4096, (g (ix2 i (place z0 z2)) * d (ix3 0 i (place z0 z2))) * v (ix3 0 i z1)
  · pointwise [place]
  · exact Finset.sum_congr rfl fun j _ => by rw [hg, mul_comm (gate _ _ _ _), mul_comm _ (v _)]; rfl

/-- Three arrays laid side by side, as zero-filled arrays added up. -/
def side (x : Fin 3 → FVec Ideal S4096x1024 .f32) : FVec Ideal S4096x3072 .f32 :=
  shapeCast S4096x3072 (addf (addf
    (pad S4096x3x1024 ![0, 2, 0] ![0, 0, 0] ![0, 0, 0] (broadcastInDim S4096x1x1024 ![0, 2] bcast_S4096x1024_S4096x1x1024_0_2 (x 2)) (constant S_ .f32 0x00000000#32)
      pads_S4096x1x1024_S4096x3x1024_000_200_000 h_S_)
    (pad S4096x3x1024 ![0, 1, 0] ![0, 1, 0] ![0, 0, 0] (broadcastInDim S4096x1x1024 ![0, 2] bcast_S4096x1024_S4096x1x1024_0_2 (x 1)) (constant S_ .f32 0x00000000#32)
      pads_S4096x1x1024_S4096x3x1024_000_110_000 h_S_))
    (pad S4096x3x1024 ![0, 0, 0] ![0, 2, 0] ![0, 0, 0] (broadcastInDim S4096x1x1024 ![0, 2] bcast_S4096x1024_S4096x1x1024_0_2 (x 0)) (constant S_ .f32 0x00000000#32)
      pads_S4096x1x1024_S4096x3x1024_000_020_000 h_S_)) shapeCasts_S4096x3x1024_S4096x3072

/-- Of three summands the one that a column's branch keeps. -/
theorem kept (f : Fin 3 → Fin 1024 → EReal) (a r : ℕ) (ha : a < 3) (hr : r < 1024) :
    ((if h : (2 ≤ a ∧ a - 2 < 1) ∧ r < 1024 then f 2 ⟨r, h.2⟩ else 0) + (if h : (1 ≤ a ∧ a - 1 < 1) ∧ r < 1024 then f 1 ⟨r, h.2⟩ else 0)
      + if h : a < 1 ∧ r < 1024 then f 0 ⟨r, h.2⟩ else 0) = f ⟨a, ha⟩ ⟨r, hr⟩ := by
  interval_cases a <;> simp [hr]

theorem side_at (x : Fin 3 → FVec Ideal S4096x1024 .f32) (i : Fin 4096) (n : Fin 3072) : side x (ix2 i n) = x (owner n) (ix2 i (within n)) := by
  refine Eq.trans ?_ (kept (fun s j => x s (ix2 i j)) (n.val / 1024) (n.val % 1024) (by omega) (Nat.mod_lt _ (by omega)))
  pointwise [side]

theorem one_at (i : Fin 4096) (n : Fin 3072) :
    broadcastInDim S4096x3072 ![] bcast_S_S4096x3072 (constant (F := Ideal) S_ .f32 0x3F800000#32) (ix2 i n) = 1 := by
  pointwise

theorem flat_at (i : Fin 4096) (j : Fin 1024) : flat d (ix2 i j) = d (ix3 0 i j) := by
  pointwise

/-- The reference's gradient of all gates before their activation. -/
def rDg : FVec Ideal S4096x3072 .f32 :=
  mulf (side fun s => mulf (flat d) (Cert.Gate.rY (o s) (w s))) (mulf (Cert.Gate.rGate p b)
    (subf (broadcastInDim S4096x3072 ![] bcast_S_S4096x3072 (constant S_ .f32 0x3F800000#32)) (Cert.Gate.rGate p b)))

theorem rDg_at (i : Fin 4096) (n : Fin 3072) : rDg p b d o w (ix2 i n) = entry p b d o w i n := by
  have e : col (owner n) (within n) = n := Fin.ext (by unfold col owner within; dsimp only; omega)
  unfold rDg entry dGate
  rw [mulf_apply, mulf_apply, subf_apply, side_at, mulf_apply, flat_at, one_at, Cert.Gate.rGate_at, Cert.Gate.rY_at, e]
  exact (mul_assoc _ _ _).symm

theorem ref_dG : truncf .bf16 (rDg p b d o w) bitsLt_bf16_f32 = dG p b d o w := by
  funext z
  idx_vars z
  rw [truncf_apply]
  exact rDg_at p b d o w z0 z1

theorem ref_dB : shapeCast S1x3072 (Host.reduceAdd (shapeCast S1x3072 (Host.reduceAdd (rDg p b d o w) (constant S_ .f32 0x00000000#32) reducesTo_S4096x3072_S3072_d0 h_S_)
      shapeCasts_S3072_S1x3072) (constant S_ .f32 0x00000000#32) reducesTo_S1x3072_S3072_d0 h_S_) shapeCasts_S3072_S1x3072 = dB p b d o w := by
  funext z
  idx_vars z
  trans ∑ i : Fin 4096, rDg p b d o w (ix2 i z1)
  · generalize rDg p b d o w = x
    pointwise
    exact Fin.sum_univ_one _
  · exact Finset.sum_congr rfl fun i _ => rDg_at p b d o w i z1

end Cert.GateBack

end
-- ==== Proof.GateBack.Tiles.lean ====
/- The gradient of the gated merge: what one grid point of the kernel writes and adds. -/
module

public import proofs.«01_k».proof.Proof.GateBack.Ref
public import proofs.«01_k».proof.Proof.Gen.Kernel17Ideal.Frame
public import Idealize.ShloMosaic.Lib.Pipeline.ValueKit.Tiles
public import Idealize.ShloMosaic.Lib.Pipeline.ReadBack

@[expose] public section

set_option maxRecDepth 16384

noncomputable section

namespace Cert.GateBack

open Idealize.ShloMosaic Idealize.ShloMosaic.TcCoe Idealize.ShloMosaic.Tactic Idealize.SL.Sem
open Idealize.ShloMosaic.Pipeline (Dat)
open Cert.Gate (col quarter lane)
open Cert.Kernel17Ideal Cert.Kernel17Ideal.Gen

/-- Stores that already cover an index leave there what they leave without the earlier ones. -/
theorem canon_front {Val : EltTy → Type} [∀ e, Nonempty (Val e)] {S : Shape} {e : EltTy} : ∀ (L L' : List (View.Piece Val S e)) (y : S.Idx),
    (∃ p ∈ L, y ∈ p.1.set) → View.canon (L ++ L') y = View.canon L y
  | [], _, _, hc => by obtain ⟨p, hp, -⟩ := hc; exact absurd hp List.not_mem_nil
  | p :: L, L', y, hc => by
    by_cases hm : y ∈ p.1.set
    · obtain ⟨x, rfl⟩ := p.1.exists_idx_of_mem hm
      exact (View.canon_cons_emb p.1 p.2 (L ++ L') x).trans (View.canon_cons_emb p.1 p.2 L x).symm
    · refine (View.canon_cons_of_not_mem p (L ++ L') hm).trans (Eq.trans ?_ (View.canon_cons_of_not_mem p L hm).symm)
      refine canon_front L L' y ?_
      obtain ⟨q, hq, hy⟩ := hc
      rcases List.mem_cons.mp hq with rfl | hq'
      · exact absurd hy hm
      · exact ⟨q, hq', hy⟩

section
variable (g : FVec Ideal S512x3072 .f32) (b : FVec Ideal S1x3072 .f32) (d : FVec Ideal S512x1024 .f32)

/-- A gate of a tile, and the gradient of a branch's projection there. -/
def tg (s : Fin 3) (r : Fin 512) (j : Fin 1024) : EReal := Ideal.logistic (g (ix2 r (col s j)) + b (ix2 0 (col s j)))
def tY (s : Fin 3) (r : Fin 512) (j : Fin 1024) : EReal := d (ix2 r j) * tg g b s r j

theorem tY_eq (s : Fin 3) {r : Fin 512} {v : Fin 4} {q : Fin 256} {j : Fin 1024} {n : Fin 3072} (hj : v.val * 256 + q.val = j.val) (hn : n.val = s.val * 1024 + j.val) :
    d (ix2 r j) * Ideal.logistic (g (ix2 r n) + b (ix2 0 n)) = tY g b d s r (place v q) := by
  have e : n = col s j := Fin.ext hn
  obtain rfl : place v q = j := Fin.ext hj
  rw [e]
  rfl

variable (o : Fin 3 → FVec Ideal S512x512 .bf16) (w : Fin 3 → FVec Ideal S4x512x256 .bf16)

/-- The gradient of one gate of a tile before its activation. -/
def tGate (s : Fin 3) (r : Fin 512) (j : Fin 1024) : EReal :=
  d (ix2 r j) * (∑ k : Fin 512, o s (ix2 r k) * w s (ix3 (quarter j) k (lane j))) * tg g b s r j * (1 - tg g b s r j)
def tEntry (r : Fin 512) (n : Fin 3072) : EReal := tGate g b d o w (owner n) r (within n)

theorem tW_eq (s : Fin 3) {o' : FVec Ideal S512x512 .bf16} (ho : o s = o') {r k k' : Fin 512} {v : Fin 4} {q : Fin 256} {j : Fin 1024} {n : Fin 3072} (hk : k.val = k'.val)
    (hj : v.val * 256 + q.val = j.val) (hn : n.val = s.val * 1024 + j.val) :
    o' (ix2 r k') * (d (ix2 r j) * Ideal.logistic (g (ix2 r n) + b (ix2 0 n))) = o s (ix2 r k) * tY g b d s r (place v q) := by
  obtain rfl : k = k' := Fin.ext hk
  rw [tY_eq g b d s hj hn, ho]

theorem tO_eq (s : Fin 3) {w' : FVec Ideal S4x512x256 .bf16} (hw : w s = w') {r k : Fin 512} {v : Fin 4} {q : Fin 256} {j : Fin 1024} {n : Fin 3072}
    (hj : v.val * 256 + q.val = j.val) (hn : n.val = s.val * 1024 + j.val) :
    d (ix2 r j) * Ideal.logistic (g (ix2 r n) + b (ix2 0 n)) * w' (ix3 v k q) = tY g b d s r (place v q) * w s (ix3 (quarter (place v q)) k (lane (place v q))) := by
  have ev : quarter (place v q) = v := Fin.ext (by unfold quarter place; dsimp only; omega)
  have eq : lane (place v q) = q := Fin.ext (by unfold lane place; dsimp only; omega)
  rw [tY_eq g b d s hj hn, hw, ev, eq]

theorem tEntry_eq (s : Fin 3) {o' : FVec Ideal S512x512 .bf16} {w' : FVec Ideal S4x512x256 .bf16}
    {r r' : Fin 512} {n n' : Fin 3072} {j : Fin 1024} {v : Fin 4} {q : Fin 256} (hr : r.val = r'.val) (hn : n.val = n'.val) (hs : n'.val = s.val * 1024 + j.val)
    (hj : j.val = v.val * 256 + q.val) (ho : o s = o') (hw : w s = w') :
    d (ix2 r' j) * (∑ k : Fin 512, o' (ix2 r' k) * w' (ix3 v k q)) * Ideal.logistic (g (ix2 r' n') + b (ix2 0 n'))
      * (1 - Ideal.logistic (g (ix2 r' n') + b (ix2 0 n'))) = tEntry g b d o w r n := by
  obtain rfl : r = r' := Fin.ext hr
  obtain rfl : n = n' := Fin.ext hn
  have e : n = col s j := Fin.ext hs
  have es : owner n = s := Fin.ext (by unfold owner; dsimp only; omega)
  have ej : within n = j := Fin.ext (by unfold within; dsimp only; omega)
  have ev : v = quarter j := Fin.ext (by unfold quarter; dsimp only; omega)
  have eq : q = lane j := Fin.ext (by unfold lane; dsimp only; omega)
  unfold tEntry tGate tg
  rw [es, ej, ev, eq, ← ho, ← hw, e]
end

variable (m : (ℓ : Loc nD τ sig) → Buf (Elt Ideal) ℓ) (c : Dev nD)

theorem at2 (f : S1x3072.Idx → EReal) {a a' : Fin 1} {b b' : Fin 3072} (ha : a.val = a'.val) (hb : b.val = b'.val) : f (ix2 a' b') = f (ix2 a b) := by
  rw [Fin.ext ha, Fin.ext hb]
theorem at3 (f : S4x512x256.Idx → EReal) {a a' : Fin 4} {b b' : Fin 512} {e e' : Fin 256} (ha : a.val = a'.val) (hb : b.val = b'.val) (he : e.val = e'.val) :
    f (ix3 a' b' e') = f (ix3 a b e) := by
  rw [Fin.ext ha, Fin.ext hb, Fin.ext he]

/-- The branches' rows and weights at a grid point. -/
def oB (t : Fin cfg0.N) : Fin 3 → FVec Ideal S512x512 .bf16 := ![iblk m c 2 t, iblk m c 3 t, iblk m c 4 t]
def wB (t : Fin cfg0.N) : Fin 3 → FVec Ideal S4x512x256 .bf16 := ![iblk m c 5 t, iblk m c 6 t, iblk m c 7 t]

/-- What a grid point writes of a branch's gradient, and what it adds to its weights' gradient and to the bias's. -/
def tO (t : Fin cfg0.N) (s : Fin 3) (r k : Fin 512) : EReal :=
  ∑ j : Fin 1024, tY (iblk m c 0 t) (iblk m c 1 t) (iblk m c 8 t) s r j * wB m c t s (ix3 (quarter j) k (lane j))
def tW (t : Fin cfg0.N) (s : Fin 3) : S4x512x256.Idx → EReal := fun y =>
  ∑ r : Fin 512, oB m c t s (ix2 r (y 1)) * tY (iblk m c 0 t) (iblk m c 1 t) (iblk m c 8 t) s r (place (y 0) (y 2))
def tB (t : Fin cfg0.N) : S1x3072.Idx → EReal := fun y =>
  ∑ r : Fin 512, tEntry (iblk m c 0 t) (iblk m c 1 t) (iblk m c 8 t) (oB m c t) (wB m c t) r (y 1)

end Cert.GateBack

end
-- ==== Proof.GateBack.Gates.lean ====
/- The gradient of the gated merge: the gates of one tile. -/
module

public import proofs.«01_k».proof.Proof.GateBack.Tiles

@[expose] public section

set_option maxRecDepth 16384

noncomputable section

namespace Cert.GateBack

open Idealize.ShloMosaic Idealize.ShloMosaic.TcCoe Idealize.ShloMosaic.Tactic Idealize.SL.Sem
open Idealize.ShloMosaic.Pipeline (Dat)
open Cert.Gate (col quarter lane)
open Cert.Kernel17Ideal Cert.Kernel17Ideal.Gen

variable (m : (ℓ : Loc nD τ sig) → Buf (Elt Ideal) ℓ) (c : Dev nD)

set_option maxHeartbeats 4000000 in
theorem dg_at (t : Fin cfg0.N) (r : Fin 512) (n : Fin 3072) :
    (outsAt0 m c t.val t.isLt).1 (ix2 r n) = tEntry (iblk m c 0 t) (iblk m c 1 t) (iblk m c 8 t) (oB m c t) (wB m c t) r n := by
  by_cases h : t.val % 8 = 0
  all_goals first | rw [outsAt0_A m c t h] | rw [outsAt0_B m c t h]
  all_goals frame_out
  all_goals canon_tiles x h
  all_goals idx_vars x
  all_goals open_payloads
  all_goals pointwise
  all_goals first
    | refine tEntry_eq _ _ _ _ _ 0 h0 h1 ?_ ?_ ?_ ?_ <;> first | (try simp only [Fin.isValue, Fin.val_zero, Fin.val_one, Fin.val_two, Fin.reduceFinMk, Fin.coe_ofNat_eq_mod]); omega | rfl
    | refine tEntry_eq _ _ _ _ _ 1 h0 h1 ?_ ?_ ?_ ?_ <;> first | (try simp only [Fin.isValue, Fin.val_zero, Fin.val_one, Fin.val_two, Fin.reduceFinMk, Fin.coe_ofNat_eq_mod]); omega | rfl
    | refine tEntry_eq _ _ _ _ _ 2 h0 h1 ?_ ?_ ?_ ?_ <;> first | (try simp only [Fin.isValue, Fin.val_zero, Fin.val_one, Fin.val_two, Fin.reduceFinMk, Fin.coe_ofNat_eq_mod]); omega | rfl

end Cert.GateBack

end
-- ==== Proof.GateBack.Rows.lean ====
/- The gradient of the gated merge: the gradients of the branches, rows of one tile. -/
module

public import proofs.«01_k».proof.Proof.GateBack.Tiles

@[expose] public section

set_option maxRecDepth 16384

noncomputable section

namespace Cert.GateBack

open Idealize.ShloMosaic Idealize.ShloMosaic.TcCoe Idealize.ShloMosaic.Tactic Idealize.SL.Sem
open Idealize.ShloMosaic.Pipeline (Dat)
open Cert.Gate (col quarter lane)
open Cert.Kernel17Ideal Cert.Kernel17Ideal.Gen

variable (m : (ℓ : Loc nD τ sig) → Buf (Elt Ideal) ℓ) (c : Dev nD)

/-- A sum over all columns, block by block. -/
theorem sum_blocks (f : Fin 1024 → EReal) : ∑ j : Fin 1024, f j
    = ∑ q : Fin 256, f (place 0 q) + ∑ q : Fin 256, f (place 1 q) + ∑ q : Fin 256, f (place 2 q) + ∑ q : Fin 256, f (place 3 q) := by
  refine Eq.trans ?_ (Fin.sum_univ_four fun n : Fin 4 => ∑ q : Fin 256, f (place n q))
  exact (Fin.sum_mul_add_congr fun n q hl => rfl).symm

set_option maxHeartbeats 1000000 in
theorem do_at (t : Fin cfg0.N) (r k : Fin 512) : (outsAt0 m c t.val t.isLt).2.1 (ix2 r k) = tO m c t 0 r k
    ∧ (outsAt0 m c t.val t.isLt).2.2.1 (ix2 r k) = tO m c t 1 r k ∧ (outsAt0 m c t.val t.isLt).2.2.2.1 (ix2 r k) = tO m c t 2 r k := by
  unfold tO
  rw [sum_blocks, sum_blocks, sum_blocks]
  by_cases h : t.val % 8 = 0
  all_goals first | rw [outsAt0_A m c t h] | rw [outsAt0_B m c t h]
  all_goals refine ⟨?_, ?_, ?_⟩
  all_goals frame_out
  all_goals open_payloads
  all_goals pointwise
  all_goals refine congrArg₂ (· + ·) (congrArg₂ (· + ·) (congrArg₂ (· + ·) (Finset.sum_congr rfl fun q _ => ?_) (Finset.sum_congr rfl fun q _ => ?_))
    (Finset.sum_congr rfl fun q _ => ?_)) (Finset.sum_congr rfl fun q _ => ?_)
  all_goals refine tO_eq _ _ _ (wB m c t) _ ?_ ?_ ?_
  all_goals first | (try simp only [Fin.isValue, Fin.val_zero, Fin.val_one, Fin.val_two, Fin.reduceFinMk, Fin.coe_ofNat_eq_mod]); omega | rfl

end Cert.GateBack

end
-- ==== Proof.GateBack.Weights.lean ====
/- The gradient of the gated merge: the gradients of the weights of one tile. -/
module

public import proofs.«01_k».proof.Proof.GateBack.Tiles

@[expose] public section

set_option maxRecDepth 16384

noncomputable section

namespace Cert.GateBack

open Idealize.ShloMosaic Idealize.ShloMosaic.TcCoe Idealize.ShloMosaic.Tactic Idealize.SL.Sem
open Idealize.ShloMosaic.Pipeline (Dat)
open Cert.Gate (col quarter lane)
open Cert.Kernel17Ideal Cert.Kernel17Ideal.Gen

variable (m : (ℓ : Loc nD τ sig) → Buf (Elt Ideal) ℓ) (c : Dev nD)

set_option maxHeartbeats 1000000 in
theorem dw_reset (t : Fin cfg0.N) (h : t.val % 8 = 0) (y : S4x512x256.Idx) : (outsAt0 m c t.val t.isLt).2.2.2.2.2.2.2.1 y = 0 + tW m c t 0 y
    ∧ (outsAt0 m c t.val t.isLt).2.2.2.2.2.2.2.2.1 y = 0 + tW m c t 1 y ∧ (outsAt0 m c t.val t.isLt).2.2.2.2.2.2.2.2.2.1 y = 0 + tW m c t 2 y := by
  rw [outsAt0_A m c t h]
  refine ⟨?_, ?_, ?_⟩
  all_goals frame_out
  all_goals simp (disch := decide) only [↓ View.readCov_skip, ↓ View.readCov_fill]
  all_goals refine (canon_front [_, _, _, _] [_] y (View.cover_of_tiled_head _ _ _ rfl _)).trans ?_
  all_goals idx_vars y
  all_goals canon_tiles x h
  all_goals idx_vars x
  all_goals open_payloads
  all_goals pointwise [tW]
  all_goals refine Finset.sum_congr rfl fun r _ => tW_eq _ _ _ (oB m c t) _ ?_ h1 ?_ ?_
  all_goals first | (try simp only [Fin.isValue, Fin.val_zero, Fin.val_one, Fin.val_two, Fin.reduceFinMk, Fin.coe_ofNat_eq_mod]); omega | rfl

set_option maxHeartbeats 1000000 in
theorem dw_step (t : Fin cfg0.N) (h : ¬t.val % 8 = 0) (y : S4x512x256.Idx) : (outsAt0 m c t.val t.isLt).2.2.2.2.2.2.2.1 y
      = (outsAt0 m c (t.val - 1) (Nat.lt_of_le_of_lt (Nat.sub_le _ _) t.isLt)).2.2.2.2.2.2.2.1 y + tW m c t 0 y
    ∧ (outsAt0 m c t.val t.isLt).2.2.2.2.2.2.2.2.1 y
      = (outsAt0 m c (t.val - 1) (Nat.lt_of_le_of_lt (Nat.sub_le _ _) t.isLt)).2.2.2.2.2.2.2.2.1 y + tW m c t 1 y
    ∧ (outsAt0 m c t.val t.isLt).2.2.2.2.2.2.2.2.2.1 y
      = (outsAt0 m c (t.val - 1) (Nat.lt_of_le_of_lt (Nat.sub_le _ _) t.isLt)).2.2.2.2.2.2.2.2.2.1 y + tW m c t 2 y := by
  rw [outsAt0_B m c t h]
  refine ⟨?_, ?_, ?_⟩
  all_goals frame_out
  all_goals idx_vars y
  all_goals canon_tiles x h
  all_goals idx_vars x
  all_goals open_payloads
  all_goals pointwise [tW]
  all_goals refine congrArg₂ (· + ·) (at3 _ ?_ h1 h2) (Finset.sum_congr rfl fun r _ => tW_eq _ _ _ (oB m c t) _ ?_ h1 ?_ ?_)
  all_goals first | (try simp only [Fin.isValue, Fin.val_zero, Fin.val_one, Fin.val_two, Fin.reduceFinMk, Fin.coe_ofNat_eq_mod]); omega | rfl

end Cert.GateBack

end
-- ==== Proof.GateBack.Bias.lean ====
/- The gradient of the gated merge: the gradient of the bias of one tile. -/
module

public import proofs.«01_k».proof.Proof.GateBack.Tiles

@[expose] public section

set_option maxRecDepth 16384

noncomputable section

namespace Cert.GateBack

open Idealize.ShloMosaic Idealize.ShloMosaic.TcCoe Idealize.ShloMosaic.Tactic Idealize.SL.Sem
open Idealize.ShloMosaic.Pipeline (Dat)
open Cert.Gate (col quarter lane)
open Cert.Kernel17Ideal Cert.Kernel17Ideal.Gen

variable (m : (ℓ : Loc nD τ sig) → Buf (Elt Ideal) ℓ) (c : Dev nD)

set_option maxHeartbeats 4000000 in
theorem db_reset (t : Fin cfg0.N) (h : t.val % 8 = 0) (y : S1x3072.Idx) : (outsAt0 m c t.val t.isLt).2.2.2.2.2.2.2.2.2.2 y = 0 + tB m c t y := by
  rw [outsAt0_A m c t h]
  frame_out
  simp (disch := decide) only [↓ View.readCov_skip, ↓ View.readCov_fill]
  refine (canon_front [_, _, _, _, _, _, _, _, _, _, _, _] [_] y (View.cover_of_tiled_head _ _ _ rfl _)).trans ?_
  idx_vars y
  canon_tiles x h
  all_goals idx_vars x
  all_goals open_payloads
  all_goals pointwise [tB]
  all_goals refine Finset.sum_congr rfl fun r _ => ?_
  all_goals first
    | refine tEntry_eq _ _ _ _ _ 0 rfl h1 ?_ ?_ ?_ ?_ <;> first | (try simp only [Fin.isValue, Fin.val_zero, Fin.val_one, Fin.val_two, Fin.reduceFinMk, Fin.coe_ofNat_eq_mod]); omega | rfl
    | refine tEntry_eq _ _ _ _ _ 1 rfl h1 ?_ ?_ ?_ ?_ <;> first | (try simp only [Fin.isValue, Fin.val_zero, Fin.val_one, Fin.val_two, Fin.reduceFinMk, Fin.coe_ofNat_eq_mod]); omega | rfl
    | refine tEntry_eq _ _ _ _ _ 2 rfl h1 ?_ ?_ ?_ ?_ <;> first | (try simp only [Fin.isValue, Fin.val_zero, Fin.val_one, Fin.val_two, Fin.reduceFinMk, Fin.coe_ofNat_eq_mod]); omega | rfl

set_option maxHeartbeats 4000000 in
theorem db_step (t : Fin cfg0.N) (h : ¬t.val % 8 = 0) (y : S1x3072.Idx) : (outsAt0 m c t.val t.isLt).2.2.2.2.2.2.2.2.2.2 y
    = (outsAt0 m c (t.val - 1) (Nat.lt_of_le_of_lt (Nat.sub_le _ _) t.isLt)).2.2.2.2.2.2.2.2.2.2 y + tB m c t y := by
  rw [outsAt0_B m c t h]
  frame_out
  idx_vars y
  canon_tiles x h
  all_goals idx_vars x
  all_goals open_payloads
  all_goals pointwise [tB]
  all_goals refine congrArg₂ (· + ·) (at2 _ (congrArg Fin.val (Subsingleton.elim _ _)) h1) (Finset.sum_congr rfl fun r _ => ?_)
  all_goals first
    | refine tEntry_eq _ _ _ _ _ 0 rfl h1 ?_ ?_ ?_ ?_ <;> first | (try simp only [Fin.isValue, Fin.val_zero, Fin.val_one, Fin.val_two, Fin.reduceFinMk, Fin.coe_ofNat_eq_mod]); omega | rfl
    | refine tEntry_eq _ _ _ _ _ 1 rfl h1 ?_ ?_ ?_ ?_ <;> first | (try simp only [Fin.isValue, Fin.val_zero, Fin.val_one, Fin.val_two, Fin.reduceFinMk, Fin.coe_ofNat_eq_mod]); omega | rfl
    | refine tEntry_eq _ _ _ _ _ 2 rfl h1 ?_ ?_ ?_ ?_ <;> first | (try simp only [Fin.isValue, Fin.val_zero, Fin.val_one, Fin.val_two, Fin.reduceFinMk, Fin.coe_ofNat_eq_mod]); omega | rfl

end Cert.GateBack

end
-- ==== Proof.GateBack.Value.lean ====
/- The gradient of the gated merge: what the kernel's grid points add up to. -/
module

public import proofs.«01_k».proof.Proof.GateBack.Gates
public import proofs.«01_k».proof.Proof.GateBack.Rows
public import proofs.«01_k».proof.Proof.GateBack.Weights
public import proofs.«01_k».proof.Proof.GateBack.Bias

@[expose] public section

set_option maxRecDepth 16384

noncomputable section

namespace Cert.GateBack

open Idealize.ShloMosaic Idealize.ShloMosaic.TcCoe Idealize.ShloMosaic.Tactic Idealize.SL.Sem
open Idealize.ShloMosaic.Pipeline (Dat)
open Cert.Gate (gate Y col quarter lane rows rows_at blocks blocks_at wide_at)
open Cert.Kernel17Ideal Cert.Kernel17Ideal.Gen

variable (m : (ℓ : Loc nD τ sig) → Buf (Elt Ideal) ℓ) (c : Dev nD)

/-- The arguments: the combined projection, the bias, the cotangent, the branches' rows and their weights. -/
def aP : FVec Ideal S1x4096x6144 .f32 := m ((c : Thread nD τ).loc main_arg0)
def aB : FVec Ideal S1x3072 .f32 := m ((c : Thread nD τ).loc main_arg1)
def aD : FVec Ideal S1x4096x1024 .f32 := m ((c : Thread nD τ).loc main_arg8)
def aO : Fin 3 → FVec Ideal S1x4096x512 .f32 :=
  ![m ((c : Thread nD τ).loc main_arg2), m ((c : Thread nD τ).loc main_arg3), m ((c : Thread nD τ).loc main_arg4)]
def aW : Fin 3 → FVec Ideal S512x1024 .f32 :=
  ![m ((c : Thread nD τ).loc main_arg5), m ((c : Thread nD τ).loc main_arg6), m ((c : Thread nD τ).loc main_arg7)]

theorem entry0 : V m c main_v0 = shapeCast S4096x6144 (aP m c) shapeCasts_S1x4096x6144_S4096x6144 := by
  unfold_abbrev_sides
  after_results
  rfl
theorem entry2 : V m c main_v2 = rows (aO m c 0) := by
  unfold_abbrev_sides
  after_results
  rfl
theorem entry3 : V m c main_v4 = rows (aO m c 1) := by
  unfold_abbrev_sides
  after_results
  rfl
theorem entry4 : V m c main_v6 = rows (aO m c 2) := by
  unfold_abbrev_sides
  after_results
  rfl
theorem entry5 : V m c main_v9 = blocks (aW m c 0) := by
  unfold_abbrev_sides
  after_results
  rfl
theorem entry6 : V m c main_v12 = blocks (aW m c 1) := by
  unfold_abbrev_sides
  after_results
  rfl
theorem entry7 : V m c main_v15 = blocks (aW m c 2) := by
  unfold_abbrev_sides
  after_results
  rfl
theorem entry8 : V m c main_v16 = shapeCast S4096x1024 (aD m c) shapeCasts_S1x4096x1024_S4096x1024 := by
  unfold_abbrev_sides
  after_results
  rfl

theorem flat_arg_at (d : FVec Ideal S1x4096x1024 .f32) (i : Fin 4096) (j : Fin 1024) :
    shapeCast S4096x1024 d shapeCasts_S1x4096x1024_S4096x1024 (ix2 i j) = d (ix3 0 i j) := by
  pointwise

theorem idx : ∀ t : Fin cfg0.N, win0_0.index t = ![t.val, 1] ∧ win0_1.index t = ![0, 0] ∧ win0_2.index t = ![t.val, 0] ∧ win0_3.index t = ![t.val, 0]
    ∧ win0_4.index t = ![t.val, 0] ∧ win0_5.index t = ![0, 0, 0] ∧ win0_6.index t = ![0, 0, 0] ∧ win0_7.index t = ![0, 0, 0] ∧ win0_8.index t = ![t.val, 0] :=
  (by decide +kernel : ∀ t : Fin grid0.N, _)
theorem idx_out : ∀ t : Fin cfg0.N, win0_9.index t = ![t.val, 0] ∧ win0_10.index t = ![t.val, 0] ∧ win0_11.index t = ![t.val, 0] ∧ win0_12.index t = ![t.val, 0]
    ∧ win0_16.index t = ![0, 0, 0] ∧ win0_17.index t = ![0, 0, 0] ∧ win0_18.index t = ![0, 0, 0] ∧ win0_19.index t = ![0, 0] :=
  (by decide +kernel : ∀ t : Fin grid0.N, _)

theorem row_lt (t : Fin cfg0.N) (r : Fin 512) : t.val * 512 + r.val < 4096 := by
  have hN : t.val < 8 := lt_of_lt_of_eq t.isLt (show cfg0.N = 8 from N_0)
  omega

section
variable (t : Fin cfg0.N) (r : Fin 512) (i : Fin 4096) (hi : i.val = t.val * 512 + r.val)
include hi

theorem gates_at (n : Fin 3072) : iblk m c 0 t (ix2 r n) = aP m c (ix3 0 i (⟨3072 + n.val, by omega⟩ : Fin 6144)) := by
  have i0 := (idx t).1
  refine Eq.trans ?_ ((congrFun (entry0 m c) _).trans (wide_at _ _ _))
  blk_ext [iblk, i0]
theorem cot_at (j : Fin 1024) : iblk m c 8 t (ix2 r j) = aD m c (ix3 0 i j) := by
  have i8 := (idx t).2.2.2.2.2.2.2.2
  refine Eq.trans ?_ ((congrFun (entry8 m c) _).trans (flat_arg_at _ _ _))
  blk_ext [iblk, i8]
theorem rows0_at (k : Fin 512) : iblk m c 2 t (ix2 r k) = aO m c 0 (ix3 0 i k) := by
  obtain ⟨-, -, i2, -⟩ := idx t
  refine Eq.trans ?_ ((congrFun (entry2 m c) _).trans (rows_at _ _ _))
  blk_ext [iblk, i2]
theorem rows1_at (k : Fin 512) : iblk m c 3 t (ix2 r k) = aO m c 1 (ix3 0 i k) := by
  obtain ⟨-, -, -, i3, -⟩ := idx t
  refine Eq.trans ?_ ((congrFun (entry3 m c) _).trans (rows_at _ _ _))
  blk_ext [iblk, i3]
theorem rows2_at (k : Fin 512) : iblk m c 4 t (ix2 r k) = aO m c 2 (ix3 0 i k) := by
  obtain ⟨-, -, -, -, i4, -⟩ := idx t
  refine Eq.trans ?_ ((congrFun (entry4 m c) _).trans (rows_at _ _ _))
  blk_ext [iblk, i4]
theorem oB_at : ∀ (s : Fin 3) (k : Fin 512), oB m c t s (ix2 r k) = aO m c s (ix3 0 i k)
  | 0, k => rows0_at m c t r i hi k
  | 1, k => rows1_at m c t r i hi k
  | 2, k => rows2_at m c t r i hi k
end

section
variable (t : Fin cfg0.N)

theorem bias_at (n : Fin 3072) : iblk m c 1 t (ix2 0 n) = aB m c (ix2 0 n) := by
  have i1 := (idx t).2.1
  unfold aB
  rw [← V_main_arg1 m c]
  blk_ext [iblk, i1]

variable (n : Fin 4) (k : Fin 512) (q : Fin 256)

theorem weights0_at : iblk m c 5 t (ix3 n k q) = aW m c 0 (ix2 k (⟨n.val * 256 + q.val, by omega⟩ : Fin 1024)) := by
  obtain ⟨-, -, -, -, -, i5, -⟩ := idx t
  refine Eq.trans ?_ ((congrFun (entry5 m c) _).trans (blocks_at _ _ _ _))
  blk_ext [iblk, i5]
theorem weights1_at : iblk m c 6 t (ix3 n k q) = aW m c 1 (ix2 k (⟨n.val * 256 + q.val, by omega⟩ : Fin 1024)) := by
  obtain ⟨-, -, -, -, -, -, i6, -⟩ := idx t
  refine Eq.trans ?_ ((congrFun (entry6 m c) _).trans (blocks_at _ _ _ _))
  blk_ext [iblk, i6]
theorem weights2_at : iblk m c 7 t (ix3 n k q) = aW m c 2 (ix2 k (⟨n.val * 256 + q.val, by omega⟩ : Fin 1024)) := by
  obtain ⟨-, -, -, -, -, -, -, i7, -⟩ := idx t
  refine Eq.trans ?_ ((congrFun (entry7 m c) _).trans (blocks_at _ _ _ _))
  blk_ext [iblk, i7]
end

/-- A branch's weights at the block and place of a column. -/
theorem wB_at (t : Fin cfg0.N) (k : Fin 512) (j : Fin 1024) : ∀ s : Fin 3, wB m c t s (ix3 (quarter j) k (lane j)) = aW m c s (ix2 k j) := by
  have e : (⟨(quarter j).val * 256 + (lane j).val, by omega⟩ : Fin 1024) = j := Fin.ext (by unfold quarter lane; dsimp only; omega)
  exact fun
    | 0 => (weights0_at m c t _ k _).trans (congrArg (fun j => aW m c 0 (ix2 k j)) e)
    | 1 => (weights1_at m c t _ k _).trans (congrArg (fun j => aW m c 1 (ix2 k j)) e)
    | 2 => (weights2_at m c t _ k _).trans (congrArg (fun j => aW m c 2 (ix2 k j)) e)

section
variable (t : Fin cfg0.N) (r : Fin 512) (i : Fin 4096) (hi : i.val = t.val * 512 + r.val) (s : Fin 3) (j : Fin 1024)
include hi

theorem tg_at : tg (iblk m c 0 t) (iblk m c 1 t) s r j = gate (aP m c) (aB m c) i (col s j) := by
  unfold tg gate
  rw [gates_at m c t r i hi, bias_at m c t]
theorem tY_at : tY (iblk m c 0 t) (iblk m c 1 t) (iblk m c 8 t) s r j = dY (aP m c) (aB m c) (aD m c) s i j := by
  unfold tY dY
  rw [tg_at m c t r i hi, cot_at m c t r i hi]
theorem tEntry_at (n : Fin 3072) : tEntry (iblk m c 0 t) (iblk m c 1 t) (iblk m c 8 t) (oB m c t) (wB m c t) r n
    = entry (aP m c) (aB m c) (aD m c) (aO m c) (aW m c) i n := by
  unfold tEntry tGate entry dGate Y
  rw [tg_at m c t r i hi, cot_at m c t r i hi]
  have e : ∀ k, oB m c t (owner n) (ix2 r k) * wB m c t (owner n) (ix3 (quarter (within n)) k (lane (within n)))
      = aO m c (owner n) (ix3 0 i k) * aW m c (owner n) (ix2 k (within n)) := fun k => by rw [oB_at m c t r i hi, wB_at]
  rw [Finset.sum_congr rfl fun k _ => e k]
end

theorem final9 : (dats m 0 c).arrAt 9 cfg0.N = dG (aP m c) (aB m c) (aD m c) (aO m c) (aW m c) := by
  refine (dats m 0 c).arrAt_eq_of_covers 9 _ (by decide +kernel) fun t hf y => ?_
  blk_simp
  rw [after0_9]
  idx_vars y
  have i9 := (idx_out t).1
  have e : ((View.whole main_v17_0).slice (win0_9.rect t)).emb (ix2 y0 y1) = ix2 (⟨t.val * 512 + y0.val, row_lt t y0⟩ : Fin 4096) y1 := by
    blk_ext [i9]
  rw [e]
  exact (dg_at m c t y0 y1).trans (tEntry_at m c t y0 _ rfl y1)

theorem sum_dO (t : Fin cfg0.N) (r : Fin 512) (k : Fin 512) (i : Fin 4096) (hi : i.val = t.val * 512 + r.val) (s : Fin 3) :
    tO m c t s r k = dO (aP m c) (aB m c) (aD m c) (aW m c s) s (ix2 i k) := by
  unfold tO dO
  exact Finset.sum_congr rfl fun j _ => by rw [tY_at m c t r i hi, wB_at]; rfl

theorem final10 : (dats m 0 c).arrAt 10 cfg0.N = dO (aP m c) (aB m c) (aD m c) (aW m c 0) 0 := by
  refine (dats m 0 c).arrAt_eq_of_covers 10 _ (by decide +kernel) fun t hf y => ?_
  blk_simp
  rw [after0_10]
  idx_vars y
  have ix := (idx_out t).2.1
  have e : ((View.whole main_v17_1).slice (win0_10.rect t)).emb (ix2 y0 y1) = ix2 (⟨t.val * 512 + y0.val, row_lt t y0⟩ : Fin 4096) y1 := by
    blk_ext [ix]
  rw [e]
  exact (do_at m c t y0 y1).1.trans (sum_dO m c t y0 y1 _ rfl 0)
theorem final11 : (dats m 0 c).arrAt 11 cfg0.N = dO (aP m c) (aB m c) (aD m c) (aW m c 1) 1 := by
  refine (dats m 0 c).arrAt_eq_of_covers 11 _ (by decide +kernel) fun t hf y => ?_
  blk_simp
  rw [after0_11]
  idx_vars y
  have ix := (idx_out t).2.2.1
  have e : ((View.whole main_v17_2).slice (win0_11.rect t)).emb (ix2 y0 y1) = ix2 (⟨t.val * 512 + y0.val, row_lt t y0⟩ : Fin 4096) y1 := by
    blk_ext [ix]
  rw [e]
  exact (do_at m c t y0 y1).2.1.trans (sum_dO m c t y0 y1 _ rfl 1)
theorem final12 : (dats m 0 c).arrAt 12 cfg0.N = dO (aP m c) (aB m c) (aD m c) (aW m c 2) 2 := by
  refine (dats m 0 c).arrAt_eq_of_covers 12 _ (by decide +kernel) fun t hf y => ?_
  blk_simp
  rw [after0_12]
  idx_vars y
  have ix := (idx_out t).2.2.2.1
  have e : ((View.whole main_v17_3).slice (win0_12.rect t)).emb (ix2 y0 y1) = ix2 (⟨t.val * 512 + y0.val, row_lt t y0⟩ : Fin 4096) y1 := by
    blk_ext [ix]
  rw [e]
  exact (do_at m c t y0 y1).2.2.trans (sum_dO m c t y0 y1 _ rfl 2)

/-- The row of the whole at a row of a run's grid point. -/
theorem run_row (t : Fin cfg0.N) (h : t.val % 8 = 7) (s : Fin 8) (r : Fin 512) : s.val * 512 + r.val = (8 * (t.val / 8) + s.val) * 512 + r.val := by
  have hN : t.val < 8 := lt_of_lt_of_eq t.isLt (show cfg0.N = 8 from N_0)
  omega

theorem sum_dW (t : Fin cfg0.N) (h : t.val % 8 = 7) (s : Fin 3) (y : S4x512x256.Idx) :
    ∑ u : Fin 8, tW m c ⟨8 * (t.val / 8) + u.val, Pipeline.run_point_lt_of_flush t h u⟩ s y = dW (aP m c) (aB m c) (aD m c) (aO m c s) s y := by
  unfold tW dW
  refine Fin.sum_mul_add_congr fun u r hl => ?_
  exact congrArg₂ (· * ·) (oB_at m c _ r _ (run_row t h u r) s (y 1)) (tY_at m c _ r _ (run_row t h u r) s _)

theorem sum_dB (t : Fin cfg0.N) (h : t.val % 8 = 7) (y : S1x3072.Idx) :
    ∑ u : Fin 8, tB m c ⟨8 * (t.val / 8) + u.val, Pipeline.run_point_lt_of_flush t h u⟩ y = dB (aP m c) (aB m c) (aD m c) (aO m c) (aW m c) y := by
  unfold tB dB
  refine Fin.sum_mul_add_congr fun u r hl => ?_
  exact tEntry_at m c _ r _ (run_row t h u r) (y 1)

theorem final16 : (dats m 0 c).arrAt 16 cfg0.N = dW (aP m c) (aB m c) (aD m c) (aO m c 0) 0 := by
  refine (dats m 0 c).arrAt_eq_of_covers 16 _ (by decide +kernel) fun t hf y => ?_
  have h := (flush0_16 t).mp hf
  blk_simp
  rw [after0_16]
  rw [Pipeline.eq_sum_fin_of_reset_step_apply_of_flush (fun n h => (outsAt0 m c n h).2.2.2.2.2.2.2.1) 8 (fun _ => 0) (fun t => tW m c t 0)
    (fun t h y => (dw_reset m c t h y).1) (fun t h y => (dw_step m c t h y).1) t h y]
  have ix := (idx_out t).2.2.2.2.1
  have e : ((View.whole main_v17_7).slice (win0_16.rect t)).emb y = y := by
    idx_vars y
    blk_ext [ix]
  rw [e, zero_add]
  exact sum_dW m c t h 0 y
theorem final17 : (dats m 0 c).arrAt 17 cfg0.N = dW (aP m c) (aB m c) (aD m c) (aO m c 1) 1 := by
  refine (dats m 0 c).arrAt_eq_of_covers 17 _ (by decide +kernel) fun t hf y => ?_
  have h := (flush0_17 t).mp hf
  blk_simp
  rw [after0_17]
  rw [Pipeline.eq_sum_fin_of_reset_step_apply_of_flush (fun n h => (outsAt0 m c n h).2.2.2.2.2.2.2.2.1) 8 (fun _ => 0) (fun t => tW m c t 1)
    (fun t h y => (dw_reset m c t h y).2.1) (fun t h y => (dw_step m c t h y).2.1) t h y]
  have ix := (idx_out t).2.2.2.2.2.1
  have e : ((View.whole main_v17_8).slice (win0_17.rect t)).emb y = y := by
    idx_vars y
    blk_ext [ix]
  rw [e, zero_add]
  exact sum_dW m c t h 1 y
theorem final18 : (dats m 0 c).arrAt 18 cfg0.N = dW (aP m c) (aB m c) (aD m c) (aO m c 2) 2 := by
  refine (dats m 0 c).arrAt_eq_of_covers 18 _ (by decide +kernel) fun t hf y => ?_
  have h := (flush0_18 t).mp hf
  blk_simp
  rw [after0_18]
  rw [Pipeline.eq_sum_fin_of_reset_step_apply_of_flush (fun n h => (outsAt0 m c n h).2.2.2.2.2.2.2.2.2.1) 8 (fun _ => 0) (fun t => tW m c t 2)
    (fun t h y => (dw_reset m c t h y).2.2) (fun t h y => (dw_step m c t h y).2.2) t h y]
  have ix := (idx_out t).2.2.2.2.2.2.1
  have e : ((View.whole main_v17_9).slice (win0_18.rect t)).emb y = y := by
    idx_vars y
    blk_ext [ix]
  rw [e, zero_add]
  exact sum_dW m c t h 2 y

theorem final19 : (dats m 0 c).arrAt 19 cfg0.N = dB (aP m c) (aB m c) (aD m c) (aO m c) (aW m c) := by
  refine (dats m 0 c).arrAt_eq_of_covers 19 _ (by decide +kernel) fun t hf y => ?_
  have h := (flush0_19 t).mp hf
  blk_simp
  rw [after0_19]
  rw [Pipeline.eq_sum_fin_of_reset_step_apply_of_flush (fun n h => (outsAt0 m c n h).2.2.2.2.2.2.2.2.2.2) 8 (fun _ => 0) (tB m c)
    (db_reset m c) (db_step m c) t h y]
  have ix := (idx_out t).2.2.2.2.2.2.2
  have e : ((View.whole main_v17_10).slice (win0_19.rect t)).emb y = y := by
    idx_vars y
    blk_ext [ix]
  rw [e, zero_add]
  exact sum_dB m c t h y

end Cert.GateBack

end
-- ==== Proof.GateBack.Claim.lean ====
/- The gradient of the gated merge: the kernel and the plain reference end with the same arrays. -/
module

public import proofs.«01_k».proof.Defs
public import proofs.«01_k».proof.Proof.Gen.Kernel17Ideal.Value
public import proofs.«01_k».proof.Proof.GateBack.Value

@[expose] public section

set_option maxRecDepth 16384

noncomputable section

namespace Cert.GateBack

open Idealize.ShloMosaic Idealize.ShloMosaic.TcCoe Idealize.ShloMosaic.Tactic Idealize.SL.Sem
open Cert.Gate (gate col)

attribute [local instance] Cert.Kernel17Ideal.Gen.facts Cert.Reference17Ideal.Gen.facts Cert.Reference16Ideal.Gen.facts

theorem frame_reference : Cert.quiescent_Reference17Ideal := fun m ρ _ =>
  (θ_run Cert.Reference17Ideal.defs _ _).mono (fun r h => ⟨fun c => (h c).2.2.2.2.2.2.2.2, Idealize.ShloMosaic.sem_eq_zero_of_no_sems (by decide) r.2⟩)
    (Cert.Reference17Ideal.Value.run (F := Ideal) m ρ)

set_option maxHeartbeats 4000000 in
open Cert.Kernel17Ideal in
theorem algebraic : Cert.algebraic_Kernel17Ideal_Reference17Ideal := by
  intro m ρ m' ρ' _ hin
  refine ⟨fun c => dG (aP m c) (aB m c) (aD m c) (aO m c) (aW m c), fun c => dO (aP m c) (aB m c) (aD m c) (aW m c 0) 0,
    fun c => dO (aP m c) (aB m c) (aD m c) (aW m c 1) 1, fun c => dO (aP m c) (aB m c) (aD m c) (aW m c 2) 2,
    fun c => dW (aP m c) (aB m c) (aD m c) (aO m c 0) 0, fun c => dW (aP m c) (aB m c) (aD m c) (aO m c 1) 1,
    fun c => dW (aP m c) (aB m c) (aD m c) (aO m c 2) 2, fun c => dB (aP m c) (aB m c) (aD m c) (aO m c) (aW m c), ?_, ?_⟩
  · refine (θ_run defs _ _).mono (fun r h c => ?_) (Cert.Kernel17Ideal.Value.run_blocks m ρ)
    obtain ⟨e0, e1, e2, e3, -, -, -, e4, e5, e6, e7, rest⟩ := h c
    exact ⟨e0.trans (final9 m c), e1.trans (final10 m c), e2.trans (final11 m c), e3.trans (final12 m c), e4.trans (final16 m c), e5.trans (final17 m c),
      e6.trans (final18 m c), e7.trans (final19 m c), rest⟩
  · refine (θ_run Cert.Reference17Ideal.defs _ _).mono (fun r h c => ?_) (Cert.Reference17Ideal.Value.run m' ρ')
    obtain ⟨e0, e1, e2, e3, e4, e5, e6, e7, rest⟩ := h c
    obtain ⟨i0, i1, i2, i3, i4, i5, i6, i7, i8⟩ := hin c
    have g0 : ∀ i j, _ = gate (aP m c) (aB m c) i (col 0 j) := fun i j => (Cert.Gate.cut0 (Cert.Gate.rGate (aP m c) (aB m c)) i j).trans (Cert.Gate.rGate_at _ _ _ _)
    have g1 : ∀ i j, _ = gate (aP m c) (aB m c) i (col 1 j) := fun i j => (Cert.Gate.cut1 (Cert.Gate.rGate (aP m c) (aB m c)) i j).trans (Cert.Gate.rGate_at _ _ _ _)
    have g2 : ∀ i j, _ = gate (aP m c) (aB m c) i (col 2 j) := fun i j => (Cert.Gate.cut2 (Cert.Gate.rGate (aP m c) (aB m c)) i j).trans (Cert.Gate.rGate_at _ _ _ _)
    rw [i0, i1, i2, i3, i4, i5, i6, i7, i8] at e0 e7
    rw [i0, i1, i5, i8] at e1
    rw [i0, i1, i6, i8] at e2
    rw [i0, i1, i7, i8] at e3
    rw [i0, i1, i2, i8] at e4
    rw [i0, i1, i3, i8] at e5
    rw [i0, i1, i4, i8] at e6
    exact ⟨e0.trans (ref_dG (aP m c) (aB m c) (aD m c) (aO m c) (aW m c)), e1.trans (ref_dO (aP m c) (aB m c) (aD m c) _ 0 g0 (aW m c 0)),
      e2.trans (ref_dO (aP m c) (aB m c) (aD m c) _ 1 g1 (aW m c 1)), e3.trans (ref_dO (aP m c) (aB m c) (aD m c) _ 2 g2 (aW m c 2)),
      e4.trans (ref_dW (aP m c) (aB m c) (aD m c) _ 0 g0 (aO m c 0)), e5.trans (ref_dW (aP m c) (aB m c) (aD m c) _ 1 g1 (aO m c 1)),
      e6.trans (ref_dW (aP m c) (aB m c) (aD m c) _ 2 g2 (aO m c 2)), e7.trans (ref_dB (aP m c) (aB m c) (aD m c) (aO m c) (aW m c)), rest⟩

end Cert.GateBack

end
-- ==== Proof.Norm.Value.lean ====
/- The norm's forward pass: a block of rows at a time. -/
module

public import proofs.«01_k».proof.Proof.Rms.Row
public import proofs.«01_k».proof.Proof.DwOut.Value
public import proofs.«01_k».proof.Proof.Gen.Kernel18Ideal.Frame

@[expose] public section

set_option maxRecDepth 16384

noncomputable section

namespace Cert.Norm

open Idealize.ShloMosaic Idealize.ShloMosaic.TcCoe Idealize.ShloMosaic.Tactic Idealize.SL.Sem
open Idealize.ShloMosaic.Pipeline (Dat)
open Cert.Kernel18Ideal Cert.Kernel18Ideal.Gen

/-- A row over the root of its mean square, times the gain. -/
def N (x : FVec Ideal S1x4096x1024 .f32) (g : FVec Ideal S1x1024 .f32) : FVec Ideal S4096x1024 .bf16 := fun y =>
  x (ix3 0 (y 0) (y 1)) * Ideal.rsqrt (Rms.ms fun k : Fin 1024 => x (ix3 0 (y 0) k)) * g (ix2 0 (y 1))

theorem block_at (x : FVec Ideal S1024x1024 .f32) (g : FVec Ideal S1x1024 .f32) (r n : Fin 1024) :
    k0_pay1 (F := Ideal) x g (ix2 r n) = x (ix2 r n) * Ideal.rsqrt (Rms.ms fun k : Fin 1024 => x (ix2 r k)) * g (ix2 0 n) := by
  pointwise [k0_pay1, Rms.ms]

variable (m : (ℓ : Loc nD τ sig) → Buf (Elt Ideal) ℓ) (c : Dev nD)

theorem entry0 : V m c main_v0 = shapeCast S4096x1024 (m ((c : Thread nD τ).loc main_arg0)) shapeCasts_S1x4096x1024_S4096x1024 := by
  unfold_abbrev_sides
  after_results
  rfl

theorem idx : ∀ t : Fin cfg0.N, win0_0.index t = ![t.val, 0] ∧ win0_1.index t = ![0, 0] ∧ win0_2.index t = ![t.val, 0] :=
  (by decide +kernel : ∀ t : Fin grid0.N, _)

theorem x_at (t : Fin cfg0.N) (r n : Fin 1024) (hr : t.val * 1024 + r.val < 4096) :
    iblk m c 0 t (ix2 r n) = m ((c : Thread nD τ).loc main_arg0) (ix3 0 (⟨t.val * 1024 + r.val, hr⟩ : Fin 4096) n) := by
  have i0 := (idx t).1
  refine Eq.trans ?_ ((congrFun (entry0 m c) _).trans (Cert.DwOut.rows_at _ _ n))
  blk_ext [iblk, i0]

theorem g_at (t : Fin cfg0.N) (n : Fin 1024) : iblk m c 1 t (ix2 0 n) = m ((c : Thread nD τ).loc main_arg1) (ix2 0 n) := by
  have i1 := (idx t).2.1
  rw [← V_main_arg1 m c]
  blk_ext [iblk, i1]

theorem final : (dats m 0 c).arrAt 2 cfg0.N = N (m ((c : Thread nD τ).loc main_arg0)) (m ((c : Thread nD τ).loc main_arg1)) := by
  refine (dats m 0 c).arrAt_eq_of_covers 2 _ (by decide +kernel) fun t hf y => ?_
  have hN : t.val < 4 := lt_of_lt_of_eq t.isLt (show cfg0.N = 4 from N_0)
  blk_simp
  rw [after0_2]
  frame_out
  idx_vars y
  have i2 := (idx t).2.2
  have e : ((View.whole main_v1).slice (win0_2.rect t)).emb (ix2 y0 y1) = ix2 (⟨t.val * 1024 + y0.val, by omega⟩ : Fin 4096) y1 := by
    blk_ext [i2]
  rw [e]
  refine (block_at _ _ _ _).trans ?_
  simp only [x_at m c t _ _ (show t.val * 1024 + y0.val < 4096 by omega), g_at m c t]
  rfl

end Cert.Norm

end
-- ==== Proof.Norm.Claim.lean ====
/- The norm's forward pass: the kernel and the plain reference end with the same array. -/
module

public import proofs.«01_k».proof.Defs
public import proofs.«01_k».proof.Proof.Gen.Kernel18Ideal.Value
public import proofs.«01_k».proof.Proof.Gen.Reference18Ideal.Run
public import proofs.«01_k».proof.Proof.Rms.Ref
public import proofs.«01_k».proof.Proof.Norm.Value

@[expose] public section

set_option maxRecDepth 16384

noncomputable section

namespace Cert.Norm

open Idealize.ShloMosaic Idealize.ShloMosaic.TcCoe Idealize.ShloMosaic.Tactic Idealize.SL.Sem

attribute [local instance] Cert.Kernel18Ideal.Gen.facts Cert.Reference18Ideal.Gen.facts Cert.Reference12Ideal.Gen.facts

section
open Cert.Reference18Ideal Cert.Reference18Ideal.Gen

theorem ref_eq (x : FVec Ideal S1x4096x1024 .f32) (g : FVec Ideal S1x1024 .f32) :
    truncf .bf16 (mulf (mulf (shapeCast S4096x1024 x shapeCasts_S1x4096x1024_S4096x1024) (broadcastInDim S4096x1024 ![0, 1] bcast_S4096x1_S4096x1024_0_1
        (Host.rsqrt (Rms.rMs (shapeCast S4096x1024 x shapeCasts_S1x4096x1024_S4096x1024)))))
      (broadcastInDim S4096x1024 ![0, 1] bcast_S1x1024_S4096x1024_0_1 (broadcastInDim S1x1024 ![1] bcast_S1024_S1x1024_1 (shapeCast S1024 g shapeCasts_S1x1024_S1024)))) bitsLt_bf16_f32
      = N x g := by
  funext y
  idx_vars y
  have e : ∀ i n, shapeCast S4096x1024 x shapeCasts_S1x4096x1024_S4096x1024 (ix2 i n) = x (ix3 0 i n) := fun i n => Cert.DwOut.rows_at x i n
  pointwise [Rms.rMs_at, e]
  rfl

end

theorem frame_reference : Cert.quiescent_Reference18Ideal := fun m ρ _ =>
  (θ_run Cert.Reference18Ideal.defs _ _).mono (fun r h => ⟨fun c => (h c).2, Idealize.ShloMosaic.sem_eq_zero_of_no_sems (by decide) r.2⟩)
    (Cert.Reference18Ideal.Value.run (F := Ideal) m ρ)

open Cert.Kernel18Ideal in
theorem algebraic : Cert.algebraic_Kernel18Ideal_Reference18Ideal := by
  intro m ρ m' ρ' _ hin
  refine ⟨fun c => N (m ((c.tc : Thread nD τ).loc main_arg0)) (m ((c.tc : Thread nD τ).loc main_arg1)), ?_, ?_⟩
  · exact (θ_run defs _ _).mono (fun r h c => ⟨(h c).1.trans (final m c), (h c).2⟩) (Cert.Kernel18Ideal.Value.run_blocks m ρ)
  · refine (θ_run Cert.Reference18Ideal.defs _ _).mono (fun r h c => ?_) (Cert.Reference18Ideal.Value.run m' ρ')
    obtain ⟨e, rest⟩ := h c
    obtain ⟨i0, i1⟩ := hin c
    rw [i0, i1] at e
    exact ⟨e.trans (ref_eq _ _), rest⟩

end Cert.Norm

end
-- ==== Proof.lean ====
module

public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Pre_all_finite
public import proofs.«01_k».proof.Proof.Mem.Claim
public import proofs.«01_k».proof.Proof.Hid.Claim
public import proofs.«01_k».proof.Proof.Down.Claim
public import proofs.«01_k».proof.Proof.Up.Claim
public import proofs.«01_k».proof.Proof.Heads.Claim
public import proofs.«01_k».proof.Proof.Act.Claim
public import proofs.«01_k».proof.Proof.DhLo.Claim
public import proofs.«01_k».proof.Proof.DwOut.Claim
public import proofs.«01_k».proof.Proof.DMerged.Claim
public import proofs.«01_k».proof.Proof.Proj.Claim
public import proofs.«01_k».proof.Proof.Dhm.Claim
public import proofs.«01_k».proof.Proof.DhGl.Claim
public import proofs.«01_k».proof.Proof.OutProj.Claim
public import proofs.«01_k».proof.Proof.Loss.Claim
public import proofs.«01_k».proof.Proof.Gate.Claim
public import proofs.«01_k».proof.Proof.GateBack.Claim
public import proofs.«01_k».proof.Proof.Norm.Claim
public import Idealize.ShloMosaic.Adequacy
public import Idealize.ShloMosaic.Init

@[expose] public section

noncomputable section

namespace Cert.Proof

open Idealize.ShloMosaic Idealize.SL.Sem

/-- The memory attention's reference terminates and leaves its arguments unchanged; it has no semaphores. -/
theorem frame_reference2 : Cert.quiescent_Reference2Ideal (hReference2Ideal := Cert.Reference2Ideal.Gen.facts) := fun m ρ _ =>
  (θ_run Cert.Reference2Ideal.defs _ _).mono
    (fun r h => ⟨fun c => (h c).2.2.2.2, Idealize.ShloMosaic.sem_eq_zero_of_no_sems (by decide) r.2⟩)
    (Cert.Reference2Ideal.Value.run (F := Ideal) m ρ)

theorem claim : Cert.Claim := ⟨Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel15.Gen.facts, Cert.Kernel15Ideal.Gen.facts, Cert.Reference15Ideal.Gen.facts,
  Cert.Kernel14.Gen.facts, Cert.Kernel14Ideal.Gen.facts, Cert.Reference14Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Pre_all_finite.Gen.facts,
  fun m ρ _ => Cert.Kernel2.Gen.frame m ρ, fun m ρ _ => Cert.Kernel2Ideal.Gen.frame m ρ, fun m ρ _ => Cert.Kernel2Ideal.Gen.frame m ρ,
  frame_reference2, fun m ρ _ => frame_reference2 m ρ trivial,
  fun m ρ _ => Cert.Kernel3.Gen.frame m ρ, fun m ρ _ => Cert.Kernel3Ideal.Gen.frame m ρ, Cert.Hid.frame_reference,
  fun m ρ _ => Cert.Kernel4.Gen.frame m ρ, fun m ρ _ => Cert.Kernel4Ideal.Gen.frame m ρ, Cert.Down.frame_reference,
  fun m ρ _ => Cert.Kernel5.Gen.frame m ρ, fun m ρ _ => Cert.Kernel5Ideal.Gen.frame m ρ, Cert.Up.frame_reference,
  fun m ρ _ => Cert.Kernel6.Gen.frame m ρ, fun m ρ _ => Cert.Kernel6Ideal.Gen.frame m ρ, Cert.Heads.frame_reference,
  fun m ρ _ => Cert.Kernel7.Gen.frame m ρ, fun m ρ _ => Cert.Kernel7Ideal.Gen.frame m ρ, Cert.Act.frame_reference,
  fun m ρ _ => Cert.Kernel8.Gen.frame m ρ, fun m ρ _ => Cert.Kernel8Ideal.Gen.frame m ρ, Cert.DhLo.frame_reference,
  fun m ρ _ => Cert.Kernel9.Gen.frame m ρ, fun m ρ _ => Cert.Kernel9Ideal.Gen.frame m ρ, Cert.DwOut.frame_reference,
  fun m ρ _ => Cert.Kernel10.Gen.frame m ρ, fun m ρ _ => Cert.Kernel10Ideal.Gen.frame m ρ, Cert.DMerged.frame_reference,
  fun m ρ _ => Cert.Kernel11.Gen.frame m ρ, fun m ρ _ => Cert.Kernel11Ideal.Gen.frame m ρ, Cert.Proj.frame_reference,
  fun m ρ _ => Cert.Kernel12.Gen.frame m ρ, fun m ρ _ => Cert.Kernel12Ideal.Gen.frame m ρ, Cert.Dhm.frame_reference,
  fun m ρ _ => Cert.Kernel13.Gen.frame m ρ, fun m ρ _ => Cert.Kernel13Ideal.Gen.frame m ρ, Cert.DhGl.frame_reference,
  fun m ρ _ => Cert.Kernel15.Gen.frame m ρ, fun m ρ _ => Cert.Kernel15Ideal.Gen.frame m ρ, Cert.OutProj.frame_reference,
  fun m ρ _ => Cert.Kernel14.Gen.frame m ρ, fun m ρ _ => Cert.Kernel14Ideal.Gen.frame m ρ, Cert.Loss.frame_reference,
  fun m ρ _ => Cert.Kernel16.Gen.frame m ρ, fun m ρ _ => Cert.Kernel16Ideal.Gen.frame m ρ, Cert.Gate.frame_reference,
  fun m ρ _ => Cert.Kernel17.Gen.frame m ρ, fun m ρ _ => Cert.Kernel17Ideal.Gen.frame m ρ, Cert.GateBack.frame_reference,
  fun m ρ _ => Cert.Kernel18.Gen.frame m ρ, fun m ρ _ => Cert.Kernel18Ideal.Gen.frame m ρ, Cert.Norm.frame_reference,
  trivial, Cert.Mem.algebraic,
  trivial, Cert.Hid.algebraic,
  trivial, Cert.Down.algebraic,
  trivial, Cert.Up.algebraic,
  trivial, Cert.Heads.algebraic,
  trivial, Cert.Act.algebraic,
  trivial, Cert.DhLo.algebraic,
  trivial, Cert.DwOut.algebraic,
  trivial, Cert.DMerged.algebraic,
  trivial, Cert.Proj.algebraic,
  trivial, Cert.Dhm.algebraic,
  trivial, Cert.DhGl.algebraic,
  trivial, Cert.OutProj.algebraic,
  trivial, Cert.Loss.algebraic,
  trivial, Cert.Gate.algebraic,
  trivial, Cert.GateBack.algebraic,
  trivial, Cert.Norm.algebraic⟩

end Cert.Proof

end
